-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "neg_log2e" .f32 0xBFB8AA3B#32 (((-1) * (Real.log 2)⁻¹ : ℝ) : EReal)

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "neg_log2e" .f32 0xBFB8AA3B#32 (((-1) * (Real.log 2)⁻¹ : ℝ) : EReal)

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ preserves_Kernel_KernelIdeal
    ∧ preserves_Reference_ReferenceIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
-- ==== Pre_finite_qk.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)

variable [Facts]

def fn {F : FTy → Type} [FloatOps F] (main_arg0 : FVec F S8x2048x1024 .f32) (main_arg1 : FVec F S8x2048x1024 .f32) (main_arg2 : FVec F S8x2048x1024 .f32) (main_arg3 : FVec F S8x2048x1024 .f32) : IVec S8x2048x1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x2048x1024 .f32 := Host.absf main_arg1
  let main_cst_0 : FVec F S_ .f32 := constant S_ .f32 0x7F800000#32
  let main_v4 : FVec F S8x2048x1024 .f32 := broadcastInDim S8x2048x1024 ![] bcast_S_S8x2048x1024 main_cst_0
  let main_v5 : IVec S8x2048x1024 1 := cmpf .olt main_v3 main_v4
  let main_v6 : IVec S8x2048x1024 1 := andi main_v2 main_v5
  main_v6
-- ==== Kernel.lean ====
abbrev S8x2048x1024 : Shape := ⟨3, ![8, 2048, 1024]⟩
abbrev S_ : Shape := ⟨0, ![]⟩
abbrev S16384x1024 : Shape := ⟨2, ![16384, 1024]⟩
abbrev S16384x2048 : Shape := ⟨2, ![16384, 2048]⟩
abbrev S16384x512 : Shape := ⟨2, ![16384, 512]⟩
abbrev S16384x6656 : Shape := ⟨2, ![16384, 6656]⟩
abbrev S16x2048 : Shape := ⟨2, ![16, 2048]⟩
abbrev S2048x128 : Shape := ⟨2, ![2048, 128]⟩
abbrev S256x256 : Shape := ⟨2, ![256, 256]⟩
abbrev S16x128 : Shape := ⟨2, ![16, 128]⟩
abbrev S8x256 : Shape := ⟨2, ![8, 256]⟩
abbrev S256x128 : Shape := ⟨2, ![256, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S512x256 : Shape := ⟨2, ![512, 256]⟩
abbrev S768x128 : Shape := ⟨2, ![768, 128]⟩
abbrev S256x768 : Shape := ⟨2, ![256, 768]⟩
abbrev S768x256 : Shape := ⟨2, ![768, 256]⟩
abbrev S16x256 : Shape := ⟨2, ![16, 256]⟩
abbrev S120x256 : Shape := ⟨2, ![120, 256]⟩
abbrev S128x256 : Shape := ⟨2, ![128, 256]⟩
abbrev S1024x128 : Shape := ⟨2, ![1024, 128]⟩
abbrev S1024x256 : Shape := ⟨2, ![1024, 256]⟩
abbrev S256x1024 : Shape := ⟨2, ![256, 1024]⟩
abbrev S1280x128 : Shape := ⟨2, ![1280, 128]⟩
abbrev S1280x256 : Shape := ⟨2, ![1280, 256]⟩
abbrev S256x1280 : Shape := ⟨2, ![256, 1280]⟩
abbrev S1536x128 : Shape := ⟨2, ![1536, 128]⟩
abbrev S1536x256 : Shape := ⟨2, ![1536, 256]⟩
abbrev S256x1536 : Shape := ⟨2, ![256, 1536]⟩
abbrev S1792x128 : Shape := ⟨2, ![1792, 128]⟩
abbrev S1792x256 : Shape := ⟨2, ![1792, 256]⟩
abbrev S256x1792 : Shape := ⟨2, ![256, 1792]⟩
abbrev S256x2048 : Shape := ⟨2, ![256, 2048]⟩
abbrev S2048x256 : Shape := ⟨2, ![2048, 256]⟩

abbrev nBuf : Space → Nat
  | .hbm => 67
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x1024, .bf16⟩
  | .hbm, ⟨24, _⟩ => ⟨S16384x1024, .f32⟩
  | .hbm, ⟨25, _⟩ => ⟨S16384x1024, .bf16⟩
  | .hbm, ⟨26, _⟩ => ⟨S16384x1024, .f32⟩
  | .hbm, ⟨27, _⟩ => ⟨S16384x1024, .bf16⟩
  | .hbm, ⟨28, _⟩ => ⟨S_, .bf16⟩
  | .hbm, ⟨29, _⟩ => ⟨S16384x2048, .bf16⟩
  | .hbm, ⟨30, _⟩ => ⟨S_, .bf16⟩
  | .hbm, ⟨31, _⟩ => ⟨S16384x512, .bf16⟩
  | .hbm, ⟨32, _⟩ => ⟨S16384x6656, .bf16⟩
  | .hbm, ⟨33, _⟩ => ⟨S16x2048, .i32⟩
  | .hbm, ⟨34, _⟩ => ⟨S16x2048, .i32⟩
  | .hbm, ⟨35, _⟩ => ⟨S_, .i32⟩
  | .hbm, ⟨36, _⟩ => ⟨S16x2048, .i32⟩
  | .hbm, ⟨37, _⟩ => ⟨S16x2048, .i32⟩
  | .hbm, ⟨38, _⟩ => ⟨S16x2048, .i1⟩
  | .hbm, ⟨39, _⟩ => ⟨S_, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S16x2048, .f32⟩
  | .hbm, ⟨44, _⟩ => ⟨S16x2048, .bf16⟩
  | .hbm, ⟨45, _⟩ => ⟨S2048x128, .i32⟩
  | .hbm, ⟨46, _⟩ => ⟨S_, .i32⟩
  | .hbm, ⟨47, _⟩ => ⟨S2048x128, .i32⟩
  | .hbm, ⟨48, _⟩ => ⟨S2048x128, .i32⟩
  | .hbm, ⟨49, _⟩ => ⟨S2048x128, .i32⟩
  | .hbm, ⟨50, _⟩ => ⟨S2048x128, .i1⟩
  | .hbm, ⟨51, _⟩ => ⟨S_, .f32⟩
  | .hbm, ⟨52, _⟩ => ⟨S_, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S2048x128, .bf16⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S_, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .bf16⟩
  | .hbm, ⟨66, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S16x2048, .bf16⟩
  | .local _ .vmem, ⟨9, _⟩ => ⟨S2048x128, .bf16⟩
  | .local _ .vmem, ⟨10, _⟩ => ⟨S256x256, .bf16⟩
  | .local _ .vmem, ⟨11, _⟩ => ⟨S2048x128, .bf16⟩
  | .local _ .vmem, ⟨12, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== Reference.lean ====
abbrev S8x2048x1024 : Shape := ⟨3, ![8, 2048, 1024]⟩
abbrev S8x8x256x8x128 : Shape := ⟨5, ![8, 8, 256, 8, 128]⟩
abbrev S8x8x8x256x128 : Shape := ⟨5, ![8, 8, 8, 256, 128]⟩
abbrev S_ : Shape := ⟨0, ![]⟩
abbrev S8x8x8x128 : Shape := ⟨4, ![8, 8, 8, 128]⟩
abbrev S8x8x8x256x8 : Shape := ⟨5, ![8, 8, 8, 256, 8]⟩
abbrev S8x8x8x256x3 : Shape := ⟨5, ![8, 8, 8, 256, 3]⟩
abbrev S8x8x8x256x3x1 : Shape := ⟨6, ![8, 8, 8, 256, 3, 1]⟩
abbrev S8x8x8x256x3x3 : Shape := ⟨6, ![8, 8, 8, 256, 3, 3]⟩
abbrev S8x8x8x256x3x256x128 : Shape := ⟨7, ![8, 8, 8, 256, 3, 256, 128]⟩
abbrev S8x8x8x256x3x256 : Shape := ⟨6, ![8, 8, 8, 256, 3, 256]⟩
abbrev S8x8x8x256x256 : Shape := ⟨5, ![8, 8, 8, 256, 256]⟩
abbrev S256x256 : Shape := ⟨2, ![256, 256]⟩
abbrev S8x8x8x256x768 : Shape := ⟨5, ![8, 8, 8, 256, 768]⟩
abbrev S8x8x8x256x1024 : Shape := ⟨5, ![8, 8, 8, 256, 1024]⟩
abbrev S8x8x8x256 : Shape := ⟨4, ![8, 8, 8, 256]⟩
abbrev S8x8x8x256x1 : Shape := ⟨5, ![8, 8, 8, 256, 1]⟩
abbrev S16384x1024 : Shape := ⟨2, ![16384, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x8x256x8x128, .f32⟩
  | .hbm, ⟨5, _⟩ => ⟨S8x8x8x256x128, .f32⟩
  | .hbm, ⟨6, _⟩ => ⟨S8x8x256x8x128, .f32⟩
  | .hbm, ⟨7, _⟩ => ⟨S8x8x8x256x128, .f32⟩
  | .hbm, ⟨8, _⟩ => ⟨S8x8x256x8x128, .f32⟩
  | .hbm, ⟨9, _⟩ => ⟨S8x8x8x256x128, .f32⟩
  | .hbm, ⟨10, _⟩ => ⟨S_, .f32⟩
  | .hbm, ⟨11, _⟩ => ⟨S8x8x8x128, .f32⟩
  | .hbm, ⟨12, _⟩ => ⟨S_, .f32⟩
  | .hbm, ⟨13, _⟩ => ⟨S8x8x8x128, .f32⟩
  | .hbm, ⟨14, _⟩ => ⟨S8x8x8x128, .f32⟩
  | .hbm, ⟨15, _⟩ => ⟨S8x8x8x256x8, .f32⟩
  | .hbm, ⟨16, _⟩ => ⟨S8x8x8x256x8, .i32⟩
  | .hbm, ⟨17, _⟩ => ⟨S8x8x8x256x8, .i32⟩
  | .hbm, ⟨18, _⟩ => ⟨S8x8x8x256x8, .i1⟩
  | .hbm, ⟨19, _⟩ => ⟨S_, .f32⟩
  | .hbm, ⟨20, _⟩ => ⟨S_, .f32⟩
  | .hbm, ⟨21, _⟩ => ⟨S8x8x8x256x8, .f32⟩
  | .hbm, ⟨22, _⟩ => ⟨S8x8x8x256x8, .f32⟩
  | .hbm, ⟨23, _⟩ => ⟨S8x8x8x256x3, .f32⟩
  | .hbm, ⟨24, _⟩ => ⟨S8x8x8x256x3, .i32⟩
  | .hbm, ⟨25, _⟩ => ⟨S8x8x8x256x3, .i32⟩
  | .hbm, ⟨26, _⟩ => ⟨S8x8x8x256x3, .i1⟩
  | .hbm, ⟨27, _⟩ => ⟨S8x8x8x256x3, .i32⟩
  | .hbm, ⟨28, _⟩ => ⟨S8x8x8x256x3, .i32⟩
  | .hbm, ⟨29, _⟩ => ⟨S8x8x8x256x3x1, .i32⟩
  | .hbm, ⟨30, _⟩ => ⟨S8x8x8x256x3x1, .i32⟩
  | .hbm, ⟨31, _⟩ => ⟨S8x8x8x256x3x1, .i32⟩
  | .hbm, ⟨32, _⟩ => ⟨S8x8x8x256x3x3, .i32⟩
  | .hbm, ⟨33, _⟩ => ⟨S8x8x8x256x3x256x128, .f32⟩
  | .hbm, ⟨34, _⟩ => ⟨S8x8x8x256x3x1, .i32⟩
  | .hbm, ⟨35, _⟩ => ⟨S8x8x8x256x3x1, .i32⟩
  | .hbm, ⟨36, _⟩ => ⟨S8x8x8x256x3x1, .i32⟩
  | .hbm, ⟨37, _⟩ => ⟨S8x8x8x256x3x3, .i32⟩
  | .hbm, ⟨38, _⟩ => ⟨S8x8x8x256x3x256x128, .f32⟩
  | .hbm, ⟨39, _⟩ => ⟨S8x8x8x256x3x256, .f32⟩
  | .hbm, ⟨40, _⟩ => ⟨S_, .f32⟩
  | .hbm, ⟨41, _⟩ => ⟨S8x8x8x256x3x256, .f32⟩
  | .hbm, ⟨42, _⟩ => ⟨S8x8x8x256x3x256, .f32⟩
  | .hbm, ⟨43, _⟩ => ⟨S8x8x8x256x3x1, .i1⟩
  | .hbm, ⟨44, _⟩ => ⟨S_, .f32⟩
  | .hbm, ⟨45, _⟩ => ⟨S_, .f32⟩
  | .hbm, ⟨46, _⟩ => ⟨S8x8x8x256x3x256, .i1⟩
  | .hbm, ⟨47, _⟩ => ⟨S8x8x8x256x3x256, .f32⟩
  | .hbm, ⟨48, _⟩ => ⟨S8x8x8x256x3x256, .f32⟩
  | .hbm, ⟨49, _⟩ => ⟨S8x8x8x256x256, .f32⟩
  | .hbm, ⟨50, _⟩ => ⟨S_, .f32⟩
  | .hbm, ⟨51, _⟩ => ⟨S8x8x8x256x256, .f32⟩
  | .hbm, ⟨52, _⟩ => ⟨S8x8x8x256x256, .f32⟩
  | .hbm, ⟨53, _⟩ => ⟨S_, .i1⟩
  | .hbm, ⟨54, _⟩ => ⟨S256x256, .i1⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S_, .i1⟩
  | .hbm, ⟨62, _⟩ => ⟨S256x256, .i1⟩
  | .hbm, ⟨63, _⟩ => ⟨S256x256, .i1⟩
  | .hbm, ⟨64, _⟩ => ⟨S_, .f32⟩
  | .hbm, ⟨65, _⟩ => ⟨S_, .f32⟩
  | .hbm, ⟨66, _⟩ => ⟨S8x8x8x256x256, .i1⟩
  | .hbm, ⟨67, _⟩ => ⟨S8x8x8x256x256, .f32⟩
  | .hbm, ⟨68, _⟩ => ⟨S8x8x8x256x256, .f32⟩
  | .hbm, ⟨69, _⟩ => ⟨S8x8x8x256x768, .f32⟩
  | .hbm, ⟨70, _⟩ => ⟨S8x8x8x256x1024, .f32⟩
  | .hbm, ⟨71, _⟩ => ⟨S_, .f32⟩
  | .hbm, ⟨72, _⟩ => ⟨S8x8x8x256, .f32⟩
  | .hbm, ⟨73, _⟩ => ⟨S_, .f32⟩
  | .hbm, ⟨74, _⟩ => ⟨S8x8x8x256, .f32⟩
  | .hbm, ⟨75, _⟩ => ⟨S8x8x8x256, .f32⟩
  | .hbm, ⟨76, _⟩ => ⟨S8x8x8x256x1, .f32⟩
  | .hbm, ⟨77, _⟩ => ⟨S8x8x8x256x1024, .f32⟩
  | .hbm, ⟨78, _⟩ => ⟨S8x8x8x256x1024, .f32⟩
  | .hbm, ⟨79, _⟩ => ⟨S8x8x8x256x1024, .f32⟩
  | .hbm, ⟨80, _⟩ => ⟨S_, .f32⟩
  | .hbm, ⟨81, _⟩ => ⟨S8x8x8x256, .f32⟩
  | .hbm, ⟨82, _⟩ => ⟨S8x8x8x256x1, .f32⟩
  | .hbm, ⟨83, _⟩ => ⟨S8x8x8x256x1024, .f32⟩
  | .hbm, ⟨84, _⟩ => ⟨S8x8x8x256x1024, .f32⟩
  | .hbm, ⟨85, _⟩ => ⟨S8x8x8x256x768, .f32⟩
  | .hbm, ⟨86, _⟩ => ⟨S8x8x8x256x3x256, .f32⟩
  | .hbm, ⟨87, _⟩ => ⟨S8x8x8x256x256, .f32⟩
  | .hbm, ⟨88, _⟩ => ⟨S8x8x8x256x128, .f32⟩
  | .hbm, ⟨89, _⟩ => ⟨S8x8x8x256x128, .f32⟩
  | .hbm, ⟨90, _⟩ => ⟨S8x8x8x256x128, .f32⟩
  | .hbm, ⟨91, _⟩ => ⟨S8x8x256x8x128, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S_, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | .hbm, ⟨104, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_0 : Ref sig .tc := ⟨.hbm, 61, rfl⟩
abbrev main_call2_v5 : Ref sig .tc := ⟨.hbm, 62, rfl⟩
abbrev main_v37 : Ref sig .tc := ⟨.hbm, 63, rfl⟩
abbrev main_cst_5 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x6672 : Shape := ⟨3, ![1, 1024, 6672]⟩
abbrev S16384x1024 : Shape := ⟨2, ![16384, 1024]⟩
abbrev S1024x6672 : Shape := ⟨2, ![1024, 6672]⟩
abbrev S1024 : Shape := ⟨1, ![1024]⟩
abbrev S6672x1024 : Shape := ⟨2, ![6672, 1024]⟩
abbrev S16x1024 : Shape := ⟨2, ![16, 1024]⟩
abbrev S_ : Shape := ⟨0, ![]⟩
abbrev S128x1024 : Shape := ⟨2, ![128, 1024]⟩
abbrev S16384x6656 : Shape := ⟨2, ![16384, 6656]⟩
abbrev S16384x128 : Shape := ⟨2, ![16384, 128]⟩
abbrev S1024x1024 : Shape := ⟨2, ![1024, 1024]⟩
abbrev S1024x3328 : Shape := ⟨2, ![1024, 3328]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S2816x1024 : Shape := ⟨2, ![2816, 1024]⟩
abbrev S512x2816 : Shape := ⟨2, ![512, 2816]⟩
abbrev S512x512 : Shape := ⟨2, ![512, 512]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6672, .f32⟩
  | .hbm, ⟨3, _⟩ => ⟨S16384x1024, .f32⟩
  | .hbm, ⟨4, _⟩ => ⟨S1024x6672, .f32⟩
  | .hbm, ⟨5, _⟩ => ⟨S1024, .f32⟩
  | .hbm, ⟨6, _⟩ => ⟨S1x1024, .f32⟩
  | .hbm, ⟨7, _⟩ => ⟨S6672x1024, .f32⟩
  | .hbm, ⟨8, _⟩ => ⟨S6672x1024, .f32⟩
  | .hbm, ⟨9, _⟩ => ⟨S6672x1024, .f32⟩
  | .hbm, ⟨10, _⟩ => ⟨S6672x1024, .bf16⟩
  | .hbm, ⟨11, _⟩ => ⟨S6672x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .bf16⟩
  | .hbm, ⟨16, _⟩ => ⟨S_, .i32⟩
  | .hbm, ⟨17, _⟩ => ⟨S_, .bf16⟩
  | .hbm, ⟨18, _⟩ => ⟨S128x1024, .bf16⟩
  | .hbm, ⟨19, _⟩ => ⟨S16384x6656, .bf16⟩
  | .hbm, ⟨20, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S6672x1024, .bf16⟩
  | .local _ .vmem, ⟨3, _⟩ => ⟨S128x1024, .bf16⟩
  | .local _ .vmem, ⟨4, _⟩ => ⟨S1024x3328, .bf16⟩
  | .local _ .vmem, ⟨5, _⟩ => ⟨S1024x3328, .bf16⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6672x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x3328 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
variable {F : FTy → Type} [FloatOps F] [Named F]
def κ : String → Option EReal := fun
  | "neg_log2e" => some (((-1) * (Real.log 2)⁻¹ : ℝ) : EReal)
  | _ => none
-- ==== Reference2.lean ====
abbrev S8x2048x1024 : Shape := ⟨3, ![8, 2048, 1024]⟩
abbrev S1x1024 : Shape := ⟨2, ![1, 1024]⟩
abbrev S1x1024x6672 : Shape := ⟨3, ![1, 1024, 6672]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x6672 : Shape := ⟨2, ![1024, 6672]⟩
abbrev S8x2048x6672 : Shape := ⟨3, ![8, 2048, 6672]⟩
abbrev S16384x6672 : Shape := ⟨2, ![16384, 6672]⟩
abbrev S16384x1024 : Shape := ⟨2, ![16384, 1024]⟩
abbrev S16384x1536 : Shape := ⟨2, ![16384, 1536]⟩
abbrev S16384x16 : Shape := ⟨2, ![16384, 16]⟩
abbrev S16384x512 : Shape := ⟨2, ![16384, 512]⟩
abbrev S16384x6656 : Shape := ⟨2, ![16384, 6656]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6672, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x6672, .f32⟩
  | .hbm, ⟨21, _⟩ => ⟨S8x2048x6672, .f32⟩
  | .hbm, ⟨22, _⟩ => ⟨S16384x6672, .f32⟩
  | .hbm, ⟨23, _⟩ => ⟨S16384x1024, .f32⟩
  | .hbm, ⟨24, _⟩ => ⟨S16384x1536, .f32⟩
  | .hbm, ⟨25, _⟩ => ⟨S16384x16, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x512, .f32⟩
  | .hbm, ⟨50, _⟩ => ⟨S16384x6656, .f32⟩
  | .hbm, ⟨51, _⟩ => ⟨S16384x6656, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel3.lean ====
abbrev S8x2048x2048 : Shape := ⟨3, ![8, 2048, 2048]⟩
abbrev S8x2048x1024 : Shape := ⟨3, ![8, 2048, 1024]⟩
abbrev S1x2048x1024 : Shape := ⟨3, ![1, 2048, 1024]⟩
abbrev S1024 : Shape := ⟨1, ![1024]⟩
abbrev S16384x2048 : Shape := ⟨2, ![16384, 2048]⟩
abbrev S_ : Shape := ⟨0, ![]⟩
abbrev S16384x6144 : Shape := ⟨2, ![16384, 6144]⟩
abbrev S16384x8192 : Shape := ⟨2, ![16384, 8192]⟩
abbrev S16384x1024 : Shape := ⟨2, ![16384, 1024]⟩
abbrev S2048x1024 : Shape := ⟨2, ![2048, 1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x1024, .f32⟩
  | .hbm, ⟨3, _⟩ => ⟨S1x2048x1024, .f32⟩
  | .hbm, ⟨4, _⟩ => ⟨S1024, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S_, .bf16⟩
  | .hbm, ⟨10, _⟩ => ⟨S16384x6144, .bf16⟩
  | .hbm, ⟨11, _⟩ => ⟨S16384x8192, .bf16⟩
  | .hbm, ⟨12, _⟩ => ⟨S16384x1024, .f32⟩
  | .hbm, ⟨13, _⟩ => ⟨S2048x1024, .f32⟩
  | .hbm, ⟨14, _⟩ => ⟨S1x1024, .f32⟩
  | .hbm, ⟨15, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
variable {F : FTy → Type} [FloatOps F] [Named F]
def κ : String → Option EReal := fun
  | "neg_log2e" => some (((-1) * (Real.log 2)⁻¹ : ℝ) : EReal)
  | _ => none
-- ==== Reference3.lean ====
abbrev S8x2048x2048 : Shape := ⟨3, ![8, 2048, 2048]⟩
abbrev S8x2048x1024 : Shape := ⟨3, ![8, 2048, 1024]⟩
abbrev S1x2048x1024 : Shape := ⟨3, ![1, 2048, 1024]⟩
abbrev S1024 : Shape := ⟨1, ![1024]⟩
abbrev S_ : Shape := ⟨0, ![]⟩
abbrev S2048x1024 : Shape := ⟨2, ![2048, 1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x1024, .f32⟩
  | .hbm, ⟨3, _⟩ => ⟨S1x2048x1024, .f32⟩
  | .hbm, ⟨4, _⟩ => ⟨S1024, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x2048x1024 : Shape := ⟨3, ![1, 2048, 1024]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1x2048x1024, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S2048x1024, .f32⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .f32⟩
  | .local _ .vmem, ⟨7, _⟩ => ⟨S1024x1024, .f32⟩
  | .local _ .vmem, ⟨8, _⟩ => ⟨S1024x1024, .f32⟩
  | .local _ .vmem, ⟨9, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4.lean ====
abbrev S8x2048x1024 : Shape := ⟨3, ![8, 2048, 1024]⟩
abbrev S1x2048x1024 : Shape := ⟨3, ![1, 2048, 1024]⟩
abbrev S8x2048x2048 : Shape := ⟨3, ![8, 2048, 2048]⟩
abbrev S2048x1024 : Shape := ⟨2, ![2048, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1x2048x1024, .f32⟩
  | .hbm, ⟨4, _⟩ => ⟨S8x2048x2048, .f32⟩
  | .hbm, ⟨5, _⟩ => ⟨S2048x1024, .f32⟩
  | .hbm, ⟨6, _⟩ => ⟨S8x2048x1024, .f32⟩
  | .hbm, ⟨7, _⟩ => ⟨S8x2048x1024, .f32⟩
  | .hbm, ⟨8, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S8x2048x1024 : Shape := ⟨3, ![8, 2048, 1024]⟩
abbrev S1x1024 : Shape := ⟨2, ![1, 1024]⟩
abbrev S1x1024x8192 : Shape := ⟨3, ![1, 1024, 8192]⟩
abbrev S1024x8192 : Shape := ⟨2, ![1024, 8192]⟩
abbrev S1024 : Shape := ⟨1, ![1024]⟩
abbrev S1024x1 : Shape := ⟨2, ![1024, 1]⟩
abbrev S16384x1024 : Shape := ⟨2, ![16384, 1024]⟩
abbrev S16384x8192 : Shape := ⟨2, ![16384, 8192]⟩
abbrev S2048x1024 : Shape := ⟨2, ![2048, 1024]⟩
abbrev S1024x1024 : Shape := ⟨2, ![1024, 1024]⟩
abbrev S2x2048x1024 : Shape := ⟨3, ![2, 2048, 1024]⟩
abbrev S8x2048x128 : Shape := ⟨3, ![8, 2048, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8192, .f32⟩
  | .hbm, ⟨3, _⟩ => ⟨S1024x8192, .f32⟩
  | .hbm, ⟨4, _⟩ => ⟨S1024, .f32⟩
  | .hbm, ⟨5, _⟩ => ⟨S1024x1, .f32⟩
  | .hbm, ⟨6, _⟩ => ⟨S1024x8192, .f32⟩
  | .hbm, ⟨7, _⟩ => ⟨S1024x8192, .f32⟩
  | .hbm, ⟨8, _⟩ => ⟨S1024x8192, .bf16⟩
  | .hbm, ⟨9, _⟩ => ⟨S16384x1024, .f32⟩
  | .hbm, ⟨10, _⟩ => ⟨S16384x8192, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2x2048x1024, .bf16⟩
  | .local _ .vmem, ⟨7, _⟩ => ⟨S8x2048x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c0_i32_2 : BitVec 32 := 0#32
  let v6 : BitVec 1 := Scalar.cmpi .ne arg1 c0_i32_2
  let c2_i32_3 : BitVec 32 := 2#32
  let v7 : BitVec 1 := Scalar.cmpi .ne arg1 c2_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_off1 (i : grid0.Coords) : Fin 3 → Nat :=
  let arg1 : BitVec 32 := BitVec.ofNat 32 (i 1).val
  let c2_i32_5 : BitVec 32 := 2#32
  let v11 : BitVec 1 := Scalar.cmpi .slt arg1 c2_i32_5
  let c0_i32_6 : BitVec 32 := 0#32
  let c1_i32 : BitVec 32 := 1#32
  let v12 : BitVec 32 := Scalar.select v11 c0_i32_6 c1_i32
  let v13 : Index := Scalar.indexCast v12
  let c0 : Index := 0#32
  let c0_7 : Index := 0#32
  ![v13.toNat, 0, 0]
def k0_off2 (i : grid0.Coords) : Fin 3 → Nat :=
  let arg1 : BitVec 32 := BitVec.ofNat 32 (i 1).val
  let c2_i32_5 : BitVec 32 := 2#32
  let v11 : BitVec 1 := Scalar.cmpi .slt arg1 c2_i32_5
  let c0_i32_6 : BitVec 32 := 0#32
  let c1_i32 : BitVec 32 := 1#32
  let v12 : BitVec 32 := Scalar.select v11 c0_i32_6 c1_i32
  let v21 : Index := Scalar.indexCast v12
  let c512 : Index := 512#32
  let c0_12 : Index := 0#32
  ![v21.toNat, 512, 0]
def k0_off3 (i : grid0.Coords) : Fin 3 → Nat :=
  let arg1 : BitVec 32 := BitVec.ofNat 32 (i 1).val
  let c2_i32_5 : BitVec 32 := 2#32
  let v11 : BitVec 1 := Scalar.cmpi .slt arg1 c2_i32_5
  let c0_i32_6 : BitVec 32 := 0#32
  let c1_i32 : BitVec 32 := 1#32
  let v12 : BitVec 32 := Scalar.select v11 c0_i32_6 c1_i32
  let v29 : Index := Scalar.indexCast v12
  let c1024 : Index := 1024#32
  let c0_18 : Index := 0#32
  ![v29.toNat, 1024, 0]
def k0_off4 (i : grid0.Coords) : Fin 3 → Nat :=
  let arg1 : BitVec 32 := BitVec.ofNat 32 (i 1).val
  let c2_i32_5 : BitVec 32 := 2#32
  let v11 : BitVec 1 := Scalar.cmpi .slt arg1 c2_i32_5
  let c0_i32_6 : BitVec 32 := 0#32
  let c1_i32 : BitVec 32 := 1#32
  let v12 : BitVec 32 := Scalar.select v11 c0_i32_6 c1_i32
  let v37 : Index := Scalar.indexCast v12
  let c1536 : Index := 1536#32
  let c0_24 : Index := 0#32
  ![v37.toNat, 1536, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v3 : BitVec 1 := Scalar.cmpi .eq arg1 c2_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c2_i32 : BitVec 32 := 2#32
  let v1 : BitVec 32 := Scalar.subi v0 c2_i32
  let c8_i32_0 : BitVec 32 := 8#32
  let c0_i32 : BitVec 32 := 0#32
  let v2 : BitVec 1 := Scalar.cmpi .eq c8_i32_0 c0_i32
  let c1_i32 : BitVec 32 := 1#32
  let v3 : BitVec 32 := Scalar.select v2 c1_i32 c8_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![c0_i32_4.toNat, v11.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c2_i32 : BitVec 32 := 2#32
  let v1 : BitVec 32 := Scalar.subi v0 c2_i32
  let c8_i32_0 : BitVec 32 := 8#32
  let c0_i32 : BitVec 32 := 0#32
  let v2 : BitVec 1 := Scalar.cmpi .eq c8_i32_0 c0_i32
  let c1_i32 : BitVec 32 := 1#32
  let v3 : BitVec 32 := Scalar.select v2 c1_i32 c8_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![arg0.toNat, v11.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5.lean ====
abbrev S8x2048x1024 : Shape := ⟨3, ![8, 2048, 1024]⟩
abbrev S1x1024 : Shape := ⟨2, ![1, 1024]⟩
abbrev S1x1024x8192 : Shape := ⟨3, ![1, 1024, 8192]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x8192 : Shape := ⟨2, ![1024, 8192]⟩
abbrev S8x2048x8192 : Shape := ⟨3, ![8, 2048, 8192]⟩
abbrev S8x2048x6144 : Shape := ⟨3, ![8, 2048, 6144]⟩
abbrev S8x2048x2048 : Shape := ⟨3, ![8, 2048, 2048]⟩
abbrev S8x256x8x6144 : Shape := ⟨4, ![8, 256, 8, 6144]⟩
abbrev S8x8x256x6144 : Shape := ⟨4, ![8, 8, 256, 6144]⟩
abbrev S16384x6144 : Shape := ⟨2, ![16384, 6144]⟩
abbrev S16384x2048 : Shape := ⟨2, ![16384, 2048]⟩
abbrev S16384x8192 : Shape := ⟨2, ![16384, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8192, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x8192, .f32⟩
  | .hbm, ⟨21, _⟩ => ⟨S8x2048x8192, .f32⟩
  | .hbm, ⟨22, _⟩ => ⟨S8x2048x6144, .f32⟩
  | .hbm, ⟨23, _⟩ => ⟨S8x2048x2048, .f32⟩
  | .hbm, ⟨24, _⟩ => ⟨S8x256x8x6144, .f32⟩
  | .hbm, ⟨25, _⟩ => ⟨S8x8x256x6144, .f32⟩
  | .hbm, ⟨26, _⟩ => ⟨S16384x6144, .f32⟩
  | .hbm, ⟨27, _⟩ => ⟨S16384x2048, .f32⟩
  | .hbm, ⟨28, _⟩ => ⟨S16384x8192, .f32⟩
  | .hbm, ⟨29, _⟩ => ⟨S16384x8192, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Frames.lean ====
/- The frames of the four programs, and the one named constant. The kernel's two frames are the runs of its pipelined call;
   the reference is host operations only and declares no semaphore, so its frame is its run with the counters zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Reference
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre [Cert.Pre_finite_qk.Facts] : Cert.quiescent_KernelIdeal_pre_finite_qk :=
  fun m ρ _ => Cert.KernelIdeal.Gen.frame m ρ

theorem frame_ref : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

theorem frame_ref_pre [Cert.Pre_finite_qk.Facts] : Cert.quiescent_ReferenceIdeal_pre_finite_qk :=
  fun m ρ _ => frame_ref m ρ trivial

set_option maxHeartbeats 4000000 in
theorem frame_ref_bits : Cert.quiescent_Reference := by
  intro m ρ _
  exact (θ_run Cert.Reference.defs _ _).mono
    (fun r h => ⟨fun c => (h c).2, sem_eq_zero_of_no_sems (by decide) r.2⟩)
    (Cert.ReferenceIdeal.Value.run (F := Bits) m ρ)

theorem preserves : Cert.preserves_Kernel_KernelIdeal :=
  IdealRules.named_const.statement Cert.KernelIdeal.κ "mask" .f32 _ _ rfl

end Cert.Proof

end
-- ==== Proof.KerStages.lean ====
/- The kernel's body in stages: for each query block of 256 rows its scores against its own block and the blocks before
   it, the bias that leaves three of the past blocks, and the softmax-weighted values. The stages composed are the
   pieces that the body stores. -/
module

public import proofs.«01_k».proof.Proof.Gen.KernelIdeal.Frame
public import Idealize.ShloMosaic.Lib.Pointwise
public import Idealize.ShloMosaic.PureOps.Ideal

@[expose] public section

set_option maxRecDepth 16384

noncomputable section

namespace Cert.Proof.Ker

open Idealize.ShloMosaic Cert.KernelIdeal Cert.KernelIdeal.Facts₀ Cert.KernelIdeal.Facts
open Cert.KernelIdeal.Gen (k0_pay2 out0_7 r0_0 r0_1 r0_2 r0_3 r0_4 r0_5 r0_6 r0_7 r0_8 r0_9 r0_10 r0_11 r0_12 r0_13 r0_14 r0_15 r0_16)

abbrev V2 (a b : ℕ) (φ : FTy) := FVec Ideal ⟨2, ![a, b]⟩ φ
abbrev B2 (a b : ℕ) := Vec Ideal ⟨2, ![a, b]⟩ .bf16

/-- The scores of a block's queries against its keys, keys after the query masked. -/
def own (q k : V2 256 128 .bf16) : V2 256 256 .f32 :=
  select (cmpi .sle (iota .tc S256x256 32 [1] iota_S256x256_d1_w32) (addi (iota .tc S256x256 32 [0] iota_S256x256_d0_w32) (broadcast S256x256 0#32)))
    (matmul dot_S256x128_S256x128_S256x256_1_1_0_0_n_n none (shapeCast S256x128 q shapeCasts_S256x128_S256x128)
      (shapeCast S256x128 k shapeCasts_S256x128_S256x128) (constant S256x256 .f32 0x00000000#32))
    (broadcast S256x256 (Named.named κ "mask" 0xF149F2CA#32))

/-- The mean keys of the blocks. -/
def kmean (a : V2 16 2048 .bf16) (k : V2 2048 128 .bf16) : V2 16 128 .bf16 := k0_pay2 a k

/-- The affinities of a block's queries to the blocks before it. -/
def aff (n : BitVec 32) (km : V2 16 128 .bf16) (q : V2 256 128 .bf16) : V2 8 256 .f32 :=
  select (cmpi .slt (iota .tc S8x256 32 [0] iota_S8x256_d0_w32) (broadcast S8x256 n))
    (extractStridedSlice S8x256 ![0, 0] (matmul dot_S16x128_S256x128_S16x256_1_1_0_0_n_n none km
      (shapeCast S256x128 q shapeCasts_S256x128_S256x128) (constant S16x256 .f32 0x00000000#32)) slices_S16x256_o0_0_S8x256)
    (broadcast S8x256 (Scalar.ofBits .f32 0xFF800000#32))

/-- One term of a block's rank: whether the block `s` places before it, cyclically, is ahead. -/
def step (s : BitVec 32) (gm acc : V2 8 256 .f32) : V2 8 256 .f32 :=
  addf (addf acc (select (cmpf .ogt (dynamicRotate 0 s none gm rotates_S8x256_d0) gm)
      (broadcast S8x256 (Scalar.ofBits .f32 0x3F800000#32)) (broadcast S8x256 (Scalar.ofBits .f32 0x00000000#32))))
    (select (andi (cmpf .oeq (dynamicRotate 0 s none gm rotates_S8x256_d0) gm)
        (cmpi .slt (andi (subi (iota .tc S8x256 32 [0] iota_S8x256_d0_w32) (broadcast S8x256 s)) (broadcast S8x256 7#32))
          (iota .tc S8x256 32 [0] iota_S8x256_d0_w32)))
      (broadcast S8x256 (Scalar.ofBits .f32 0x3F800000#32)) (broadcast S8x256 (Scalar.ofBits .f32 0x00000000#32)))

/-- The blocks' ranks. -/
def rank (gm : V2 8 256 .f32) : V2 8 256 .f32 :=
  step 7#32 gm (step 6#32 gm (step 5#32 gm (step 4#32 gm (step 3#32 gm (step 2#32 gm (step 1#32 gm
    (broadcast S8x256 (Scalar.ofBits .f32 0x00000000#32))))))))

/-- The bias of a block: zero for a chosen block, the mask otherwise. -/
def bias (n : BitVec 32) (gm : V2 8 256 .f32) : V2 8 256 .f32 :=
  select (andi (cmpi .slt (iota .tc S8x256 32 [0] iota_S8x256_d0_w32) (broadcast S8x256 n))
      (cmpf .olt (rank gm) (broadcast S8x256 (Scalar.ofBits .f32 0x40400000#32))))
    (broadcast S8x256 (Scalar.ofBits .f32 0x00000000#32)) (broadcast S8x256 (Named.named κ "mask" 0xF149F2CA#32))

/-- The bias with a query's row first, on 128 lanes. -/
def lanes (e : V2 256 256 .bf16) (b : V2 8 256 .f32) : V2 256 128 .bf16 :=
  truncf .bf16 (matmul dot_S256x256_S128x256_S256x128_1_1_0_0_n_n none (shapeCast S256x256 e shapeCasts_S256x256_S256x256)
    (truncf .bf16 (concatenate S128x256 0 [⟨S8x256, b⟩, ⟨S120x256, broadcast S120x256 (Scalar.ofBits .f32 0x00000000#32)⟩]
      concatenates_S8x256_S120x256_S128x256_d0) bitsLt_bf16_f32) (constant S256x128 .f32 0x00000000#32)) bitsLt_bf16_f32

/-- Queries with their bias beside them. -/
def aug (q b : V2 256 128 .bf16) : V2 256 256 .bf16 :=
  concatenate S256x256 1 [⟨S256x128, shapeCast S256x128 q shapeCasts_S256x128_S256x128⟩, ⟨S256x128, b⟩] concatenates_S256x128_S256x128_S256x256_d1

/-- The scores against the 1 block(s) before. -/
def past1 (q : V2 256 128 .bf16) (k : V2 256 128 .bf16) : V2 256 256 .f32 :=
  matmul dot_S256x128_S256x128_S256x256_1_1_0_0_n_n none (shapeCast S256x128 q shapeCasts_S256x128_S256x128)
    (shapeCast S256x128 k shapeCasts_S256x128_S256x128) (constant S256x256 .f32 0x00000000#32)

/-- The scores against the 2 block(s) before. -/
def past2 (q : V2 256 128 .bf16) (k : V2 512 128 .bf16) : V2 256 512 .f32 :=
  matmul dot_S256x128_S512x128_S256x512_1_1_0_0_n_n none (shapeCast S256x128 q shapeCasts_S256x128_S256x128)
    (shapeCast S512x128 k shapeCasts_S512x128_S512x128) (constant S256x512 .f32 0x00000000#32)

/-- The scores against the 3 block(s) before. -/
def past3 (q : V2 256 128 .bf16) (k : V2 768 128 .bf16) : V2 256 768 .f32 :=
  matmul dot_S256x128_S768x128_S256x768_1_1_0_0_n_n none (shapeCast S256x128 q shapeCasts_S256x128_S256x128)
    (shapeCast S768x128 k shapeCasts_S768x128_S768x128) (constant S256x768 .f32 0x00000000#32)

/-- The biased scores against the 4 blocks before. -/
def past4 (qa : V2 256 256 .bf16) (k h : V2 1024 128 .bf16) : V2 256 1024 .f32 :=
  matmul dot_S256x256_S1024x256_S256x1024_1_1_0_0_n_n none qa
    (concatenate S1024x256 1 [⟨S1024x128, shapeCast S1024x128 k shapeCasts_S1024x128_S1024x128⟩, ⟨S1024x128, shapeCast S1024x128 h shapeCasts_S1024x128_S1024x128⟩]
      concatenates_S1024x128_S1024x128_S1024x256_d1) (constant S256x1024 .f32 0x00000000#32)

/-- The biased scores against the 5 blocks before. -/
def past5 (qa : V2 256 256 .bf16) (k h : V2 1280 128 .bf16) : V2 256 1280 .f32 :=
  matmul dot_S256x256_S1280x256_S256x1280_1_1_0_0_n_n none qa
    (concatenate S1280x256 1 [⟨S1280x128, shapeCast S1280x128 k shapeCasts_S1280x128_S1280x128⟩, ⟨S1280x128, shapeCast S1280x128 h shapeCasts_S1280x128_S1280x128⟩]
      concatenates_S1280x128_S1280x128_S1280x256_d1) (constant S256x1280 .f32 0x00000000#32)

/-- The biased scores against the 6 blocks before. -/
def past6 (qa : V2 256 256 .bf16) (k h : V2 1536 128 .bf16) : V2 256 1536 .f32 :=
  matmul dot_S256x256_S1536x256_S256x1536_1_1_0_0_n_n none qa
    (concatenate S1536x256 1 [⟨S1536x128, shapeCast S1536x128 k shapeCasts_S1536x128_S1536x128⟩, ⟨S1536x128, shapeCast S1536x128 h shapeCasts_S1536x128_S1536x128⟩]
      concatenates_S1536x128_S1536x128_S1536x256_d1) (constant S256x1536 .f32 0x00000000#32)

/-- The biased scores against the 7 blocks before. -/
def past7 (qa : V2 256 256 .bf16) (k h : V2 1792 128 .bf16) : V2 256 1792 .f32 :=
  matmul dot_S256x256_S1792x256_S256x1792_1_1_0_0_n_n none qa
    (concatenate S1792x256 1 [⟨S1792x128, shapeCast S1792x128 k shapeCasts_S1792x128_S1792x128⟩, ⟨S1792x128, shapeCast S1792x128 h shapeCasts_S1792x128_S1792x128⟩]
      concatenates_S1792x128_S1792x128_S1792x256_d1) (constant S256x1792 .f32 0x00000000#32)

/-- The greatest own score of each query. -/
def top0 (s : V2 256 256 .f32) : V2 256 1 .f32 :=
  shapeCast S256x1 (multiReduction .maximumf [1] S256 s 0xFF800000#32 reduces_S256x256_S256 (.inl rfl) rfl) shapeCasts_S256_S256x1

/-- The quotient of the two halves, gated. -/
def close (pv : V2 256 256 .f32) (g : V2 256 128 .bf16) : V2 256 128 .bf16 :=
  truncf .bf16 (mulf (divf (extractStridedSlice S256x128 ![0, 0] pv slices_S256x256_o0_0_S256x128)
    (extractStridedSlice S256x128 ![0, 128] pv slices_S256x256_o0_128_S256x128))
    (extf .f32 (shapeCast S256x128 g shapeCasts_S256x128_S256x128) bitsLt_bf16_f32)) bitsLt_bf16_f32

/-- The first block's exponentials over its values and ones. -/
def pv0 (s : V2 256 256 .f32) (v : V2 256 128 .bf16) : V2 256 256 .f32 :=
  matmul dot_S256x256_S256x256_S256x256_1_0_0_1_n_n none
    (truncf .bf16 (exp2 (subf s (broadcastTo S256x256 (top0 s) broadcasts_S256x1_S256x256))) bitsLt_bf16_f32)
    (concatenate S256x256 1 [⟨S256x128, shapeCast S256x128 v shapeCasts_S256x128_S256x128⟩,
      ⟨S256x128, broadcast S256x128 (Scalar.ofBits .bf16 0x3F80#16)⟩] concatenates_S256x128_S256x128_S256x256_d1)
    (constant S256x256 .f32 0x00000000#32)

/-- The greatest score of each query of block 1. -/
def top1 (s : V2 256 256 .f32) (p : V2 256 256 .f32) : V2 256 1 .f32 :=
  maximumf (top0 s)
    (shapeCast S256x1 (multiReduction .maximumf [1] S256 p 0xFF800000#32 reduces_S256x256_S256 (.inl rfl) rfl) shapeCasts_S256_S256x1)

/-- Block 1's exponentials over its values and ones. -/
def pv1 (s : V2 256 256 .f32) (p : V2 256 256 .f32) (v : V2 512 128 .bf16) : V2 256 256 .f32 :=
  matmul dot_S256x512_S512x256_S256x256_1_0_0_1_n_n none
    (truncf .bf16 (concatenate S256x512 1 [⟨S256x256, exp2 (subf p (broadcastTo S256x256 (top1 s p) broadcasts_S256x1_S256x256))⟩,
      ⟨S256x256, exp2 (subf s (broadcastTo S256x256 (top1 s p) broadcasts_S256x1_S256x256))⟩] concatenates_S256x256_S256x256_S256x512_d1) bitsLt_bf16_f32)
    (concatenate S512x256 1 [⟨S512x128, shapeCast S512x128 v shapeCasts_S512x128_S512x128⟩,
      ⟨S512x128, broadcast S512x128 (Scalar.ofBits .bf16 0x3F80#16)⟩] concatenates_S512x128_S512x128_S512x256_d1)
    (constant S256x256 .f32 0x00000000#32)

/-- The greatest score of each query of block 2. -/
def top2 (s : V2 256 256 .f32) (p : V2 256 512 .f32) : V2 256 1 .f32 :=
  maximumf (top0 s)
    (shapeCast S256x1 (multiReduction .maximumf [1] S256 p 0xFF800000#32 reduces_S256x512_S256 (.inl rfl) rfl) shapeCasts_S256_S256x1)

/-- Block 2's exponentials over its values and ones. -/
def pv2 (s : V2 256 256 .f32) (p : V2 256 512 .f32) (v : V2 768 128 .bf16) : V2 256 256 .f32 :=
  matmul dot_S256x768_S768x256_S256x256_1_0_0_1_n_n none
    (truncf .bf16 (concatenate S256x768 1 [⟨S256x512, exp2 (subf p (broadcastTo S256x512 (top2 s p) broadcasts_S256x1_S256x512))⟩,
      ⟨S256x256, exp2 (subf s (broadcastTo S256x256 (top2 s p) broadcasts_S256x1_S256x256))⟩] concatenates_S256x512_S256x256_S256x768_d1) bitsLt_bf16_f32)
    (concatenate S768x256 1 [⟨S768x128, shapeCast S768x128 v shapeCasts_S768x128_S768x128⟩,
      ⟨S768x128, broadcast S768x128 (Scalar.ofBits .bf16 0x3F80#16)⟩] concatenates_S768x128_S768x128_S768x256_d1)
    (constant S256x256 .f32 0x00000000#32)

/-- The greatest score of each query of block 3. -/
def top3 (s : V2 256 256 .f32) (p : V2 256 768 .f32) : V2 256 1 .f32 :=
  maximumf (top0 s)
    (shapeCast S256x1 (multiReduction .maximumf [1] S256 p 0xFF800000#32 reduces_S256x768_S256 (.inl rfl) rfl) shapeCasts_S256_S256x1)

/-- Block 3's exponentials over its values and ones. -/
def pv3 (s : V2 256 256 .f32) (p : V2 256 768 .f32) (v : V2 1024 128 .bf16) : V2 256 256 .f32 :=
  matmul dot_S256x1024_S1024x256_S256x256_1_0_0_1_n_n none
    (truncf .bf16 (concatenate S256x1024 1 [⟨S256x768, exp2 (subf p (broadcastTo S256x768 (top3 s p) broadcasts_S256x1_S256x768))⟩,
      ⟨S256x256, exp2 (subf s (broadcastTo S256x256 (top3 s p) broadcasts_S256x1_S256x256))⟩] concatenates_S256x768_S256x256_S256x1024_d1) bitsLt_bf16_f32)
    (concatenate S1024x256 1 [⟨S1024x128, shapeCast S1024x128 v shapeCasts_S1024x128_S1024x128⟩,
      ⟨S1024x128, broadcast S1024x128 (Scalar.ofBits .bf16 0x3F80#16)⟩] concatenates_S1024x128_S1024x128_S1024x256_d1)
    (constant S256x256 .f32 0x00000000#32)

/-- The greatest score of each query of block 4. -/
def top4 (s : V2 256 256 .f32) (p : V2 256 1024 .f32) : V2 256 1 .f32 :=
  maximumf (top0 s)
    (shapeCast S256x1 (multiReduction .maximumf [1] S256 p 0xFF800000#32 reduces_S256x1024_S256 (.inl rfl) rfl) shapeCasts_S256_S256x1)

/-- Block 4's exponentials over its values and ones. -/
def pv4 (s : V2 256 256 .f32) (p : V2 256 1024 .f32) (v : V2 1280 128 .bf16) : V2 256 256 .f32 :=
  matmul dot_S256x1280_S1280x256_S256x256_1_0_0_1_n_n none
    (truncf .bf16 (concatenate S256x1280 1 [⟨S256x1024, exp2 (subf p (broadcastTo S256x1024 (top4 s p) broadcasts_S256x1_S256x1024))⟩,
      ⟨S256x256, exp2 (subf s (broadcastTo S256x256 (top4 s p) broadcasts_S256x1_S256x256))⟩] concatenates_S256x1024_S256x256_S256x1280_d1) bitsLt_bf16_f32)
    (concatenate S1280x256 1 [⟨S1280x128, shapeCast S1280x128 v shapeCasts_S1280x128_S1280x128⟩,
      ⟨S1280x128, broadcast S1280x128 (Scalar.ofBits .bf16 0x3F80#16)⟩] concatenates_S1280x128_S1280x128_S1280x256_d1)
    (constant S256x256 .f32 0x00000000#32)

/-- The greatest score of each query of block 5. -/
def top5 (s : V2 256 256 .f32) (p : V2 256 1280 .f32) : V2 256 1 .f32 :=
  maximumf (top0 s)
    (shapeCast S256x1 (multiReduction .maximumf [1] S256 p 0xFF800000#32 reduces_S256x1280_S256 (.inl rfl) rfl) shapeCasts_S256_S256x1)

/-- Block 5's exponentials over its values and ones. -/
def pv5 (s : V2 256 256 .f32) (p : V2 256 1280 .f32) (v : V2 1536 128 .bf16) : V2 256 256 .f32 :=
  matmul dot_S256x1536_S1536x256_S256x256_1_0_0_1_n_n none
    (truncf .bf16 (concatenate S256x1536 1 [⟨S256x1280, exp2 (subf p (broadcastTo S256x1280 (top5 s p) broadcasts_S256x1_S256x1280))⟩,
      ⟨S256x256, exp2 (subf s (broadcastTo S256x256 (top5 s p) broadcasts_S256x1_S256x256))⟩] concatenates_S256x1280_S256x256_S256x1536_d1) bitsLt_bf16_f32)
    (concatenate S1536x256 1 [⟨S1536x128, shapeCast S1536x128 v shapeCasts_S1536x128_S1536x128⟩,
      ⟨S1536x128, broadcast S1536x128 (Scalar.ofBits .bf16 0x3F80#16)⟩] concatenates_S1536x128_S1536x128_S1536x256_d1)
    (constant S256x256 .f32 0x00000000#32)

/-- The greatest score of each query of block 6. -/
def top6 (s : V2 256 256 .f32) (p : V2 256 1536 .f32) : V2 256 1 .f32 :=
  maximumf (top0 s)
    (shapeCast S256x1 (multiReduction .maximumf [1] S256 p 0xFF800000#32 reduces_S256x1536_S256 (.inl rfl) rfl) shapeCasts_S256_S256x1)

/-- Block 6's exponentials over its values and ones. -/
def pv6 (s : V2 256 256 .f32) (p : V2 256 1536 .f32) (v : V2 1792 128 .bf16) : V2 256 256 .f32 :=
  matmul dot_S256x1792_S1792x256_S256x256_1_0_0_1_n_n none
    (truncf .bf16 (concatenate S256x1792 1 [⟨S256x1536, exp2 (subf p (broadcastTo S256x1536 (top6 s p) broadcasts_S256x1_S256x1536))⟩,
      ⟨S256x256, exp2 (subf s (broadcastTo S256x256 (top6 s p) broadcasts_S256x1_S256x256))⟩] concatenates_S256x1536_S256x256_S256x1792_d1) bitsLt_bf16_f32)
    (concatenate S1792x256 1 [⟨S1792x128, shapeCast S1792x128 v shapeCasts_S1792x128_S1792x128⟩,
      ⟨S1792x128, broadcast S1792x128 (Scalar.ofBits .bf16 0x3F80#16)⟩] concatenates_S1792x128_S1792x128_S1792x256_d1)
    (constant S256x256 .f32 0x00000000#32)

/-- The greatest score of each query of block 7. -/
def top7 (s : V2 256 256 .f32) (p : V2 256 1792 .f32) : V2 256 1 .f32 :=
  maximumf (top0 s)
    (shapeCast S256x1 (multiReduction .maximumf [1] S256 p 0xFF800000#32 reduces_S256x1792_S256 (.inl rfl) rfl) shapeCasts_S256_S256x1)

/-- Block 7's exponentials over its values and ones. -/
def pv7 (s : V2 256 256 .f32) (p : V2 256 1792 .f32) (v : V2 2048 128 .bf16) : V2 256 256 .f32 :=
  matmul dot_S256x2048_S2048x256_S256x256_1_0_0_1_n_n none
    (truncf .bf16 (concatenate S256x2048 1 [⟨S256x1792, exp2 (subf p (broadcastTo S256x1792 (top7 s p) broadcasts_S256x1_S256x1792))⟩,
      ⟨S256x256, exp2 (subf s (broadcastTo S256x256 (top7 s p) broadcasts_S256x1_S256x256))⟩] concatenates_S256x1792_S256x256_S256x2048_d1) bitsLt_bf16_f32)
    (concatenate S2048x256 1 [⟨S2048x128, shapeCast S2048x128 v shapeCasts_S2048x128_S2048x128⟩,
      ⟨S2048x128, broadcast S2048x128 (Scalar.ofBits .bf16 0x3F80#16)⟩] concatenates_S2048x128_S2048x128_S2048x256_d1)
    (constant S256x256 .f32 0x00000000#32)

/-- The piece stored for block 0. -/
def piece0 (x0 x1 x2 x3 : B2 2048 128) (x4 : B2 16 2048) (x5 : B2 2048 128) (x6 : B2 256 256) : B2 256 128 :=
  close (pv0 (own (View.ld x0 r0_2 : B2 256 128) (View.ld x1 r0_2 : B2 256 128)) (View.ld x2 r0_2 : B2 256 128)) (View.ld x3 r0_2 : B2 256 128)

/-- The piece stored for block 1. -/
def piece1 (x0 x1 x2 x3 : B2 2048 128) (x4 : B2 16 2048) (x5 : B2 2048 128) (x6 : B2 256 256) : B2 256 128 :=
  close (pv1 (own (View.ld x0 r0_3 : B2 256 128) (View.ld x1 r0_3 : B2 256 128))
    (past1 (View.ld x0 r0_3 : B2 256 128) (View.ld x1 r0_2 : B2 256 128))
    (View.ld x2 r0_5 : B2 512 128)) (View.ld x3 r0_3 : B2 256 128)

/-- The piece stored for block 2. -/
def piece2 (x0 x1 x2 x3 : B2 2048 128) (x4 : B2 16 2048) (x5 : B2 2048 128) (x6 : B2 256 256) : B2 256 128 :=
  close (pv2 (own (View.ld x0 r0_4 : B2 256 128) (View.ld x1 r0_4 : B2 256 128))
    (past2 (View.ld x0 r0_4 : B2 256 128) (View.ld x1 r0_5 : B2 512 128))
    (View.ld x2 r0_7 : B2 768 128)) (View.ld x3 r0_4 : B2 256 128)

/-- The piece stored for block 3. -/
def piece3 (x0 x1 x2 x3 : B2 2048 128) (x4 : B2 16 2048) (x5 : B2 2048 128) (x6 : B2 256 256) : B2 256 128 :=
  close (pv3 (own (View.ld x0 r0_6 : B2 256 128) (View.ld x1 r0_6 : B2 256 128))
    (past3 (View.ld x0 r0_6 : B2 256 128) (View.ld x1 r0_7 : B2 768 128))
    (View.ld x2 r0_10 : B2 1024 128)) (View.ld x3 r0_6 : B2 256 128)

/-- The piece stored for block 4. -/
def piece4 (x0 x1 x2 x3 : B2 2048 128) (x4 : B2 16 2048) (x5 : B2 2048 128) (x6 : B2 256 256) : B2 256 128 :=
  close (pv4 (own (View.ld x0 r0_8 : B2 256 128) (View.ld x1 r0_8 : B2 256 128))
    (past4 (aug (View.ld x0 r0_8 : B2 256 128) (lanes (View.ld x6 r0_9 : B2 256 256) (bias 4#32 (aff 4#32 (kmean (View.ld x4 r0_0 : B2 16 2048) (View.ld x1 r0_1 : B2 2048 128)) (View.ld x0 r0_8 : B2 256 128))))) (View.ld x1 r0_10 : B2 1024 128) (View.ld x5 r0_10 : B2 1024 128))
    (View.ld x2 r0_12 : B2 1280 128)) (View.ld x3 r0_8 : B2 256 128)

/-- The piece stored for block 5. -/
def piece5 (x0 x1 x2 x3 : B2 2048 128) (x4 : B2 16 2048) (x5 : B2 2048 128) (x6 : B2 256 256) : B2 256 128 :=
  close (pv5 (own (View.ld x0 r0_11 : B2 256 128) (View.ld x1 r0_11 : B2 256 128))
    (past5 (aug (View.ld x0 r0_11 : B2 256 128) (lanes (View.ld x6 r0_9 : B2 256 256) (bias 5#32 (aff 5#32 (kmean (View.ld x4 r0_0 : B2 16 2048) (View.ld x1 r0_1 : B2 2048 128)) (View.ld x0 r0_11 : B2 256 128))))) (View.ld x1 r0_12 : B2 1280 128) (View.ld x5 r0_12 : B2 1280 128))
    (View.ld x2 r0_14 : B2 1536 128)) (View.ld x3 r0_11 : B2 256 128)

/-- The piece stored for block 6. -/
def piece6 (x0 x1 x2 x3 : B2 2048 128) (x4 : B2 16 2048) (x5 : B2 2048 128) (x6 : B2 256 256) : B2 256 128 :=
  close (pv6 (own (View.ld x0 r0_13 : B2 256 128) (View.ld x1 r0_13 : B2 256 128))
    (past6 (aug (View.ld x0 r0_13 : B2 256 128) (lanes (View.ld x6 r0_9 : B2 256 256) (bias 6#32 (aff 6#32 (kmean (View.ld x4 r0_0 : B2 16 2048) (View.ld x1 r0_1 : B2 2048 128)) (View.ld x0 r0_13 : B2 256 128))))) (View.ld x1 r0_14 : B2 1536 128) (View.ld x5 r0_14 : B2 1536 128))
    (View.ld x2 r0_16 : B2 1792 128)) (View.ld x3 r0_13 : B2 256 128)

/-- The piece stored for block 7. -/
def piece7 (x0 x1 x2 x3 : B2 2048 128) (x4 : B2 16 2048) (x5 : B2 2048 128) (x6 : B2 256 256) : B2 256 128 :=
  close (pv7 (own (View.ld x0 r0_15 : B2 256 128) (View.ld x1 r0_15 : B2 256 128))
    (past7 (aug (View.ld x0 r0_15 : B2 256 128) (lanes (View.ld x6 r0_9 : B2 256 256) (bias 7#32 (aff 7#32 (kmean (View.ld x4 r0_0 : B2 16 2048) (View.ld x1 r0_1 : B2 2048 128)) (View.ld x0 r0_15 : B2 256 128))))) (View.ld x1 r0_16 : B2 1792 128) (View.ld x5 r0_16 : B2 1792 128))
    (View.ld x2 r0_1 : B2 2048 128)) (View.ld x3 r0_15 : B2 256 128)

/-- What the body leaves in the output block: the eight pieces. -/
theorem out_eq (x0 x1 x2 x3 : B2 2048 128) (x4 : B2 16 2048) (x5 : B2 2048 128) (x6 : B2 256 256) :
    out0_7 (F := Ideal) x0 x1 x2 x3 x4 x5 x6 = View.canon [⟨r0_15, piece7 x0 x1 x2 x3 x4 x5 x6⟩, ⟨r0_13, piece6 x0 x1 x2 x3 x4 x5 x6⟩,
      ⟨r0_11, piece5 x0 x1 x2 x3 x4 x5 x6⟩, ⟨r0_8, piece4 x0 x1 x2 x3 x4 x5 x6⟩, ⟨r0_6, piece3 x0 x1 x2 x3 x4 x5 x6⟩,
      ⟨r0_4, piece2 x0 x1 x2 x3 x4 x5 x6⟩, ⟨r0_3, piece1 x0 x1 x2 x3 x4 x5 x6⟩, ⟨r0_2, piece0 x0 x1 x2 x3 x4 x5 x6⟩] := rfl

end Cert.Proof.Ker

end
-- ==== Proof.KerRead.lean ====
/- The kernel's stages read at an index. -/
module

public import proofs.«01_k».proof.Proof.KerStages

@[expose] public section

set_option maxRecDepth 16384

noncomputable section

namespace Cert.Proof.Ker

open Idealize.ShloMosaic Cert.KernelIdeal Cert.Proof
open Cert.KernelIdeal.Gen (r0_0 r0_1 r0_2 r0_3 r0_4 r0_5 r0_6 r0_7 r0_8 r0_9 r0_10 r0_11 r0_12 r0_13 r0_14 r0_15 r0_16)

/-- The masked scores' constant. -/
theorem mask_eq : (Named.named κ "mask" (φ := .f32) 0xF149F2CA#32 : Ideal .f32) = ⊥ := rfl

theorem lit_bot : Ideal.ofBits .f32 0xFF800000#32 = ⊥ := by simp [Ideal.ofBits, Ideal.ieee]

theorem lit_3 : Ideal.ofBits .f32 0x40400000#32 = ((3 : ℝ) : EReal) := by
  simp [Ideal.ofBits, Ideal.ieee, -EReal.coe_mul]; norm_num

theorem sle256 : ∀ j r : Fin 256, IntOp.cmpi .sle (BitVec.ofNat 32 j.val) (IntOp.addi (BitVec.ofNat 32 r.val) 0#32)
    = if j ≤ r then 1#1 else 0#1 := by
  decide +kernel

theorem slt8 : ∀ m n : Fin 8, IntOp.cmpi .slt (BitVec.ofNat 32 m.val) (BitVec.ofNat 32 n.val) = if m < n then 1#1 else 0#1 := by
  decide

/-- A select by a decided condition. -/
theorem select_ite (p : Prop) [Decidable p] (x y : EReal) : Scalar.select (if p then 1#1 else 0#1) x y = if p then x else y := by
  by_cases hp : p <;> simp [hp, Scalar.select]

/-- A select by two decided conditions. -/
theorem select_and (p q : Prop) [Decidable p] [Decidable q] (x y : EReal) :
    Scalar.select (IntOp.andi (BitVec.ofBool (decide p)) (if q then 1#1 else 0#1)) x y = if p ∧ q then x else y := by
  by_cases hp : p <;> by_cases hq : q <;> simp [hp, hq, Scalar.select, IntOp.andi]

theorem own_at (q k) (r j : Fin 256) : own q k (ix2 r j) = if j ≤ r then ∑ x, q (ix2 r x) * k (ix2 j x) else ⊥ := by
  pointwise [own]
  rw [sle256, select_ite, mask_eq]

theorem kmean_at (a k) (m : Fin 16) (x : Fin 128) : kmean a k (ix2 m x) = ∑ i, a (ix2 m i) * k (ix2 i x) := by
  pointwise [kmean, Gen.k0_pay2]

theorem aff_at (n : Fin 8) (km q) (m : Fin 8) (r : Fin 256) : aff (BitVec.ofNat 32 n.val) km q (ix2 m r) =
    if m < n then ∑ x, km (ix2 ⟨m.val, by omega⟩ x) * q (ix2 r x) else ⊥ := by
  pointwise [aff]
  rw [slt8, select_ite, lit_bot]

theorem lower8 : ∀ (m : Fin 8) (s : Fin 7), IntOp.cmpi .slt (IntOp.andi (IntOp.subi (BitVec.ofNat 32 m.val) (BitVec.ofNat 32 (s.val + 1))) 7#32)
    (BitVec.ofNat 32 m.val) = if m - s.succ < m then 1#1 else 0#1 := by
  decide

theorem step1_at (gm acc) (m : Fin 8) (r : Fin 256) : step 1#32 gm acc (ix2 m r) =
    acc (ix2 m r) + (if gm (ix2 m r) < gm (ix2 (m - (0 : Fin 7).succ) r) then 1 else 0)
      + (if gm (ix2 (m - (0 : Fin 7).succ) r) = gm (ix2 m r) ∧ m - (0 : Fin 7).succ < m then 1 else 0) := by
  have e : ∀ m : Fin 8, (⟨(m.val + 8 - 1) % 8, by omega⟩ : Fin 8) = m - (0 : Fin 7).succ := by decide
  pointwise [step]
  rw [e m]
  have := lower8 m 0
  exact congrArg (fun t => _ + Scalar.select (IntOp.andi _ t) 1 0) this |>.trans (congrArg (_ + ·) (select_and _ _ 1 0))

theorem step2_at (gm acc) (m : Fin 8) (r : Fin 256) : step 2#32 gm acc (ix2 m r) =
    acc (ix2 m r) + (if gm (ix2 m r) < gm (ix2 (m - (1 : Fin 7).succ) r) then 1 else 0)
      + (if gm (ix2 (m - (1 : Fin 7).succ) r) = gm (ix2 m r) ∧ m - (1 : Fin 7).succ < m then 1 else 0) := by
  have e : ∀ m : Fin 8, (⟨(m.val + 8 - 2) % 8, by omega⟩ : Fin 8) = m - (1 : Fin 7).succ := by decide
  pointwise [step]
  rw [e m]
  have := lower8 m 1
  exact congrArg (fun t => _ + Scalar.select (IntOp.andi _ t) 1 0) this |>.trans (congrArg (_ + ·) (select_and _ _ 1 0))

theorem step3_at (gm acc) (m : Fin 8) (r : Fin 256) : step 3#32 gm acc (ix2 m r) =
    acc (ix2 m r) + (if gm (ix2 m r) < gm (ix2 (m - (2 : Fin 7).succ) r) then 1 else 0)
      + (if gm (ix2 (m - (2 : Fin 7).succ) r) = gm (ix2 m r) ∧ m - (2 : Fin 7).succ < m then 1 else 0) := by
  have e : ∀ m : Fin 8, (⟨(m.val + 8 - 3) % 8, by omega⟩ : Fin 8) = m - (2 : Fin 7).succ := by decide
  pointwise [step]
  rw [e m]
  have := lower8 m 2
  exact congrArg (fun t => _ + Scalar.select (IntOp.andi _ t) 1 0) this |>.trans (congrArg (_ + ·) (select_and _ _ 1 0))

theorem step4_at (gm acc) (m : Fin 8) (r : Fin 256) : step 4#32 gm acc (ix2 m r) =
    acc (ix2 m r) + (if gm (ix2 m r) < gm (ix2 (m - (3 : Fin 7).succ) r) then 1 else 0)
      + (if gm (ix2 (m - (3 : Fin 7).succ) r) = gm (ix2 m r) ∧ m - (3 : Fin 7).succ < m then 1 else 0) := by
  have e : ∀ m : Fin 8, (⟨(m.val + 8 - 4) % 8, by omega⟩ : Fin 8) = m - (3 : Fin 7).succ := by decide
  pointwise [step]
  rw [e m]
  have := lower8 m 3
  exact congrArg (fun t => _ + Scalar.select (IntOp.andi _ t) 1 0) this |>.trans (congrArg (_ + ·) (select_and _ _ 1 0))

theorem step5_at (gm acc) (m : Fin 8) (r : Fin 256) : step 5#32 gm acc (ix2 m r) =
    acc (ix2 m r) + (if gm (ix2 m r) < gm (ix2 (m - (4 : Fin 7).succ) r) then 1 else 0)
      + (if gm (ix2 (m - (4 : Fin 7).succ) r) = gm (ix2 m r) ∧ m - (4 : Fin 7).succ < m then 1 else 0) := by
  have e : ∀ m : Fin 8, (⟨(m.val + 8 - 5) % 8, by omega⟩ : Fin 8) = m - (4 : Fin 7).succ := by decide
  pointwise [step]
  rw [e m]
  have := lower8 m 4
  exact congrArg (fun t => _ + Scalar.select (IntOp.andi _ t) 1 0) this |>.trans (congrArg (_ + ·) (select_and _ _ 1 0))

theorem step6_at (gm acc) (m : Fin 8) (r : Fin 256) : step 6#32 gm acc (ix2 m r) =
    acc (ix2 m r) + (if gm (ix2 m r) < gm (ix2 (m - (5 : Fin 7).succ) r) then 1 else 0)
      + (if gm (ix2 (m - (5 : Fin 7).succ) r) = gm (ix2 m r) ∧ m - (5 : Fin 7).succ < m then 1 else 0) := by
  have e : ∀ m : Fin 8, (⟨(m.val + 8 - 6) % 8, by omega⟩ : Fin 8) = m - (5 : Fin 7).succ := by decide
  pointwise [step]
  rw [e m]
  have := lower8 m 5
  exact congrArg (fun t => _ + Scalar.select (IntOp.andi _ t) 1 0) this |>.trans (congrArg (_ + ·) (select_and _ _ 1 0))

theorem step7_at (gm acc) (m : Fin 8) (r : Fin 256) : step 7#32 gm acc (ix2 m r) =
    acc (ix2 m r) + (if gm (ix2 m r) < gm (ix2 (m - (6 : Fin 7).succ) r) then 1 else 0)
      + (if gm (ix2 (m - (6 : Fin 7).succ) r) = gm (ix2 m r) ∧ m - (6 : Fin 7).succ < m then 1 else 0) := by
  have e : ∀ m : Fin 8, (⟨(m.val + 8 - 7) % 8, by omega⟩ : Fin 8) = m - (6 : Fin 7).succ := by decide
  pointwise [step]
  rw [e m]
  have := lower8 m 6
  exact congrArg (fun t => _ + Scalar.select (IntOp.andi _ t) 1 0) this |>.trans (congrArg (_ + ·) (select_and _ _ 1 0))

theorem bias_at (n : Fin 8) (gm) (m : Fin 8) (r : Fin 256) : bias (BitVec.ofNat 32 n.val) gm (ix2 m r) =
    if m < n ∧ rank gm (ix2 m r) < ((3 : ℝ) : EReal) then 0 else ⊥ := by
  pointwise [bias]
  rw [slt8, lit_3, mask_eq]
  by_cases h1 : m < n <;> by_cases h2 : rank gm (ix2 m r) < ((3 : ℝ) : EReal) <;> simp [h1, h2, Scalar.select, IntOp.andi]

theorem lanes_at (e b) (r : Fin 256) (x : Fin 128) : lanes e b (ix2 r x) =
    ∑ y, e (ix2 r y) * if h : x.val < 8 then b (ix2 ⟨x.val, h⟩ y) else 0 := by
  pointwise [lanes]

theorem aug_at (q b) (r x : Fin 256) : aug q b (ix2 r x) =
    if h : x.val < 128 then q (ix2 r ⟨x.val, h⟩) else b (ix2 r ⟨x.val - 128, by omega⟩) := by
  pointwise [aug]

theorem close_at (pv g) (r : Fin 256) (c : Fin 128) : close pv g (ix2 r c) =
    Ideal.div (pv (ix2 r ⟨c.val, by omega⟩)) (pv (ix2 r ⟨128 + c.val, by omega⟩)) * g (ix2 r c) := by
  pointwise [close]

theorem top0_at (s) (r : Fin 256) : top0 s (ix2 r 0) = Finset.univ.fold max ⊥ fun x => s (ix2 r x) := by
  pointwise [top0]
  rw [lit_bot]

theorem pv0_at (s v) (r : Fin 256) (j : Fin 256) : pv0 s v (ix2 r j) =
    ∑ x, Ideal.exp2 (s (ix2 r x) - top0 s (ix2 r 0)) * if h : j.val < 128 then v (ix2 x ⟨j.val, h⟩) else 1 := by
  pointwise [pv0]
  rfl

theorem past1_at (q k) (r : Fin 256) (i : Fin 256) : past1 q k (ix2 r i) = ∑ x, q (ix2 r x) * k (ix2 i x) := by
  pointwise [past1]

theorem past2_at (q k) (r : Fin 256) (i : Fin 512) : past2 q k (ix2 r i) = ∑ x, q (ix2 r x) * k (ix2 i x) := by
  pointwise [past2]

theorem past3_at (q k) (r : Fin 256) (i : Fin 768) : past3 q k (ix2 r i) = ∑ x, q (ix2 r x) * k (ix2 i x) := by
  pointwise [past3]

theorem past4_at (qa k h) (r : Fin 256) (i : Fin 1024) : past4 qa k h (ix2 r i) =
    ∑ x : Fin 128, qa (ix2 r ⟨x.val, by omega⟩) * k (ix2 i x) + ∑ x : Fin 128, qa (ix2 r ⟨128 + x.val, by omega⟩) * h (ix2 i x) := by
  pointwise [past4]

theorem past5_at (qa k h) (r : Fin 256) (i : Fin 1280) : past5 qa k h (ix2 r i) =
    ∑ x : Fin 128, qa (ix2 r ⟨x.val, by omega⟩) * k (ix2 i x) + ∑ x : Fin 128, qa (ix2 r ⟨128 + x.val, by omega⟩) * h (ix2 i x) := by
  pointwise [past5]

theorem past6_at (qa k h) (r : Fin 256) (i : Fin 1536) : past6 qa k h (ix2 r i) =
    ∑ x : Fin 128, qa (ix2 r ⟨x.val, by omega⟩) * k (ix2 i x) + ∑ x : Fin 128, qa (ix2 r ⟨128 + x.val, by omega⟩) * h (ix2 i x) := by
  pointwise [past6]

theorem past7_at (qa k h) (r : Fin 256) (i : Fin 1792) : past7 qa k h (ix2 r i) =
    ∑ x : Fin 128, qa (ix2 r ⟨x.val, by omega⟩) * k (ix2 i x) + ∑ x : Fin 128, qa (ix2 r ⟨128 + x.val, by omega⟩) * h (ix2 i x) := by
  pointwise [past7]

theorem block0 (x : B2 2048 128) (r : Fin 256) (c : Fin 128) :
    (View.ld x r0_2 : B2 256 128) (ix2 r c) = x (ix2 ⟨0 + r.val, by omega⟩ c) := by
  pointwise [r0_2]

theorem block1 (x : B2 2048 128) (r : Fin 256) (c : Fin 128) :
    (View.ld x r0_3 : B2 256 128) (ix2 r c) = x (ix2 ⟨256 + r.val, by omega⟩ c) := by
  pointwise [r0_3]

theorem block2 (x : B2 2048 128) (r : Fin 256) (c : Fin 128) :
    (View.ld x r0_4 : B2 256 128) (ix2 r c) = x (ix2 ⟨512 + r.val, by omega⟩ c) := by
  pointwise [r0_4]

theorem block3 (x : B2 2048 128) (r : Fin 256) (c : Fin 128) :
    (View.ld x r0_6 : B2 256 128) (ix2 r c) = x (ix2 ⟨768 + r.val, by omega⟩ c) := by
  pointwise [r0_6]

theorem block4 (x : B2 2048 128) (r : Fin 256) (c : Fin 128) :
    (View.ld x r0_8 : B2 256 128) (ix2 r c) = x (ix2 ⟨1024 + r.val, by omega⟩ c) := by
  pointwise [r0_8]

theorem block5 (x : B2 2048 128) (r : Fin 256) (c : Fin 128) :
    (View.ld x r0_11 : B2 256 128) (ix2 r c) = x (ix2 ⟨1280 + r.val, by omega⟩ c) := by
  pointwise [r0_11]

theorem block6 (x : B2 2048 128) (r : Fin 256) (c : Fin 128) :
    (View.ld x r0_13 : B2 256 128) (ix2 r c) = x (ix2 ⟨1536 + r.val, by omega⟩ c) := by
  pointwise [r0_13]

theorem block7 (x : B2 2048 128) (r : Fin 256) (c : Fin 128) :
    (View.ld x r0_15 : B2 256 128) (ix2 r c) = x (ix2 ⟨1792 + r.val, by omega⟩ c) := by
  pointwise [r0_15]

theorem rows1 (x : B2 2048 128) (i : Fin 256) (c : Fin 128) :
    (View.ld x r0_2 : B2 256 128) (ix2 i c) = x (ix2 ⟨i.val, by omega⟩ c) := by
  pointwise [r0_2]

theorem rows2 (x : B2 2048 128) (i : Fin 512) (c : Fin 128) :
    (View.ld x r0_5 : B2 512 128) (ix2 i c) = x (ix2 ⟨i.val, by omega⟩ c) := by
  pointwise [r0_5]

theorem rows3 (x : B2 2048 128) (i : Fin 768) (c : Fin 128) :
    (View.ld x r0_7 : B2 768 128) (ix2 i c) = x (ix2 ⟨i.val, by omega⟩ c) := by
  pointwise [r0_7]

theorem rows4 (x : B2 2048 128) (i : Fin 1024) (c : Fin 128) :
    (View.ld x r0_10 : B2 1024 128) (ix2 i c) = x (ix2 ⟨i.val, by omega⟩ c) := by
  pointwise [r0_10]

theorem rows5 (x : B2 2048 128) (i : Fin 1280) (c : Fin 128) :
    (View.ld x r0_12 : B2 1280 128) (ix2 i c) = x (ix2 ⟨i.val, by omega⟩ c) := by
  pointwise [r0_12]

theorem rows6 (x : B2 2048 128) (i : Fin 1536) (c : Fin 128) :
    (View.ld x r0_14 : B2 1536 128) (ix2 i c) = x (ix2 ⟨i.val, by omega⟩ c) := by
  pointwise [r0_14]

theorem rows7 (x : B2 2048 128) (i : Fin 1792) (c : Fin 128) :
    (View.ld x r0_16 : B2 1792 128) (ix2 i c) = x (ix2 ⟨i.val, by omega⟩ c) := by
  pointwise [r0_16]

theorem rows8 (x : B2 2048 128) (i : Fin 2048) (c : Fin 128) :
    (View.ld x r0_1 : B2 2048 128) (ix2 i c) = x (ix2 ⟨i.val, by omega⟩ c) := by
  pointwise [r0_1]

theorem all_avg (x : B2 16 2048) (m : Fin 16) (i : Fin 2048) : (View.ld x r0_0 : B2 16 2048) (ix2 m i) = x (ix2 m i) := by
  pointwise [r0_0]

theorem all_eye (x : B2 256 256) (r y : Fin 256) : (View.ld x r0_9 : B2 256 256) (ix2 r y) = x (ix2 r y) := by
  pointwise [r0_9]

end Cert.Proof.Ker

end
-- ==== Proof.KerReadSums.lean ====
/- The kernel's greatest scores and weighted values of the blocks after the first read at an index. -/
module

public import proofs.«01_k».proof.Proof.KerRead

@[expose] public section

set_option maxRecDepth 16384

noncomputable section

namespace Cert.Proof.Ker

open Idealize.ShloMosaic Cert.KernelIdeal Cert.Proof
open Cert.KernelIdeal.Gen (r0_0 r0_1 r0_2 r0_3 r0_4 r0_5 r0_6 r0_7 r0_8 r0_9 r0_10 r0_11 r0_12 r0_13 r0_14 r0_15 r0_16)

theorem top1_at (s p) (r : Fin 256) : top1 s p (ix2 r 0) =
    max (top0 s (ix2 r 0)) (Finset.univ.fold max ⊥ fun x => p (ix2 r x)) := by
  pointwise [top1]
  rw [lit_bot]

theorem pv1_at (s p v) (r : Fin 256) (j : Fin 256) : pv1 s p v (ix2 r j) =
    (∑ x : Fin 256, Ideal.exp2 (p (ix2 r x) - top1 s p (ix2 r 0)) * if h : j.val < 128 then v (ix2 ⟨x.val, by omega⟩ ⟨j.val, h⟩) else 1)
    + ∑ x : Fin 256, Ideal.exp2 (s (ix2 r x) - top1 s p (ix2 r 0)) * if h : j.val < 128 then v (ix2 ⟨256 + x.val, by omega⟩ ⟨j.val, h⟩) else 1 := by
  pointwise [pv1]
  rfl

theorem top2_at (s p) (r : Fin 256) : top2 s p (ix2 r 0) =
    max (top0 s (ix2 r 0)) (Finset.univ.fold max ⊥ fun x => p (ix2 r x)) := by
  pointwise [top2]
  rw [lit_bot]

theorem pv2_at (s p v) (r : Fin 256) (j : Fin 256) : pv2 s p v (ix2 r j) =
    (∑ x : Fin 512, Ideal.exp2 (p (ix2 r x) - top2 s p (ix2 r 0)) * if h : j.val < 128 then v (ix2 ⟨x.val, by omega⟩ ⟨j.val, h⟩) else 1)
    + ∑ x : Fin 256, Ideal.exp2 (s (ix2 r x) - top2 s p (ix2 r 0)) * if h : j.val < 128 then v (ix2 ⟨512 + x.val, by omega⟩ ⟨j.val, h⟩) else 1 := by
  pointwise [pv2]
  rfl

theorem top3_at (s p) (r : Fin 256) : top3 s p (ix2 r 0) =
    max (top0 s (ix2 r 0)) (Finset.univ.fold max ⊥ fun x => p (ix2 r x)) := by
  pointwise [top3]
  rw [lit_bot]

theorem pv3_at (s p v) (r : Fin 256) (j : Fin 256) : pv3 s p v (ix2 r j) =
    (∑ x : Fin 768, Ideal.exp2 (p (ix2 r x) - top3 s p (ix2 r 0)) * if h : j.val < 128 then v (ix2 ⟨x.val, by omega⟩ ⟨j.val, h⟩) else 1)
    + ∑ x : Fin 256, Ideal.exp2 (s (ix2 r x) - top3 s p (ix2 r 0)) * if h : j.val < 128 then v (ix2 ⟨768 + x.val, by omega⟩ ⟨j.val, h⟩) else 1 := by
  pointwise [pv3]
  rfl

theorem top4_at (s p) (r : Fin 256) : top4 s p (ix2 r 0) =
    max (top0 s (ix2 r 0)) (Finset.univ.fold max ⊥ fun x => p (ix2 r x)) := by
  pointwise [top4]
  rw [lit_bot]

theorem pv4_at (s p v) (r : Fin 256) (j : Fin 256) : pv4 s p v (ix2 r j) =
    (∑ x : Fin 1024, Ideal.exp2 (p (ix2 r x) - top4 s p (ix2 r 0)) * if h : j.val < 128 then v (ix2 ⟨x.val, by omega⟩ ⟨j.val, h⟩) else 1)
    + ∑ x : Fin 256, Ideal.exp2 (s (ix2 r x) - top4 s p (ix2 r 0)) * if h : j.val < 128 then v (ix2 ⟨1024 + x.val, by omega⟩ ⟨j.val, h⟩) else 1 := by
  pointwise [pv4]
  rfl

theorem top5_at (s p) (r : Fin 256) : top5 s p (ix2 r 0) =
    max (top0 s (ix2 r 0)) (Finset.univ.fold max ⊥ fun x => p (ix2 r x)) := by
  pointwise [top5]
  rw [lit_bot]

theorem pv5_at (s p v) (r : Fin 256) (j : Fin 256) : pv5 s p v (ix2 r j) =
    (∑ x : Fin 1280, Ideal.exp2 (p (ix2 r x) - top5 s p (ix2 r 0)) * if h : j.val < 128 then v (ix2 ⟨x.val, by omega⟩ ⟨j.val, h⟩) else 1)
    + ∑ x : Fin 256, Ideal.exp2 (s (ix2 r x) - top5 s p (ix2 r 0)) * if h : j.val < 128 then v (ix2 ⟨1280 + x.val, by omega⟩ ⟨j.val, h⟩) else 1 := by
  pointwise [pv5]
  rfl

theorem top6_at (s p) (r : Fin 256) : top6 s p (ix2 r 0) =
    max (top0 s (ix2 r 0)) (Finset.univ.fold max ⊥ fun x => p (ix2 r x)) := by
  pointwise [top6]
  rw [lit_bot]

theorem pv6_at (s p v) (r : Fin 256) (j : Fin 256) : pv6 s p v (ix2 r j) =
    (∑ x : Fin 1536, Ideal.exp2 (p (ix2 r x) - top6 s p (ix2 r 0)) * if h : j.val < 128 then v (ix2 ⟨x.val, by omega⟩ ⟨j.val, h⟩) else 1)
    + ∑ x : Fin 256, Ideal.exp2 (s (ix2 r x) - top6 s p (ix2 r 0)) * if h : j.val < 128 then v (ix2 ⟨1536 + x.val, by omega⟩ ⟨j.val, h⟩) else 1 := by
  pointwise [pv6]
  rfl

theorem top7_at (s p) (r : Fin 256) : top7 s p (ix2 r 0) =
    max (top0 s (ix2 r 0)) (Finset.univ.fold max ⊥ fun x => p (ix2 r x)) := by
  pointwise [top7]
  rw [lit_bot]

theorem pv7_at (s p v) (r : Fin 256) (j : Fin 256) : pv7 s p v (ix2 r j) =
    (∑ x : Fin 1792, Ideal.exp2 (p (ix2 r x) - top7 s p (ix2 r 0)) * if h : j.val < 128 then v (ix2 ⟨x.val, by omega⟩ ⟨j.val, h⟩) else 1)
    + ∑ x : Fin 256, Ideal.exp2 (s (ix2 r x) - top7 s p (ix2 r 0)) * if h : j.val < 128 then v (ix2 ⟨1792 + x.val, by omega⟩ ⟨j.val, h⟩) else 1 := by
  pointwise [pv7]
  rfl

end Cert.Proof.Ker

end
-- ==== Proof.TopK.lean ====
/- The choice of blocks. The reference sorts the eight affinities of a query, greatest first and ties in index order, and
   takes the first three; the kernel keeps a block whose rank, counted by comparisons, is below three. Both choose the same
   blocks: a block is among the first three positions of the stable sort exactly when fewer than three blocks come before
   it. -/
module

public import Idealize.ShloMosaic.PureOps.Ideal
public import Idealize.ShloMosaic.Lib.SortFacts

@[expose] public section

set_option maxRecDepth 16384

noncomputable section

namespace Cert.Proof.TopK

open Idealize.ShloMosaic

variable {n : ℕ}

/-- The sort's comparison completed by the index: a total order of the positions. -/
def ahead (x : Fin n → EReal) (a b : Fin n) : Bool := decide (x b < x a ∨ (x a = x b ∧ a < b))

theorem ahead_irrefl (x : Fin n → EReal) (a : Fin n) : ahead x a a = false := by simp [ahead]

theorem ahead_asymm (x : Fin n → EReal) (a b : Fin n) (h : ahead x a b = true) : ahead x b a = false := by
  simp only [ahead, decide_eq_true_eq, decide_eq_false_iff_not] at *
  rintro (h' | ⟨e, l⟩)
  · rcases h with h | ⟨e, l⟩
    · exact absurd (h.trans h') (lt_irrefl _)
    · exact absurd h' (by rw [e]; exact lt_irrefl _)
  · rcases h with h | ⟨e', l'⟩
    · exact absurd h (by rw [e]; exact lt_irrefl _)
    · exact absurd (l.trans l') (lt_irrefl _)

theorem ahead_total (x : Fin n → EReal) (a b : Fin n) (hne : a ≠ b) (h : ahead x a b = false) : ahead x b a = true := by
  simp only [ahead, decide_eq_true_eq, decide_eq_false_iff_not, not_or, not_and, not_lt] at *
  rcases lt_or_eq_of_le h.1 with h1 | h1
  · exact Or.inl h1
  · exact Or.inr ⟨h1.symm, lt_of_le_of_ne (h.2 h1) hne.symm⟩

theorem ahead_negtrans (x : Fin n → EReal) (a b c : Fin n) (hab : ahead x a b = false) (hbc : ahead x b c = false) :
    ahead x a c = false := by
  simp only [ahead, decide_eq_false_iff_not, not_or, not_and, not_lt] at *
  obtain ⟨h1, h2⟩ := hab
  obtain ⟨h3, h4⟩ := hbc
  refine ⟨h1.trans h3, fun e => ?_⟩
  have e1 : x a = x b := le_antisymm h1 (by rw [e]; exact h3)
  have e2 : x b = x c := e1.symm.trans e
  exact (h4 e2).trans (h2 e1)

/-- The stable sort of an increasing list never needs the index: it sorts as under the completed order. -/
theorem stable_eq (x : Fin n → EReal) (R : Fin n → Fin n → Bool) (hR : ∀ a b, R a b = decide (x b < x a)) (l : List (Fin n))
    (hl : l.Pairwise (· < ·)) : stableSort R l = stableSort (ahead x) l := by
  induction l with
  | nil => rfl
  | cons a l ih =>
    rw [List.pairwise_cons] at hl
    unfold stableSort
    rw [ih hl.2]
    refine insertBefore_congr _ _ _ _ fun b hb => ?_
    have hb' : b ∈ l := (perm_stableSort _ l).mem_iff.mp hb
    have hlt := hl.1 b hb'
    rw [hR]
    simp only [ahead, decide_eq_decide]
    exact ⟨Or.inl, fun h => h.elim id fun h => absurd (h.2.trans hlt) (lt_irrefl _)⟩

theorem sorted_eq (x : Fin n → EReal) (R : Fin n → Fin n → Bool) (hR : ∀ a b, R a b = decide (x b < x a)) :
    sortedFrom R = sortedFrom (ahead x) := by
  funext k
  unfold sortedFrom
  have : sortPositions n R = sortPositions n (ahead x) := stable_eq x R hR _ (List.pairwise_lt_finRange n)
  rw [List.get_of_eq this]
  rfl

/-- How many positions come before `m`. -/
def rank (x : Fin n → EReal) (m : Fin n) : ℕ := (Finset.univ.filter fun a => ahead x a m = true).card

theorem ahead_sorted (x : Fin n → EReal) (i j : Fin n) :
    ahead x (sortedFrom (ahead x) i) (sortedFrom (ahead x) j) = true ↔ i < j := by
  have key : ∀ i j : Fin n, i < j → ahead x (sortedFrom (ahead x) j) (sortedFrom (ahead x) i) = false :=
    sortedFrom_noInversion (ahead x) (ahead x) (ahead_asymm x) (fun _ _ h => h) (ahead_negtrans x)
  constructor
  · intro h
    rcases lt_trichotomy i j with h1 | h1 | h1
    · exact h1
    · subst h1; rw [ahead_irrefl] at h; exact absurd h (by decide)
    · rw [key j i h1] at h; exact absurd h (by decide)
  · intro h
    exact ahead_total x _ _ (fun e => absurd (sortedFrom_injective _ e) (ne_of_gt h)) (key i j h)

theorem rank_sorted (x : Fin n → EReal) (j : Fin n) : rank x (sortedFrom (ahead x) j) = j := by
  have : (Finset.univ.filter fun a => ahead x a (sortedFrom (ahead x) j) = true)
      = (Finset.Iio j).map ⟨sortedFrom (ahead x), sortedFrom_injective _⟩ := by
    ext a
    obtain ⟨i, rfl⟩ := sortedFrom_surjective (ahead x) a
    simp only [Finset.mem_filter, Finset.mem_univ, true_and, ahead_sorted, Finset.mem_map, Finset.mem_Iio,
      Function.Embedding.coeFn_mk]
    constructor
    · intro h; exact ⟨i, h, rfl⟩
    · rintro ⟨k, hk, e⟩; rw [← sortedFrom_injective _ e]; exact hk
  unfold rank
  rw [this, Finset.card_map, Fin.card_Iio]

/-- A sum over the first `t` sorted positions is the sum over the positions of rank below `t`. -/
theorem sum_top (x : Fin n → EReal) (R : Fin n → Fin n → Bool) (hR : ∀ a b, R a b = decide (x b < x a)) {t : ℕ} (ht : t ≤ n)
    (f : Fin n → EReal) :
    ∑ j : Fin t, f (sortedFrom R (Fin.castLE ht j)) = ∑ m : Fin n, if rank x m < t then f m else 0 := by
  rw [sorted_eq x R hR, ← Finset.sum_filter]
  refine Finset.sum_bij (fun j _ => sortedFrom (ahead x) (Fin.castLE ht j)) ?_ ?_ ?_ ?_
  · intro j _
    simp only [Finset.mem_filter, Finset.mem_univ, true_and, rank_sorted, Fin.val_castLE]
    exact j.isLt
  · intro i _ j _ e
    exact Fin.castLE_injective ht (sortedFrom_injective _ e)
  · intro m hm
    obtain ⟨i, rfl⟩ := sortedFrom_surjective (ahead x) m
    simp only [Finset.mem_filter, Finset.mem_univ, true_and, rank_sorted] at hm
    exact ⟨⟨i, hm⟩, Finset.mem_univ _, rfl⟩
  · intro j _; rfl

/-- The kernel's count over the seven other blocks, met by cyclic shifts, is the rank. -/
theorem rank_eq_shifts (x : Fin 8 → EReal) (m : Fin 8) :
    rank x m = ∑ r : Fin 7, ((if x m < x (m - r.succ) then 1 else 0)
      + (if x (m - r.succ) = x m ∧ m - r.succ < m then 1 else 0)) := by
  have h1 : rank x m = ∑ a : Fin 8, if ahead x a m = true then 1 else 0 := by
    unfold rank; rw [Finset.card_filter]
  have h2 : ∀ a, (if ahead x a m = true then 1 else 0)
      = (if x m < x a then 1 else 0) + (if x a = x m ∧ a < m then 1 else 0) := by
    intro a
    by_cases h : x m < x a
    · have : ¬ (x a = x m ∧ a < m) := fun h' => absurd h (by rw [h'.1]; exact lt_irrefl _)
      simp [ahead, h, this]
    · by_cases h' : x a = x m ∧ a < m <;> simp [ahead, h, h']
  have h3 : ∑ a : Fin 8, (if ahead x a m = true then 1 else 0)
      = ∑ s : Fin 8, (if ahead x (m - s) m = true then 1 else 0) :=
    (Fintype.sum_equiv (Equiv.subLeft m) _ _ fun s => rfl).symm
  rw [h1, h3, Fin.sum_univ_succ]
  simp only [sub_zero, ahead_irrefl, Bool.false_eq_true, if_false, zero_add]
  exact Finset.sum_congr rfl fun r _ => h2 _

end Cert.Proof.TopK

end
-- ==== Proof.Soft.lean ====
/- Softmax-weighted averages over extended reals, without their shift. Where every score is below ⊤ and the subtracted
   maximum is a real, the average does not depend on it: numerator and denominator lose the same positive factor. -/
module

public import Idealize.ShloMosaic.PureOps.Ideal

@[expose] public section

set_option maxRecDepth 16384

noncomputable section

namespace Cert.Proof.Soft

open Idealize.ShloMosaic

variable {ι : Type} [Fintype ι]

/-- A real factor above zero goes through a sum of extended reals. -/
theorem mul_sum (c : ℝ) (hc : 0 < c) (f : ι → EReal) : ∑ j, (c : EReal) * f j = (c : EReal) * ∑ j, f j := by
  classical
  induction (Finset.univ : Finset ι) using Finset.induction_on with
  | empty => simp
  | insert a s ha ih =>
    rw [Finset.sum_insert ha, Finset.sum_insert ha, ih, EReal.left_distrib_of_nonneg_of_ne_top]
    · exact_mod_cast hc.le
    · exact EReal.coe_ne_top c

/-- A sum of coerced reals. -/
theorem sum_coe (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

/-- The weight of a score: `exp`, which is a real where the score is below ⊤. -/
def wt (x : EReal) : ℝ := if x = ⊥ then 0 else Real.exp x.toReal

theorem wt_nonneg (x : EReal) : 0 ≤ wt x := by
  unfold wt; split
  · exact le_refl _
  · exact (Real.exp_pos _).le

theorem wt_bot : wt ⊥ = 0 := if_pos rfl

theorem wt_coe (x : ℝ) : wt (x : EReal) = Real.exp x := by
  unfold wt; rw [if_neg (EReal.coe_ne_bot x), EReal.toReal_coe]

theorem exp_shift (x : EReal) (hx : x ≠ ⊤) (m : ℝ) : Ideal.exp (x - (m : EReal)) = ((Real.exp (-m) * wt x : ℝ) : EReal) := by
  induction x using EReal.rec with
  | bot => rw [EReal.bot_sub, wt_bot, mul_zero]; rfl
  | top => exact absurd rfl hx
  | coe x =>
    rw [← EReal.coe_sub, wt_coe, ← Real.exp_add, show -m + x = x - m by ring]
    rfl

/-- The weight in base two. -/
def wt2 (x : EReal) : ℝ := if x = ⊥ then 0 else Real.rpow 2 x.toReal

theorem wt2_bot : wt2 ⊥ = 0 := if_pos rfl

theorem wt2_coe (x : ℝ) : wt2 (x : EReal) = Real.rpow 2 x := by
  unfold wt2; rw [if_neg (EReal.coe_ne_bot x), EReal.toReal_coe]

theorem wt2_nonneg (x : EReal) : 0 ≤ wt2 x := by
  unfold wt2; split
  · exact le_refl _
  · exact Real.rpow_nonneg (by norm_num) _

theorem exp2_shift (x : EReal) (hx : x ≠ ⊤) (m : ℝ) :
    Ideal.exp2 (x - (m : EReal)) = ((Real.rpow 2 (-m) * wt2 x : ℝ) : EReal) := by
  induction x using EReal.rec with
  | bot => rw [EReal.bot_sub, wt2_bot, mul_zero]; rfl
  | top => exact absurd rfl hx
  | coe x =>
    have h : Real.rpow 2 (-m) * Real.rpow 2 x = Real.rpow 2 (x - m) := by
      have := (Real.rpow_add (by norm_num : (0 : ℝ) < 2) (-m) x).symm
      rw [show -m + x = x - m by ring] at this
      exact this
    rw [← EReal.coe_sub, wt2_coe, h]
    rfl

theorem wt2_div_log (x : ℝ) : wt2 (((x / Real.log 2 : ℝ)) : EReal) = Real.exp x := by
  rw [wt2_coe]
  show (2 : ℝ) ^ (x / Real.log 2) = _
  rw [Real.rpow_def_of_pos (by norm_num), mul_div_cancel₀]
  exact (Real.log_pos (by norm_num)).ne'

/-- The average: weights `w` over values `v`. -/
def avg (w : ι → ℝ) (v : ι → EReal) : EReal := (∑ j, (w j : EReal) * v j) * (((∑ j, w j)⁻¹ : ℝ) : EReal)

theorem div_coe (x : EReal) (y : ℝ) (hy : 0 < y) : Ideal.div x (y : EReal) = x * ((y⁻¹ : ℝ) : EReal) := by
  unfold Ideal.div
  rw [if_neg (by exact_mod_cast hy.ne'), EReal.coe_inv]

/-- Numerator over denominator, both with the factor `c`. -/
theorem div_scaled (c : ℝ) (hc : 0 < c) (w : ι → ℝ) (hw : 0 < ∑ j, w j) (v : ι → EReal) :
    Ideal.div (∑ j, ((c * w j : ℝ) : EReal) * v j) ((∑ j, (c * w j) : ℝ) : EReal) = avg w v := by
  have e1 : ∑ j, ((c * w j : ℝ) : EReal) * v j = (c : EReal) * ∑ j, (w j : EReal) * v j := by
    rw [← mul_sum c hc]
    exact Finset.sum_congr rfl fun j _ => by rw [EReal.coe_mul, mul_assoc]
  rw [e1, ← Finset.mul_sum, div_coe _ _ (mul_pos hc hw)]
  unfold avg
  rw [mul_comm (c : EReal), mul_assoc, ← EReal.coe_mul]
  congr 2
  field_simp

/-- The kernel's average: weights in base two over their sum. -/
theorem soft2 (X : ι → EReal) (hX : ∀ j, X j ≠ ⊤) (m : ℝ) (w : ι → ℝ) (hw : ∀ j, wt2 (X j) = w j) (hp : 0 < ∑ j, w j) (v : ι → EReal) :
    Ideal.div (∑ j, Ideal.exp2 (X j - (m : EReal)) * v j) (∑ j, Ideal.exp2 (X j - (m : EReal)) * 1) = avg w v := by
  simp only [exp2_shift _ (hX _), hw, mul_one]
  rw [sum_coe]
  exact div_scaled _ (Real.rpow_pos_of_pos (by norm_num) _) w hp v

/-- The reference's: each weight divided by the sum, then the values. -/
theorem soft1 (X : ι → EReal) (hX : ∀ j, X j ≠ ⊤) (m : ℝ) (w : ι → ℝ) (hw : ∀ j, wt (X j) = w j) (hp : 0 < ∑ j, w j) (v : ι → EReal) :
    ∑ j, Ideal.div (Ideal.exp (X j - (m : EReal))) (∑ i, Ideal.exp (X i - (m : EReal))) * v j = avg w v := by
  simp only [exp_shift _ (hX _), hw]
  rw [sum_coe, ← div_scaled (Real.exp (-m)) (Real.exp_pos _) w hp v]
  have hq : 0 < ∑ j, Real.exp (-m) * w j := by rw [← Finset.mul_sum]; exact mul_pos (Real.exp_pos _) hp
  simp only [div_coe _ _ hq]
  rw [mul_comm, ← mul_sum _ (inv_pos.mpr hq)]
  exact Finset.sum_congr rfl fun j _ => by rw [mul_comm _ (((_)⁻¹ : ℝ) : EReal), mul_assoc]

/-- A folded maximum of scores, one of them a real and none ⊤, is a real. -/
theorem max_real (X : ι → EReal) (hX : ∀ j, X j ≠ ⊤) (j : ι) (hj : X j ≠ ⊥) :
    ∃ m : ℝ, Finset.univ.fold max ⊥ X = (m : EReal) := by
  have h1 : X j ≤ Finset.univ.fold max ⊥ X := (Finset.le_fold_max _).mpr (Or.inr ⟨j, Finset.mem_univ j, le_refl _⟩)
  have h2 : Finset.univ.fold max ⊥ X < ⊤ :=
    (Finset.fold_max_lt _).mpr ⟨bot_lt_top, fun i _ => lt_top_iff_ne_top.mpr (hX i)⟩
  refine ⟨(Finset.univ.fold max ⊥ X).toReal, (EReal.coe_toReal h2.ne fun e => hj ?_).symm⟩
  rw [e] at h1
  exact le_bot_iff.mp h1

end Cert.Proof.Soft

end
-- ==== Proof.Spec.lean ====
/- Block attention with three chosen past blocks, over the reals: what both programs compute for one batch and head. -/
module

public import proofs.«01_k».proof.Proof.TopK
public import proofs.«01_k».proof.Proof.Soft

@[expose] public section

set_option maxRecDepth 16384

noncomputable section

namespace Cert.Proof.Spec

open Idealize.ShloMosaic Cert.Proof Classical

/-- Queries or keys of one batch and head: block, row, channel. -/
abbrev Mat := Fin 8 → Fin 256 → Fin 128 → ℝ

variable (c0 : ℝ) (q k : Mat) (v : Fin 8 → Fin 256 → Fin 128 → EReal)

/-- The product of a query and a key. -/
def qk (n : Fin 8) (r : Fin 256) (m : Fin 8) (j : Fin 256) : ℝ := ∑ x, q n r x * k m j x

/-- A query's affinity to a block: its product with the block's mean key. -/
def affinity (n : Fin 8) (r : Fin 256) (m : Fin 8) : ℝ := ∑ x, q n r x * ((∑ j, k m j x) / 256)

/-- The affinity to the blocks before the query's. -/
def past (n : Fin 8) (r : Fin 256) (m : Fin 8) : EReal := if m < n then (affinity q k n r m : EReal) else ⊥

/-- A block the query attends to beside its own. -/
def chosen (n : Fin 8) (r : Fin 256) (m : Fin 8) : Prop := m < n ∧ TopK.rank (past q k n r) m < 3

abbrev Key := (Fin 8 × Fin 256) ⊕ Fin 256

/-- The weight of a key. -/
def weight (n : Fin 8) (r : Fin 256) : Key → ℝ
  | .inl (m, j) => if chosen q k n r m then Real.exp (c0 * qk q k n r m j) else 0
  | .inr j => if j ≤ r then Real.exp (c0 * qk q k n r n j) else 0

/-- The value of a key at a channel. -/
def value (n : Fin 8) (c : Fin 128) : Key → EReal
  | .inl (m, j) => v m j c
  | .inr j => v n j c

/-- The attention's output. -/
def attn (n : Fin 8) (r : Fin 256) (c : Fin 128) : EReal := Soft.avg (weight c0 q k n r) (value v n c)

variable {ι κ : Type} [Fintype ι] [Fintype κ]

/-- Averages agree when their weighted sums and their weights' sums do. -/
theorem avg_eq (w : ι → ℝ) (x : ι → EReal) (w' : κ → ℝ) (x' : κ → EReal)
    (h1 : ∑ i, (w i : EReal) * x i = ∑ i, (w' i : EReal) * x' i)
    (h2 : ∑ i, (w i : EReal) = ∑ i, (w' i : EReal)) : Soft.avg w x = Soft.avg w' x' := by
  unfold Soft.avg
  rw [h1]
  rw [Soft.sum_coe, Soft.sum_coe] at h2
  rw [EReal.coe_injective h2]

/-- The weighted sum over all keys, by blocks. -/
theorem sum_weight (n : Fin 8) (r : Fin 256) (f : Key → EReal) :
    ∑ i, (weight c0 q k n r i : EReal) * f i =
      ∑ m : Fin 8, (if TopK.rank (past q k n r) m < 3 then
        (if m < n then ∑ j, ((Real.exp (c0 * qk q k n r m j) : ℝ) : EReal) * f (.inl (m, j)) else 0) else 0)
      + ∑ j, (((if j ≤ r then Real.exp (c0 * qk q k n r n j) else 0 : ℝ)) : EReal) * f (.inr j) := by
  rw [Fintype.sum_sum_type, Fintype.sum_prod_type]
  refine congrArg₂ (· + ·) (Finset.sum_congr rfl fun m _ => ?_) rfl
  by_cases h1 : m < n <;> by_cases h2 : TopK.rank (past q k n r) m < 3 <;>
    simp [weight, chosen, h1, h2]

theorem weight_pos (n : Fin 8) (r : Fin 256) : 0 < ∑ i, weight c0 q k n r i := by
  refine Finset.sum_pos' (fun i _ => ?_) ⟨.inr r, Finset.mem_univ _, ?_⟩
  · rcases i with ⟨m, j⟩ | j <;> simp only [weight] <;> split <;> first | exact (Real.exp_pos _).le | exact le_refl _
  · simp only [weight, le_refl, if_true]; exact Real.exp_pos _

/-- The reference's softmax for one query: three chosen blocks by the sorted order, then its own. `X`
    lists the scores, `s i` is the `i`-th chosen block. -/
theorem attn_of_sorted (n : Fin 8) (r : Fin 256) (c : Fin 128) (R : Fin 8 → Fin 8 → Bool)
    (hR : ∀ a b, R a b = decide (past q k n r b < past q k n r a))
    (X : (Fin 3 × Fin 256) ⊕ Fin 256 → EReal)
    (h1 : ∀ i j, X (.inl (i, j)) = if sortedFrom R (Fin.castLE (by decide : 3 ≤ 8) i) < n
      then ((c0 * qk q k n r (sortedFrom R (Fin.castLE (by decide : 3 ≤ 8) i)) j : ℝ) : EReal) else ⊥)
    (h2 : ∀ j, X (.inr j) = if j ≤ r then ((c0 * qk q k n r n j : ℝ) : EReal) else ⊥) (M : ℝ) :
    ∑ j, Ideal.div (Ideal.exp (X j - (M : EReal))) (∑ i, Ideal.exp (X i - (M : EReal))) *
      (match j with | .inl (i, j) => v (sortedFrom R (Fin.castLE (by decide : 3 ≤ 8) i)) j c | .inr j => v n j c)
      = attn c0 q k v n r c := by
  have hX : ∀ i, X i ≠ ⊤ := by
    rintro (⟨i, j⟩ | j)
    · rw [h1]; split; exacts [EReal.coe_ne_top _, bot_ne_top]
    · rw [h2]; split; exacts [EReal.coe_ne_top _, bot_ne_top]
  have hw1 : ∀ i j, Soft.wt (X (.inl (i, j))) = if sortedFrom R (Fin.castLE (by decide : 3 ≤ 8) i) < n
      then Real.exp (c0 * qk q k n r (sortedFrom R (Fin.castLE (by decide : 3 ≤ 8) i)) j) else 0 := by
    intro i j; rw [h1]; split
    · exact Soft.wt_coe _
    · exact Soft.wt_bot
  have hw2 : ∀ j, Soft.wt (X (.inr j)) = if j ≤ r then Real.exp (c0 * qk q k n r n j) else 0 := by
    intro j; rw [h2]; split
    · exact Soft.wt_coe _
    · exact Soft.wt_bot
  have hp : 0 < ∑ j, Soft.wt (X j) := by
    refine Finset.sum_pos' (fun i _ => Soft.wt_nonneg _) ⟨.inr r, Finset.mem_univ _, ?_⟩
    rw [hw2, if_pos (le_refl _)]; exact Real.exp_pos _
  have key : ∀ f : Key → EReal, ∀ g : (Fin 3 × Fin 256) ⊕ Fin 256 → EReal,
      (∀ i j, g (.inl (i, j)) = f (.inl (sortedFrom R (Fin.castLE (by decide : 3 ≤ 8) i), j))) →
      (∀ j, g (.inr j) = f (.inr j)) →
      ∑ i, (Soft.wt (X i) : EReal) * g i = ∑ i, (weight c0 q k n r i : EReal) * f i := by
    intro f g e1 e2
    rw [sum_weight, Fintype.sum_sum_type, Fintype.sum_prod_type]
    refine congrArg₂ (· + ·) ?_ (Finset.sum_congr rfl fun j _ => by rw [hw2, e2])
    rw [← TopK.sum_top (past q k n r) R hR (by decide : 3 ≤ 8)
      (fun m => if m < n then ∑ j, ((Real.exp (c0 * qk q k n r m j) : ℝ) : EReal) * f (.inl (m, j)) else 0)]
    refine Finset.sum_congr rfl fun i _ => ?_
    by_cases h : sortedFrom R (Fin.castLE (by decide : 3 ≤ 8) i) < n
    · rw [if_pos h]
      exact Finset.sum_congr rfl fun j _ => by rw [hw1, e1, if_pos h]
    · rw [if_neg h]
      exact Finset.sum_eq_zero fun j _ => by rw [hw1, if_neg h]; simp
  rw [Soft.soft1 X hX M (fun j => Soft.wt (X j)) (fun _ => rfl) hp]
  refine avg_eq _ _ _ _ (key _ _ (fun _ _ => rfl) (fun _ => rfl)) ?_
  have := key (fun _ => 1) (fun _ => 1) (fun _ _ => rfl) (fun _ => rfl)
  simpa using this

end Cert.Proof.Spec

end
-- ==== Proof.SpecKer.lean ====
/- The attention over the reals from a kernel block's scores: in base two, over the blocks before the query's and its
   own, with a past block that is not chosen masked. -/
module

public import proofs.«01_k».proof.Proof.Spec

@[expose] public section

set_option maxRecDepth 16384

noncomputable section

namespace Cert.Proof.Spec

open Idealize.ShloMosaic Cert.Proof Classical

variable (c0 : ℝ) (q k : Mat) (v : Fin 8 → Fin 256 → Fin 128 → EReal)

/-- A sum over the rows before block `n`, by blocks. -/
theorem sum_rows (n : Fin 8) (W : ℕ) (hW : W = n.val * 256) (f : Fin 8 → Fin 256 → EReal) :
    ∑ i : Fin W, f ⟨i.val / 256, by omega⟩ ⟨i.val % 256, by omega⟩ = ∑ m : Fin 8, if m < n then ∑ j, f m j else 0 := by
  have e : ∀ m : Fin 8, (if m < n then ∑ j, f m j else 0) = ∑ j, if m < n then f m j else 0 := by
    intro m; split <;> simp
  simp only [e]
  rw [← Fintype.sum_prod_type' (fun (m : Fin 8) (j : Fin 256) => if m < n then f m j else 0), ← Finset.sum_filter]
  refine Finset.sum_bij' (fun i _ => (⟨i.val / 256, by omega⟩, ⟨i.val % 256, by omega⟩))
    (fun p hp => ⟨p.1.val * 256 + p.2.val, by
      have h1 : p.1 < n := (Finset.mem_filter.mp hp).2
      have h2 : p.1.val < n.val := h1
      omega⟩) ?_ ?_ ?_ ?_ ?_
  · intro i _
    refine Finset.mem_filter.mpr ⟨Finset.mem_univ _, ?_⟩
    show i.val / 256 < n.val
    omega
  · intro p _; exact Finset.mem_univ _
  · intro i _; exact Fin.ext (by show i.val / 256 * 256 + i.val % 256 = i.val; omega)
  · intro p _
    refine Prod.ext (Fin.ext ?_) (Fin.ext ?_)
    · show (p.1.val * 256 + p.2.val) / 256 = p.1.val; omega
    · show (p.1.val * 256 + p.2.val) % 256 = p.2.val; omega
  · intro i _; rfl

/-- The kernel's softmax for one query. -/
theorem attn_of_rows (n : Fin 8) (r : Fin 256) (c : Fin 128) (W : ℕ) (hW : W = n.val * 256)
    (P : Fin W → EReal) (S : Fin 256 → EReal)
    (h1 : ∀ i : Fin W, P i = if chosen q k n r ⟨i.val / 256, by omega⟩
      then ((c0 * qk q k n r ⟨i.val / 256, by omega⟩ ⟨i.val % 256, by omega⟩ / Real.log 2 : ℝ) : EReal) else ⊥)
    (h2 : ∀ j, S j = if j ≤ r then ((c0 * qk q k n r n j / Real.log 2 : ℝ) : EReal) else ⊥) (M : ℝ) :
    Ideal.div (∑ i : Fin W, Ideal.exp2 (P i - (M : EReal)) * v ⟨i.val / 256, by omega⟩ ⟨i.val % 256, by omega⟩ c
        + ∑ j, Ideal.exp2 (S j - (M : EReal)) * v n j c)
      (∑ i : Fin W, Ideal.exp2 (P i - (M : EReal)) * 1 + ∑ j, Ideal.exp2 (S j - (M : EReal)) * 1)
      = attn c0 q k v n r c := by
  let X : Fin W ⊕ Fin 256 → EReal := fun i => match i with | .inl i => P i | .inr j => S j
  have hX : ∀ i, X i ≠ ⊤ := by
    rintro (i | j)
    · show P i ≠ ⊤; rw [h1]; split; exacts [EReal.coe_ne_top _, bot_ne_top]
    · show S j ≠ ⊤; rw [h2]; split; exacts [EReal.coe_ne_top _, bot_ne_top]
  have hw1 : ∀ i : Fin W, Soft.wt2 (P i) = weight c0 q k n r (.inl (⟨i.val / 256, by omega⟩, ⟨i.val % 256, by omega⟩)) := by
    intro i; rw [h1]; simp only [weight]; split
    · exact Soft.wt2_div_log _
    · exact Soft.wt2_bot
  have hw2 : ∀ j, Soft.wt2 (S j) = weight c0 q k n r (.inr j) := by
    intro j; rw [h2]; simp only [weight]; split
    · exact Soft.wt2_div_log _
    · exact Soft.wt2_bot
  have hp : 0 < ∑ j, Soft.wt2 (X j) := by
    refine Finset.sum_pos' (fun i _ => Soft.wt2_nonneg _) ⟨.inr r, Finset.mem_univ _, ?_⟩
    show 0 < Soft.wt2 (S r)
    rw [hw2]; simp only [weight, le_refl, if_true]; exact Real.exp_pos _
  have key : ∀ f : Key → EReal, ∀ g : Fin W ⊕ Fin 256 → EReal,
      (∀ i, g (.inl i) = f (.inl (⟨i.val / 256, by omega⟩, ⟨i.val % 256, by omega⟩))) → (∀ j, g (.inr j) = f (.inr j)) →
      ∑ i, (Soft.wt2 (X i) : EReal) * g i = ∑ i, (weight c0 q k n r i : EReal) * f i := by
    intro f g e1 e2
    rw [Fintype.sum_sum_type, Fintype.sum_sum_type, Fintype.sum_prod_type]
    refine congrArg₂ (· + ·) ?_ (Finset.sum_congr rfl fun j _ => ?_)
    · have := sum_rows n W hW (fun m j => (weight c0 q k n r (.inl (m, j)) : EReal) * f (.inl (m, j)))
      refine Eq.trans (Finset.sum_congr rfl fun i _ => ?_) (this.trans (Finset.sum_congr rfl fun m _ => ?_))
      · show (Soft.wt2 (P i) : EReal) * _ = _
        rw [hw1, e1]
      · split
        · rfl
        · next hm => exact (Finset.sum_eq_zero fun j _ => by simp [weight, chosen, hm]).symm
    · show (Soft.wt2 (S j) : EReal) * _ = _
      rw [hw2, e2]
  have s2 := Soft.soft2 X hX M (fun j => Soft.wt2 (X j)) (fun _ => rfl) hp
    (fun i => match i with | .inl i => v ⟨i.val / 256, by omega⟩ ⟨i.val % 256, by omega⟩ c | .inr j => v n j c)
  rw [Fintype.sum_sum_type, Fintype.sum_sum_type] at s2
  refine s2.trans ?_
  refine avg_eq _ _ _ _ (key _ _ (fun _ => rfl) (fun _ => rfl)) ?_
  have := key (fun _ => 1) (fun _ => 1) (fun _ => rfl) (fun _ => rfl)
  simpa using this

/-- Ranks depend on the order alone. -/
theorem rank_congr (x y : Fin 8 → EReal) (h1 : ∀ a b, x b < x a ↔ y b < y a) (h2 : ∀ a b, x a = x b ↔ y a = y b) (m : Fin 8) :
    TopK.rank x m = TopK.rank y m := by
  unfold TopK.rank TopK.ahead
  simp only [h1, h2]

/-- A positive factor leaves the ranks of the past blocks as they are. -/
theorem rank_scaled (n : Fin 8) (r : Fin 256) (s : ℝ) (hs : 0 < s) (x : Fin 8 → EReal)
    (hx : ∀ m, x m = if m < n then ((affinity q k n r m * s : ℝ) : EReal) else ⊥) (m : Fin 8) :
    TopK.rank x m = TopK.rank (past q k n r) m := by
  refine rank_congr _ _ (fun a b => ?_) (fun a b => ?_) m
  · rw [hx, hx]; unfold past
    by_cases ha : a < n <;> by_cases hb : b < n <;> simp only [ha, hb, if_true, if_false]
    · rw [EReal.coe_lt_coe_iff, EReal.coe_lt_coe_iff]; exact mul_lt_mul_iff_left₀ hs
    · exact ⟨fun _ => EReal.bot_lt_coe _, fun _ => EReal.bot_lt_coe _⟩
    · exact ⟨fun h => absurd h not_lt_bot, fun h => absurd h not_lt_bot⟩
  · rw [hx, hx]; unfold past
    by_cases ha : a < n <;> by_cases hb : b < n <;> simp only [ha, hb, if_true, if_false]
    · rw [EReal.coe_eq_coe_iff, EReal.coe_eq_coe_iff]; exact mul_left_inj' hs.ne'
    · exact ⟨fun h => absurd h (EReal.coe_ne_bot _), fun h => absurd h (EReal.coe_ne_bot _)⟩
    · exact ⟨fun h => absurd h.symm (EReal.coe_ne_bot _), fun h => absurd h.symm (EReal.coe_ne_bot _)⟩

/-- Up to three past blocks are all chosen. -/
theorem chosen_of_few (n : Fin 8) (hn : n.val ≤ 3) (r : Fin 256) (m : Fin 8) (hm : m < n) : chosen q k n r m := by
  refine ⟨hm, ?_⟩
  have hsub : (Finset.univ.filter fun a => TopK.ahead (past q k n r) a m = true) ⊆ (Finset.Iio n).erase m := by
    intro a ha
    have ha := (Finset.mem_filter.mp ha).2
    simp only [TopK.ahead, decide_eq_true_eq] at ha
    refine Finset.mem_erase.mpr ⟨fun e => ?_, Finset.mem_Iio.mpr ?_⟩
    · subst e; rcases ha with h | h
      · exact lt_irrefl _ h
      · exact lt_irrefl _ h.2
    · by_contra hna
      have e1 : past q k n r a = ⊥ := if_neg hna
      have e2 : past q k n r m ≠ ⊥ := by unfold past; rw [if_pos hm]; exact EReal.coe_ne_bot _
      rw [e1] at ha
      rcases ha with h | h
      · exact not_lt_bot h
      · exact e2 h.1.symm
  have := Finset.card_le_card hsub
  rw [Finset.card_erase_of_mem (Finset.mem_Iio.mpr hm), Fin.card_Iio] at this
  unfold TopK.rank
  omega

end Cert.Proof.Spec

end
-- ==== Proof.KerValue.lean ====
/- What the kernel's stages hold over the reals: the masked scores, the ranks, the biases. -/
module

public import proofs.«01_k».proof.Proof.KerReadSums
public import proofs.«01_k».proof.Proof.SpecKer

@[expose] public section

set_option maxRecDepth 16384

noncomputable section

namespace Cert.Proof.Ker

open Idealize.ShloMosaic Cert.KernelIdeal Cert.Proof
open Cert.KernelIdeal.Gen (r0_0 r0_1 r0_2 r0_3 r0_4 r0_5 r0_6 r0_7 r0_8 r0_9 r0_10 r0_11 r0_12 r0_13 r0_14 r0_15 r0_16)

open Classical

theorem score_coe (c0 : ℝ) (a b : Fin 128 → ℝ) :
    ∑ x, ((a x * (c0 / Real.log 2) : ℝ) : EReal) * (b x : EReal) = ((c0 * (∑ x, a x * b x) / Real.log 2 : ℝ) : EReal) := by
  simp only [← EReal.coe_mul, Soft.sum_coe]
  have e : ∑ x, a x * (c0 / Real.log 2) * b x = (∑ x, a x * b x) * (c0 / Real.log 2) := by
    rw [Finset.sum_mul]
    exact Finset.sum_congr rfl fun x _ => by ring
  rw [e]
  congr 1
  ring

variable (c0 : ℝ) (q k : Spec.Mat) (n : Fin 8)

/-- The scores of a block's own keys. -/
theorem own_val (Q K : B2 256 128) (hQ : ∀ r x, Q (ix2 r x) = ((q n r x * (c0 / Real.log 2) : ℝ) : EReal))
    (hK : ∀ j x, K (ix2 j x) = ((k n j x : ℝ) : EReal)) (r j : Fin 256) :
    own Q K (ix2 r j) = if j ≤ r then ((c0 * Spec.qk q k n r n j / Real.log 2 : ℝ) : EReal) else ⊥ := by
  rw [own_at]
  simp only [hQ, hK, score_coe, Spec.qk]

/-- The sum over all rows of one block. -/
theorem sum_block (m : Fin 8) (f : Fin 8 → Fin 256 → EReal) :
    ∑ i : Fin 2048, (if i.val / 256 = m.val then f ⟨i.val / 256, by omega⟩ ⟨i.val % 256, by omega⟩ else 0) = ∑ j, f m j := by
  rw [← Finset.sum_filter]
  refine Finset.sum_bij' (fun i _ => ⟨i.val % 256, by omega⟩) (fun j _ => ⟨m.val * 256 + j.val, by omega⟩) ?_ ?_ ?_ ?_ ?_
  · intro i _; exact Finset.mem_univ _
  · intro j _
    refine Finset.mem_filter.mpr ⟨Finset.mem_univ _, ?_⟩
    show (m.val * 256 + j.val) / 256 = m.val
    omega
  · intro i hi
    have := (Finset.mem_filter.mp hi).2
    exact Fin.ext (by show m.val * 256 + i.val % 256 = i.val; omega)
  · intro j _; exact Fin.ext (by show (m.val * 256 + j.val) % 256 = j.val; omega)
  · intro i hi
    have := (Finset.mem_filter.mp hi).2
    exact congrArg (fun t => f t _) (Fin.ext this)

/-- The mean keys. -/
theorem kmean_val (A : B2 16 2048) (K : B2 2048 128)
    (hA : ∀ m i, A (ix2 m i) = if i.val / 256 = m.val then ((1 / 256 : ℝ) : EReal) else 0)
    (hK : ∀ (m : Fin 8) (j : Fin 256) x, K (ix2 ⟨m.val * 256 + j.val, by omega⟩ x) = ((k m j x : ℝ) : EReal))
    (m : Fin 8) (x : Fin 128) :
    kmean A K (ix2 ⟨m.val, by omega⟩ x) = (((∑ j, k m j x) / 256 : ℝ) : EReal) := by
  rw [kmean_at]
  have e : ∀ i : Fin 2048, A (ix2 ⟨m.val, by omega⟩ i) * K (ix2 i x) =
      if i.val / 256 = m.val then ((1 / 256 * k ⟨i.val / 256, by omega⟩ ⟨i.val % 256, by omega⟩ x : ℝ) : EReal) else 0 := by
    intro i
    have h := hK ⟨i.val / 256, by omega⟩ ⟨i.val % 256, by omega⟩ x
    have hi : (⟨i.val / 256 * 256 + i.val % 256, by omega⟩ : Fin 2048) = i := Fin.ext (by show i.val / 256 * 256 + i.val % 256 = i.val; omega)
    rw [hi] at h
    rw [hA, h]
    split
    · rw [EReal.coe_mul]
    · rw [zero_mul]
  rw [Finset.sum_congr rfl fun i _ => e i, sum_block m fun m j => ((1 / 256 * k m j x : ℝ) : EReal), Soft.sum_coe, ← Finset.mul_sum]
  congr 1; ring

/-- The affinities to the blocks, scaled. -/
theorem aff_val (KM : V2 16 128 .bf16) (Q : B2 256 128)
    (hM : ∀ (m : Fin 8) x, KM (ix2 ⟨m.val, by omega⟩ x) = (((∑ j, k m j x) / 256 : ℝ) : EReal))
    (hQ : ∀ r x, Q (ix2 r x) = ((q n r x * (c0 / Real.log 2) : ℝ) : EReal)) (m : Fin 8) (r : Fin 256) :
    aff (BitVec.ofNat 32 n.val) KM Q (ix2 m r) =
      if m < n then ((Spec.affinity q k n r m * (c0 / Real.log 2) : ℝ) : EReal) else ⊥ := by
  rw [aff_at]
  simp only [hM, hQ, ← EReal.coe_mul, Soft.sum_coe]
  have : ∑ x, (∑ j, k m j x) / 256 * (q n r x * (c0 / Real.log 2)) = Spec.affinity q k n r m * (c0 / Real.log 2) := by
    rw [Spec.affinity, Finset.sum_mul]
    exact Finset.sum_congr rfl fun x _ => by ring
  rw [this]

theorem count_coe (p : Prop) [Decidable p] : (((if p then 1 else 0 : ℕ) : ℝ) : EReal) = if p then 1 else 0 := by
  split <;> simp

/-- The ranks. -/
theorem rank_val (gm : V2 8 256 .f32) (m : Fin 8) (r : Fin 256) :
    rank gm (ix2 m r) = ((TopK.rank (fun m => gm (ix2 m r)) m : ℝ) : EReal) := by
  have h0 : (broadcast S8x256 (Scalar.ofBits .f32 0x00000000#32) : V2 8 256 .f32) (ix2 m r) = 0 := by
    pointwise []
  unfold rank
  rw [step7_at, step6_at, step5_at, step4_at, step3_at, step2_at, step1_at, h0, TopK.rank_eq_shifts, Fin.sum_univ_seven]
  simp only [Nat.cast_add, EReal.coe_add, count_coe, zero_add, add_assoc]

/-- The biases: zero on a chosen block, the mask on any other. -/
theorem bias_val (gm : V2 8 256 .f32) (s : ℝ) (hs : 0 < s)
    (hg : ∀ m r, gm (ix2 m r) = if m < n then ((Spec.affinity q k n r m * s : ℝ) : EReal) else ⊥) (m : Fin 8) (r : Fin 256) :
    bias (BitVec.ofNat 32 n.val) gm (ix2 m r) = if Spec.chosen q k n r m then 0 else ⊥ := by
  rw [bias_at]
  refine if_congr ?_ rfl rfl
  rw [rank_val, Spec.rank_scaled q k n r s hs (fun m => gm (ix2 m r)) (fun m => hg m r) m, EReal.coe_lt_coe_iff]
  unfold Spec.chosen
  exact and_congr Iff.rfl (by exact_mod_cast Iff.rfl)

/-- The biases by query. -/
theorem lanes_val (E : B2 256 256) (hE : ∀ r y, E (ix2 r y) = if r = y then 1 else 0) (b : V2 8 256 .f32)
    (r : Fin 256) (x : Fin 128) :
    lanes E b (ix2 r x) = if h : x.val < 8 then b (ix2 ⟨x.val, h⟩ r) else 0 := by
  rw [lanes_at]
  simp only [hE, ite_mul, one_mul, zero_mul]
  rw [Finset.sum_ite_eq, if_pos (Finset.mem_univ _)]

/-- The bias of a key's block. -/
theorem hot_val {W : ℕ} (hW : W ≤ 2048) (B : V2 256 128 .bf16) (b : V2 8 256 .f32)
    (hB : ∀ r x, B (ix2 r x) = if h : x.val < 8 then b (ix2 ⟨x.val, h⟩ r) else 0)
    (H : B2 W 128) (hH : ∀ i x, H (ix2 i x) = if i.val / 256 = x.val then 1 else 0) (r : Fin 256) (i : Fin W) :
    ∑ x, B (ix2 r x) * H (ix2 i x) = b (ix2 ⟨i.val / 256, by omega⟩ r) := by
  rw [Finset.sum_eq_single (⟨i.val / 256, by omega⟩ : Fin 128)]
  · rw [hH, if_pos rfl, mul_one, hB, dif_pos (by show i.val / 256 < 8; omega)]
  · intro x _ hx
    rw [hH, if_neg (fun h => hx (Fin.ext h.symm)), mul_zero]
  · intro h; exact absurd (Finset.mem_univ _) h

/-- A past key's score: its bias added. -/
theorem past_val {W : ℕ} (hW : W ≤ 2048) (Q : B2 256 128) (hQ : ∀ r x, Q (ix2 r x) = ((q n r x * (c0 / Real.log 2) : ℝ) : EReal))
    (B : V2 256 128 .bf16) (b : V2 8 256 .f32)
    (hb : ∀ m r, b (ix2 m r) = if Spec.chosen q k n r m then 0 else ⊥)
    (hB : ∀ r x, B (ix2 r x) = if h : x.val < 8 then b (ix2 ⟨x.val, h⟩ r) else 0)
    (K : B2 W 128) (hK : ∀ i x, K (ix2 i x) = ((k ⟨i.val / 256, by omega⟩ ⟨i.val % 256, by omega⟩ x : ℝ) : EReal))
    (H : B2 W 128) (hH : ∀ i x, H (ix2 i x) = if i.val / 256 = x.val then 1 else 0) (r : Fin 256) (i : Fin W) :
    ∑ x : Fin 128, aug Q B (ix2 r ⟨x.val, by omega⟩) * K (ix2 i x) + ∑ x : Fin 128, aug Q B (ix2 r ⟨128 + x.val, by omega⟩) * H (ix2 i x)
      = if Spec.chosen q k n r ⟨i.val / 256, by omega⟩
        then ((c0 * Spec.qk q k n r ⟨i.val / 256, by omega⟩ ⟨i.val % 256, by omega⟩ / Real.log 2 : ℝ) : EReal) else ⊥ := by
  have e1 : ∀ x : Fin 128, aug Q B (ix2 r ⟨x.val, by omega⟩) = Q (ix2 r x) := by
    intro x; rw [aug_at, dif_pos x.isLt]
  have e2 : ∀ x : Fin 128, aug Q B (ix2 r ⟨128 + x.val, by omega⟩) = B (ix2 r x) := by
    intro x; rw [aug_at, dif_neg (by show ¬ 128 + x.val < 128; omega)]
    exact congrArg (fun t => B (ix2 r t)) (Fin.ext (by show 128 + x.val - 128 = x.val; omega))
  simp only [e1, e2]
  rw [hot_val hW B b hB H hH, hb]
  simp only [hQ, hK, score_coe, Spec.qk]
  split
  · rw [add_zero]
  · rw [EReal.add_bot]

/-- The same with three blocks or fewer, whose keys all count. -/
theorem dense_val {W : ℕ} (hW : W = n.val * 256) (hn : n.val ≤ 3) (Q : B2 256 128)
    (hQ : ∀ r x, Q (ix2 r x) = ((q n r x * (c0 / Real.log 2) : ℝ) : EReal))
    (K : B2 W 128) (hK : ∀ i x, K (ix2 i x) = ((k ⟨i.val / 256, by omega⟩ ⟨i.val % 256, by omega⟩ x : ℝ) : EReal))
    (r : Fin 256) (i : Fin W) :
    ∑ x : Fin 128, Q (ix2 r x) * K (ix2 i x)
      = if Spec.chosen q k n r ⟨i.val / 256, by omega⟩
        then ((c0 * Spec.qk q k n r ⟨i.val / 256, by omega⟩ ⟨i.val % 256, by omega⟩ / Real.log 2 : ℝ) : EReal) else ⊥ := by
  rw [if_pos (Spec.chosen_of_few q k n hn r _ (by show i.val / 256 < n.val; omega))]
  simp only [hQ, hK, score_coe, Spec.qk]

/-- The greatest score is a real number. -/
theorem top_real {W : ℕ} (P : Fin W → EReal) (S : Fin 256 → EReal) (hP : ∀ i, P i ≠ ⊤) (hS : ∀ j, S j ≠ ⊤) (r : Fin 256) (hr : S r ≠ ⊥) :
    ∃ M : ℝ, max (Finset.univ.fold max ⊥ S) (Finset.univ.fold max ⊥ P) = (M : EReal) := by
  obtain ⟨a, ha⟩ := Soft.max_real S hS r hr
  have hlt : Finset.univ.fold max ⊥ P < ⊤ :=
    (Finset.fold_max_lt _).mpr ⟨bot_lt_top, fun i _ => lt_top_iff_ne_top.mpr (hP i)⟩
  rw [ha]
  refine ⟨(max (a : EReal) (Finset.univ.fold max ⊥ P)).toReal, (EReal.coe_toReal ?_ ?_).symm⟩
  · exact (max_lt (EReal.coe_lt_top a) hlt).ne
  · exact (lt_of_lt_of_le (EReal.bot_lt_coe a) (le_max_left _ _)).ne'

end Cert.Proof.Ker

end
-- ==== Proof.KerPieces.lean ====
/- Each block's piece is the attention over the reals, times the gate. -/
module

public import proofs.«01_k».proof.Proof.KerValue

@[expose] public section

set_option maxRecDepth 16384

noncomputable section

namespace Cert.Proof.Ker

open Idealize.ShloMosaic Cert.KernelIdeal Cert.Proof
open Cert.KernelIdeal.Gen (r0_0 r0_1 r0_2 r0_3 r0_4 r0_5 r0_6 r0_7 r0_8 r0_9 r0_10 r0_11 r0_12 r0_13 r0_14 r0_15 r0_16)

open Classical

/-- The row of a block's row. -/
def row (n : Fin 8) (r : Fin 256) : Fin 2048 := ⟨n.val * 256 + r.val, by omega⟩

variable (c0 : ℝ) (q k : Spec.Mat) (hc : 0 < c0)
  (x0 x1 x2 x3 : B2 2048 128) (x4 : B2 16 2048) (x5 : B2 2048 128) (x6 : B2 256 256)
  (h0 : ∀ (n : Fin 8) (r : Fin 256) x, x0 (ix2 (row n r) x) = ((q n r x * (c0 / Real.log 2) : ℝ) : EReal))
  (h1 : ∀ (m : Fin 8) (j : Fin 256) x, x1 (ix2 (row m j) x) = ((k m j x : ℝ) : EReal))
  (h4 : ∀ m i, x4 (ix2 m i) = if i.val / 256 = m.val then ((1 / 256 : ℝ) : EReal) else 0)
  (h5 : ∀ i x, x5 (ix2 i x) = if i.val / 256 = x.val then 1 else 0)
  (h6 : ∀ r y, x6 (ix2 r y) = if r = y then 1 else 0)

include h1 in
/-- A key by its row. -/
theorem key_row (i : Fin 2048) (x : Fin 128) :
    x1 (ix2 i x) = ((k ⟨i.val / 256, by omega⟩ ⟨i.val % 256, by omega⟩ x : ℝ) : EReal) := by
  have h := h1 ⟨i.val / 256, by omega⟩ ⟨i.val % 256, by omega⟩ x
  have hi : row ⟨i.val / 256, by omega⟩ ⟨i.val % 256, by omega⟩ = i := Fin.ext (by show i.val / 256 * 256 + i.val % 256 = i.val; omega)
  rw [hi] at h
  exact h

theorem not_top (p : Prop) (d : Decidable p) (y : ℝ) : (@ite EReal p d (y : EReal) ⊥) ≠ ⊤ := by
  split; exacts [EReal.coe_ne_top _, bot_ne_top]

include h0 h1 in
theorem piece0_val (r : Fin 256) (c : Fin 128) : piece0 x0 x1 x2 x3 x4 x5 x6 (ix2 r c) =
    Spec.attn c0 q k (fun m j c => x2 (ix2 (row m j) c)) 0 r c * x3 (ix2 (row 0 r) c) := by
  have hQ : ∀ (r : Fin 256) x, (View.ld x0 r0_2 : B2 256 128) (ix2 r x) = ((q 0 r x * (c0 / Real.log 2) : ℝ) : EReal) :=
    fun r x => (block0 x0 r x).trans (h0 0 r x)
  have hK : ∀ (r : Fin 256) x, (View.ld x1 r0_2 : B2 256 128) (ix2 r x) = ((k 0 r x : ℝ) : EReal) :=
    fun r x => (block0 x1 r x).trans (h1 0 r x)
  have hS := own_val c0 q k 0 _ _ hQ hK r
  obtain ⟨M, hM⟩ := Soft.max_real (fun x => own (View.ld x0 r0_2 : B2 256 128) (View.ld x1 r0_2 : B2 256 128) (ix2 r x)) (fun j => by rw [hS]; exact not_top _ _ _) r
    (by rw [hS, if_pos (le_refl r)]; exact EReal.coe_ne_bot _)
  have hT := (top0_at (own (View.ld x0 r0_2 : B2 256 128) (View.ld x1 r0_2 : B2 256 128)) r).trans hM
  have key := Spec.attn_of_rows c0 q k (fun m j c => x2 (ix2 (row m j) c)) 0 r c 0 rfl (fun _ => ⊥) (fun x => own (View.ld x0 r0_2 : B2 256 128) (View.ld x1 r0_2 : B2 256 128) (ix2 r x))
    (fun i => i.elim0) hS M
  unfold piece0
  rw [close_at, block0, pv0_at, pv0_at, hT]
  refine congrArg (· * x3 (ix2 (row 0 r) c)) (Eq.trans ?_ key)
  simp only [Finset.univ_eq_empty, Finset.sum_empty, zero_add]
  refine congrArg₂ Ideal.div (Finset.sum_congr rfl fun j _ => ?_) (Finset.sum_congr rfl fun j _ => ?_)
  · rw [dif_pos c.isLt, block0]
    rfl
  · rw [dif_neg (by show ¬ 128 + c.val < 128; omega)]

include h0 h1 in
theorem piece1_val (r : Fin 256) (c : Fin 128) : piece1 x0 x1 x2 x3 x4 x5 x6 (ix2 r c) =
    Spec.attn c0 q k (fun m j c => x2 (ix2 (row m j) c)) 1 r c * x3 (ix2 (row 1 r) c) := by
  have hQ : ∀ (r : Fin 256) x, (View.ld x0 r0_3 : B2 256 128) (ix2 r x) = ((q 1 r x * (c0 / Real.log 2) : ℝ) : EReal) :=
    fun r x => (block1 x0 r x).trans (h0 1 r x)
  have hK : ∀ (r : Fin 256) x, (View.ld x1 r0_3 : B2 256 128) (ix2 r x) = ((k 1 r x : ℝ) : EReal) :=
    fun r x => (block1 x1 r x).trans (h1 1 r x)
  have hS := own_val c0 q k 1 _ _ hQ hK r
  have hP : ∀ i : Fin 256, (past1 (View.ld x0 r0_3 : B2 256 128) (View.ld x1 r0_2 : B2 256 128)) (ix2 r i) = if Spec.chosen q k 1 r ⟨i.val / 256, by omega⟩
      then ((c0 * Spec.qk q k 1 r ⟨i.val / 256, by omega⟩ ⟨i.val % 256, by omega⟩ / Real.log 2 : ℝ) : EReal) else ⊥ := by
    intro i
    rw [past1_at]
    exact dense_val c0 q k 1 (W := 256) rfl (by decide) _ hQ _ (fun i x => (rows1 x1 i x).trans (key_row k x1 h1 _ x)) r i
  obtain ⟨M, hM⟩ := top_real (fun x => (past1 (View.ld x0 r0_3 : B2 256 128) (View.ld x1 r0_2 : B2 256 128)) (ix2 r x)) (fun x => own (View.ld x0 r0_3 : B2 256 128) (View.ld x1 r0_3 : B2 256 128) (ix2 r x))
    (fun i => by rw [hP]; exact not_top _ _ _) (fun j => by rw [hS]; exact not_top _ _ _) r (by rw [hS, if_pos (le_refl r)]; exact EReal.coe_ne_bot _)
  have hT : top1 (own (View.ld x0 r0_3 : B2 256 128) (View.ld x1 r0_3 : B2 256 128)) (past1 (View.ld x0 r0_3 : B2 256 128) (View.ld x1 r0_2 : B2 256 128)) (ix2 r 0) = (M : EReal) := by
    rw [top1_at, top0_at]
    exact hM
  have key := Spec.attn_of_rows c0 q k (fun m j c => x2 (ix2 (row m j) c)) 1 r c 256 rfl (fun x => (past1 (View.ld x0 r0_3 : B2 256 128) (View.ld x1 r0_2 : B2 256 128)) (ix2 r x)) (fun x => own (View.ld x0 r0_3 : B2 256 128) (View.ld x1 r0_3 : B2 256 128) (ix2 r x))
    hP hS M
  unfold piece1
  rw [close_at, block1, pv1_at, pv1_at, hT]
  refine congrArg (· * x3 (ix2 (row 1 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows2]
    refine congrArg (fun t : Fin 2048 => _ * x2 (ix2 t c)) (Fin.ext ?_)
    show i.val = i.val / 256 * 256 + i.val % 256
    omega
  · rw [dif_pos c.isLt, rows2]
    rfl
  · rw [dif_neg (by show ¬ 128 + c.val < 128; omega)]
  · rw [dif_neg (by show ¬ 128 + c.val < 128; omega)]

include h0 h1 in
theorem piece2_val (r : Fin 256) (c : Fin 128) : piece2 x0 x1 x2 x3 x4 x5 x6 (ix2 r c) =
    Spec.attn c0 q k (fun m j c => x2 (ix2 (row m j) c)) 2 r c * x3 (ix2 (row 2 r) c) := by
  have hQ : ∀ (r : Fin 256) x, (View.ld x0 r0_4 : B2 256 128) (ix2 r x) = ((q 2 r x * (c0 / Real.log 2) : ℝ) : EReal) :=
    fun r x => (block2 x0 r x).trans (h0 2 r x)
  have hK : ∀ (r : Fin 256) x, (View.ld x1 r0_4 : B2 256 128) (ix2 r x) = ((k 2 r x : ℝ) : EReal) :=
    fun r x => (block2 x1 r x).trans (h1 2 r x)
  have hS := own_val c0 q k 2 _ _ hQ hK r
  have hP : ∀ i : Fin 512, (past2 (View.ld x0 r0_4 : B2 256 128) (View.ld x1 r0_5 : B2 512 128)) (ix2 r i) = if Spec.chosen q k 2 r ⟨i.val / 256, by omega⟩
      then ((c0 * Spec.qk q k 2 r ⟨i.val / 256, by omega⟩ ⟨i.val % 256, by omega⟩ / Real.log 2 : ℝ) : EReal) else ⊥ := by
    intro i
    rw [past2_at]
    exact dense_val c0 q k 2 (W := 512) rfl (by decide) _ hQ _ (fun i x => (rows2 x1 i x).trans (key_row k x1 h1 _ x)) r i
  obtain ⟨M, hM⟩ := top_real (fun x => (past2 (View.ld x0 r0_4 : B2 256 128) (View.ld x1 r0_5 : B2 512 128)) (ix2 r x)) (fun x => own (View.ld x0 r0_4 : B2 256 128) (View.ld x1 r0_4 : B2 256 128) (ix2 r x))
    (fun i => by rw [hP]; exact not_top _ _ _) (fun j => by rw [hS]; exact not_top _ _ _) r (by rw [hS, if_pos (le_refl r)]; exact EReal.coe_ne_bot _)
  have hT : top2 (own (View.ld x0 r0_4 : B2 256 128) (View.ld x1 r0_4 : B2 256 128)) (past2 (View.ld x0 r0_4 : B2 256 128) (View.ld x1 r0_5 : B2 512 128)) (ix2 r 0) = (M : EReal) := by
    rw [top2_at, top0_at]
    exact hM
  have key := Spec.attn_of_rows c0 q k (fun m j c => x2 (ix2 (row m j) c)) 2 r c 512 rfl (fun x => (past2 (View.ld x0 r0_4 : B2 256 128) (View.ld x1 r0_5 : B2 512 128)) (ix2 r x)) (fun x => own (View.ld x0 r0_4 : B2 256 128) (View.ld x1 r0_4 : B2 256 128) (ix2 r x))
    hP hS M
  unfold piece2
  rw [close_at, block2, pv2_at, pv2_at, hT]
  refine congrArg (· * x3 (ix2 (row 2 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows3]
    refine congrArg (fun t : Fin 2048 => _ * x2 (ix2 t c)) (Fin.ext ?_)
    show i.val = i.val / 256 * 256 + i.val % 256
    omega
  · rw [dif_pos c.isLt, rows3]
    rfl
  · rw [dif_neg (by show ¬ 128 + c.val < 128; omega)]
  · rw [dif_neg (by show ¬ 128 + c.val < 128; omega)]

include h0 h1 in
theorem piece3_val (r : Fin 256) (c : Fin 128) : piece3 x0 x1 x2 x3 x4 x5 x6 (ix2 r c) =
    Spec.attn c0 q k (fun m j c => x2 (ix2 (row m j) c)) 3 r c * x3 (ix2 (row 3 r) c) := by
  have hQ : ∀ (r : Fin 256) x, (View.ld x0 r0_6 : B2 256 128) (ix2 r x) = ((q 3 r x * (c0 / Real.log 2) : ℝ) : EReal) :=
    fun r x => (block3 x0 r x).trans (h0 3 r x)
  have hK : ∀ (r : Fin 256) x, (View.ld x1 r0_6 : B2 256 128) (ix2 r x) = ((k 3 r x : ℝ) : EReal) :=
    fun r x => (block3 x1 r x).trans (h1 3 r x)
  have hS := own_val c0 q k 3 _ _ hQ hK r
  have hP : ∀ i : Fin 768, (past3 (View.ld x0 r0_6 : B2 256 128) (View.ld x1 r0_7 : B2 768 128)) (ix2 r i) = if Spec.chosen q k 3 r ⟨i.val / 256, by omega⟩
      then ((c0 * Spec.qk q k 3 r ⟨i.val / 256, by omega⟩ ⟨i.val % 256, by omega⟩ / Real.log 2 : ℝ) : EReal) else ⊥ := by
    intro i
    rw [past3_at]
    exact dense_val c0 q k 3 (W := 768) rfl (by decide) _ hQ _ (fun i x => (rows3 x1 i x).trans (key_row k x1 h1 _ x)) r i
  obtain ⟨M, hM⟩ := top_real (fun x => (past3 (View.ld x0 r0_6 : B2 256 128) (View.ld x1 r0_7 : B2 768 128)) (ix2 r x)) (fun x => own (View.ld x0 r0_6 : B2 256 128) (View.ld x1 r0_6 : B2 256 128) (ix2 r x))
    (fun i => by rw [hP]; exact not_top _ _ _) (fun j => by rw [hS]; exact not_top _ _ _) r (by rw [hS, if_pos (le_refl r)]; exact EReal.coe_ne_bot _)
  have hT : top3 (own (View.ld x0 r0_6 : B2 256 128) (View.ld x1 r0_6 : B2 256 128)) (past3 (View.ld x0 r0_6 : B2 256 128) (View.ld x1 r0_7 : B2 768 128)) (ix2 r 0) = (M : EReal) := by
    rw [top3_at, top0_at]
    exact hM
  have key := Spec.attn_of_rows c0 q k (fun m j c => x2 (ix2 (row m j) c)) 3 r c 768 rfl (fun x => (past3 (View.ld x0 r0_6 : B2 256 128) (View.ld x1 r0_7 : B2 768 128)) (ix2 r x)) (fun x => own (View.ld x0 r0_6 : B2 256 128) (View.ld x1 r0_6 : B2 256 128) (ix2 r x))
    hP hS M
  unfold piece3
  rw [close_at, block3, pv3_at, pv3_at, hT]
  refine congrArg (· * x3 (ix2 (row 3 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows4]
    refine congrArg (fun t : Fin 2048 => _ * x2 (ix2 t c)) (Fin.ext ?_)
    show i.val = i.val / 256 * 256 + i.val % 256
    omega
  · rw [dif_pos c.isLt, rows4]
    rfl
  · rw [dif_neg (by show ¬ 128 + c.val < 128; omega)]
  · rw [dif_neg (by show ¬ 128 + c.val < 128; omega)]

include hc h0 h1 h4 h5 h6 in
theorem piece4_val (r : Fin 256) (c : Fin 128) : piece4 x0 x1 x2 x3 x4 x5 x6 (ix2 r c) =
    Spec.attn c0 q k (fun m j c => x2 (ix2 (row m j) c)) 4 r c * x3 (ix2 (row 4 r) c) := by
  have hQ : ∀ (r : Fin 256) x, (View.ld x0 r0_8 : B2 256 128) (ix2 r x) = ((q 4 r x * (c0 / Real.log 2) : ℝ) : EReal) :=
    fun r x => (block4 x0 r x).trans (h0 4 r x)
  have hK : ∀ (r : Fin 256) x, (View.ld x1 r0_8 : B2 256 128) (ix2 r x) = ((k 4 r x : ℝ) : EReal) :=
    fun r x => (block4 x1 r x).trans (h1 4 r x)
  have hS := own_val c0 q k 4 _ _ hQ hK r
  have hA := aff_val c0 q k 4 _ _ (kmean_val k (View.ld x4 r0_0 : B2 16 2048) (View.ld x1 r0_1 : B2 2048 128)
    (fun m i => (all_avg x4 m i).trans (h4 m i)) (fun m j x => (rows8 x1 _ x).trans (h1 m j x))) hQ
  have hb := bias_val q k 4 _ _ (div_pos hc (Real.log_pos (by norm_num))) hA
  have hB := lanes_val (View.ld x6 r0_9 : B2 256 256) (fun r y => (all_eye x6 r y).trans (h6 r y)) (bias 4#32 (aff 4#32 (kmean (View.ld x4 r0_0 : B2 16 2048) (View.ld x1 r0_1 : B2 2048 128)) (View.ld x0 r0_8 : B2 256 128)))
  have hP : ∀ i : Fin 1024, (past4 (aug (View.ld x0 r0_8 : B2 256 128) (lanes (View.ld x6 r0_9 : B2 256 256) (bias 4#32 (aff 4#32 (kmean (View.ld x4 r0_0 : B2 16 2048) (View.ld x1 r0_1 : B2 2048 128)) (View.ld x0 r0_8 : B2 256 128))))) (View.ld x1 r0_10 : B2 1024 128) (View.ld x5 r0_10 : B2 1024 128)) (ix2 r i) = if Spec.chosen q k 4 r ⟨i.val / 256, by omega⟩
      then ((c0 * Spec.qk q k 4 r ⟨i.val / 256, by omega⟩ ⟨i.val % 256, by omega⟩ / Real.log 2 : ℝ) : EReal) else ⊥ := by
    intro i
    rw [past4_at]
    exact past_val c0 q k 4 (W := 1024) (by decide) _ hQ _ _ hb hB _ (fun i x => (rows4 x1 i x).trans (key_row k x1 h1 _ x)) _
      (fun i x => (rows4 x5 i x).trans (h5 _ x)) r i
  obtain ⟨M, hM⟩ := top_real (fun x => (past4 (aug (View.ld x0 r0_8 : B2 256 128) (lanes (View.ld x6 r0_9 : B2 256 256) (bias 4#32 (aff 4#32 (kmean (View.ld x4 r0_0 : B2 16 2048) (View.ld x1 r0_1 : B2 2048 128)) (View.ld x0 r0_8 : B2 256 128))))) (View.ld x1 r0_10 : B2 1024 128) (View.ld x5 r0_10 : B2 1024 128)) (ix2 r x)) (fun x => own (View.ld x0 r0_8 : B2 256 128) (View.ld x1 r0_8 : B2 256 128) (ix2 r x))
    (fun i => by rw [hP]; exact not_top _ _ _) (fun j => by rw [hS]; exact not_top _ _ _) r (by rw [hS, if_pos (le_refl r)]; exact EReal.coe_ne_bot _)
  have hT : top4 (own (View.ld x0 r0_8 : B2 256 128) (View.ld x1 r0_8 : B2 256 128)) (past4 (aug (View.ld x0 r0_8 : B2 256 128) (lanes (View.ld x6 r0_9 : B2 256 256) (bias 4#32 (aff 4#32 (kmean (View.ld x4 r0_0 : B2 16 2048) (View.ld x1 r0_1 : B2 2048 128)) (View.ld x0 r0_8 : B2 256 128))))) (View.ld x1 r0_10 : B2 1024 128) (View.ld x5 r0_10 : B2 1024 128)) (ix2 r 0) = (M : EReal) := by
    rw [top4_at, top0_at]
    exact hM
  have key := Spec.attn_of_rows c0 q k (fun m j c => x2 (ix2 (row m j) c)) 4 r c 1024 rfl (fun x => (past4 (aug (View.ld x0 r0_8 : B2 256 128) (lanes (View.ld x6 r0_9 : B2 256 256) (bias 4#32 (aff 4#32 (kmean (View.ld x4 r0_0 : B2 16 2048) (View.ld x1 r0_1 : B2 2048 128)) (View.ld x0 r0_8 : B2 256 128))))) (View.ld x1 r0_10 : B2 1024 128) (View.ld x5 r0_10 : B2 1024 128)) (ix2 r x)) (fun x => own (View.ld x0 r0_8 : B2 256 128) (View.ld x1 r0_8 : B2 256 128) (ix2 r x))
    hP hS M
  unfold piece4
  rw [close_at, block4, pv4_at, pv4_at, hT]
  refine congrArg (· * x3 (ix2 (row 4 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows5]
    refine congrArg (fun t : Fin 2048 => _ * x2 (ix2 t c)) (Fin.ext ?_)
    show i.val = i.val / 256 * 256 + i.val % 256
    omega
  · rw [dif_pos c.isLt, rows5]
    rfl
  · rw [dif_neg (by show ¬ 128 + c.val < 128; omega)]
  · rw [dif_neg (by show ¬ 128 + c.val < 128; omega)]

include hc h0 h1 h4 h5 h6 in
theorem piece5_val (r : Fin 256) (c : Fin 128) : piece5 x0 x1 x2 x3 x4 x5 x6 (ix2 r c) =
    Spec.attn c0 q k (fun m j c => x2 (ix2 (row m j) c)) 5 r c * x3 (ix2 (row 5 r) c) := by
  have hQ : ∀ (r : Fin 256) x, (View.ld x0 r0_11 : B2 256 128) (ix2 r x) = ((q 5 r x * (c0 / Real.log 2) : ℝ) : EReal) :=
    fun r x => (block5 x0 r x).trans (h0 5 r x)
  have hK : ∀ (r : Fin 256) x, (View.ld x1 r0_11 : B2 256 128) (ix2 r x) = ((k 5 r x : ℝ) : EReal) :=
    fun r x => (block5 x1 r x).trans (h1 5 r x)
  have hS := own_val c0 q k 5 _ _ hQ hK r
  have hA := aff_val c0 q k 5 _ _ (kmean_val k (View.ld x4 r0_0 : B2 16 2048) (View.ld x1 r0_1 : B2 2048 128)
    (fun m i => (all_avg x4 m i).trans (h4 m i)) (fun m j x => (rows8 x1 _ x).trans (h1 m j x))) hQ
  have hb := bias_val q k 5 _ _ (div_pos hc (Real.log_pos (by norm_num))) hA
  have hB := lanes_val (View.ld x6 r0_9 : B2 256 256) (fun r y => (all_eye x6 r y).trans (h6 r y)) (bias 5#32 (aff 5#32 (kmean (View.ld x4 r0_0 : B2 16 2048) (View.ld x1 r0_1 : B2 2048 128)) (View.ld x0 r0_11 : B2 256 128)))
  have hP : ∀ i : Fin 1280, (past5 (aug (View.ld x0 r0_11 : B2 256 128) (lanes (View.ld x6 r0_9 : B2 256 256) (bias 5#32 (aff 5#32 (kmean (View.ld x4 r0_0 : B2 16 2048) (View.ld x1 r0_1 : B2 2048 128)) (View.ld x0 r0_11 : B2 256 128))))) (View.ld x1 r0_12 : B2 1280 128) (View.ld x5 r0_12 : B2 1280 128)) (ix2 r i) = if Spec.chosen q k 5 r ⟨i.val / 256, by omega⟩
      then ((c0 * Spec.qk q k 5 r ⟨i.val / 256, by omega⟩ ⟨i.val % 256, by omega⟩ / Real.log 2 : ℝ) : EReal) else ⊥ := by
    intro i
    rw [past5_at]
    exact past_val c0 q k 5 (W := 1280) (by decide) _ hQ _ _ hb hB _ (fun i x => (rows5 x1 i x).trans (key_row k x1 h1 _ x)) _
      (fun i x => (rows5 x5 i x).trans (h5 _ x)) r i
  obtain ⟨M, hM⟩ := top_real (fun x => (past5 (aug (View.ld x0 r0_11 : B2 256 128) (lanes (View.ld x6 r0_9 : B2 256 256) (bias 5#32 (aff 5#32 (kmean (View.ld x4 r0_0 : B2 16 2048) (View.ld x1 r0_1 : B2 2048 128)) (View.ld x0 r0_11 : B2 256 128))))) (View.ld x1 r0_12 : B2 1280 128) (View.ld x5 r0_12 : B2 1280 128)) (ix2 r x)) (fun x => own (View.ld x0 r0_11 : B2 256 128) (View.ld x1 r0_11 : B2 256 128) (ix2 r x))
    (fun i => by rw [hP]; exact not_top _ _ _) (fun j => by rw [hS]; exact not_top _ _ _) r (by rw [hS, if_pos (le_refl r)]; exact EReal.coe_ne_bot _)
  have hT : top5 (own (View.ld x0 r0_11 : B2 256 128) (View.ld x1 r0_11 : B2 256 128)) (past5 (aug (View.ld x0 r0_11 : B2 256 128) (lanes (View.ld x6 r0_9 : B2 256 256) (bias 5#32 (aff 5#32 (kmean (View.ld x4 r0_0 : B2 16 2048) (View.ld x1 r0_1 : B2 2048 128)) (View.ld x0 r0_11 : B2 256 128))))) (View.ld x1 r0_12 : B2 1280 128) (View.ld x5 r0_12 : B2 1280 128)) (ix2 r 0) = (M : EReal) := by
    rw [top5_at, top0_at]
    exact hM
  have key := Spec.attn_of_rows c0 q k (fun m j c => x2 (ix2 (row m j) c)) 5 r c 1280 rfl (fun x => (past5 (aug (View.ld x0 r0_11 : B2 256 128) (lanes (View.ld x6 r0_9 : B2 256 256) (bias 5#32 (aff 5#32 (kmean (View.ld x4 r0_0 : B2 16 2048) (View.ld x1 r0_1 : B2 2048 128)) (View.ld x0 r0_11 : B2 256 128))))) (View.ld x1 r0_12 : B2 1280 128) (View.ld x5 r0_12 : B2 1280 128)) (ix2 r x)) (fun x => own (View.ld x0 r0_11 : B2 256 128) (View.ld x1 r0_11 : B2 256 128) (ix2 r x))
    hP hS M
  unfold piece5
  rw [close_at, block5, pv5_at, pv5_at, hT]
  refine congrArg (· * x3 (ix2 (row 5 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows6]
    refine congrArg (fun t : Fin 2048 => _ * x2 (ix2 t c)) (Fin.ext ?_)
    show i.val = i.val / 256 * 256 + i.val % 256
    omega
  · rw [dif_pos c.isLt, rows6]
    rfl
  · rw [dif_neg (by show ¬ 128 + c.val < 128; omega)]
  · rw [dif_neg (by show ¬ 128 + c.val < 128; omega)]

include hc h0 h1 h4 h5 h6 in
theorem piece6_val (r : Fin 256) (c : Fin 128) : piece6 x0 x1 x2 x3 x4 x5 x6 (ix2 r c) =
    Spec.attn c0 q k (fun m j c => x2 (ix2 (row m j) c)) 6 r c * x3 (ix2 (row 6 r) c) := by
  have hQ : ∀ (r : Fin 256) x, (View.ld x0 r0_13 : B2 256 128) (ix2 r x) = ((q 6 r x * (c0 / Real.log 2) : ℝ) : EReal) :=
    fun r x => (block6 x0 r x).trans (h0 6 r x)
  have hK : ∀ (r : Fin 256) x, (View.ld x1 r0_13 : B2 256 128) (ix2 r x) = ((k 6 r x : ℝ) : EReal) :=
    fun r x => (block6 x1 r x).trans (h1 6 r x)
  have hS := own_val c0 q k 6 _ _ hQ hK r
  have hA := aff_val c0 q k 6 _ _ (kmean_val k (View.ld x4 r0_0 : B2 16 2048) (View.ld x1 r0_1 : B2 2048 128)
    (fun m i => (all_avg x4 m i).trans (h4 m i)) (fun m j x => (rows8 x1 _ x).trans (h1 m j x))) hQ
  have hb := bias_val q k 6 _ _ (div_pos hc (Real.log_pos (by norm_num))) hA
  have hB := lanes_val (View.ld x6 r0_9 : B2 256 256) (fun r y => (all_eye x6 r y).trans (h6 r y)) (bias 6#32 (aff 6#32 (kmean (View.ld x4 r0_0 : B2 16 2048) (View.ld x1 r0_1 : B2 2048 128)) (View.ld x0 r0_13 : B2 256 128)))
  have hP : ∀ i : Fin 1536, (past6 (aug (View.ld x0 r0_13 : B2 256 128) (lanes (View.ld x6 r0_9 : B2 256 256) (bias 6#32 (aff 6#32 (kmean (View.ld x4 r0_0 : B2 16 2048) (View.ld x1 r0_1 : B2 2048 128)) (View.ld x0 r0_13 : B2 256 128))))) (View.ld x1 r0_14 : B2 1536 128) (View.ld x5 r0_14 : B2 1536 128)) (ix2 r i) = if Spec.chosen q k 6 r ⟨i.val / 256, by omega⟩
      then ((c0 * Spec.qk q k 6 r ⟨i.val / 256, by omega⟩ ⟨i.val % 256, by omega⟩ / Real.log 2 : ℝ) : EReal) else ⊥ := by
    intro i
    rw [past6_at]
    exact past_val c0 q k 6 (W := 1536) (by decide) _ hQ _ _ hb hB _ (fun i x => (rows6 x1 i x).trans (key_row k x1 h1 _ x)) _
      (fun i x => (rows6 x5 i x).trans (h5 _ x)) r i
  obtain ⟨M, hM⟩ := top_real (fun x => (past6 (aug (View.ld x0 r0_13 : B2 256 128) (lanes (View.ld x6 r0_9 : B2 256 256) (bias 6#32 (aff 6#32 (kmean (View.ld x4 r0_0 : B2 16 2048) (View.ld x1 r0_1 : B2 2048 128)) (View.ld x0 r0_13 : B2 256 128))))) (View.ld x1 r0_14 : B2 1536 128) (View.ld x5 r0_14 : B2 1536 128)) (ix2 r x)) (fun x => own (View.ld x0 r0_13 : B2 256 128) (View.ld x1 r0_13 : B2 256 128) (ix2 r x))
    (fun i => by rw [hP]; exact not_top _ _ _) (fun j => by rw [hS]; exact not_top _ _ _) r (by rw [hS, if_pos (le_refl r)]; exact EReal.coe_ne_bot _)
  have hT : top6 (own (View.ld x0 r0_13 : B2 256 128) (View.ld x1 r0_13 : B2 256 128)) (past6 (aug (View.ld x0 r0_13 : B2 256 128) (lanes (View.ld x6 r0_9 : B2 256 256) (bias 6#32 (aff 6#32 (kmean (View.ld x4 r0_0 : B2 16 2048) (View.ld x1 r0_1 : B2 2048 128)) (View.ld x0 r0_13 : B2 256 128))))) (View.ld x1 r0_14 : B2 1536 128) (View.ld x5 r0_14 : B2 1536 128)) (ix2 r 0) = (M : EReal) := by
    rw [top6_at, top0_at]
    exact hM
  have key := Spec.attn_of_rows c0 q k (fun m j c => x2 (ix2 (row m j) c)) 6 r c 1536 rfl (fun x => (past6 (aug (View.ld x0 r0_13 : B2 256 128) (lanes (View.ld x6 r0_9 : B2 256 256) (bias 6#32 (aff 6#32 (kmean (View.ld x4 r0_0 : B2 16 2048) (View.ld x1 r0_1 : B2 2048 128)) (View.ld x0 r0_13 : B2 256 128))))) (View.ld x1 r0_14 : B2 1536 128) (View.ld x5 r0_14 : B2 1536 128)) (ix2 r x)) (fun x => own (View.ld x0 r0_13 : B2 256 128) (View.ld x1 r0_13 : B2 256 128) (ix2 r x))
    hP hS M
  unfold piece6
  rw [close_at, block6, pv6_at, pv6_at, hT]
  refine congrArg (· * x3 (ix2 (row 6 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows7]
    refine congrArg (fun t : Fin 2048 => _ * x2 (ix2 t c)) (Fin.ext ?_)
    show i.val = i.val / 256 * 256 + i.val % 256
    omega
  · rw [dif_pos c.isLt, rows7]
    rfl
  · rw [dif_neg (by show ¬ 128 + c.val < 128; omega)]
  · rw [dif_neg (by show ¬ 128 + c.val < 128; omega)]

include hc h0 h1 h4 h5 h6 in
theorem piece7_val (r : Fin 256) (c : Fin 128) : piece7 x0 x1 x2 x3 x4 x5 x6 (ix2 r c) =
    Spec.attn c0 q k (fun m j c => x2 (ix2 (row m j) c)) 7 r c * x3 (ix2 (row 7 r) c) := by
  have hQ : ∀ (r : Fin 256) x, (View.ld x0 r0_15 : B2 256 128) (ix2 r x) = ((q 7 r x * (c0 / Real.log 2) : ℝ) : EReal) :=
    fun r x => (block7 x0 r x).trans (h0 7 r x)
  have hK : ∀ (r : Fin 256) x, (View.ld x1 r0_15 : B2 256 128) (ix2 r x) = ((k 7 r x : ℝ) : EReal) :=
    fun r x => (block7 x1 r x).trans (h1 7 r x)
  have hS := own_val c0 q k 7 _ _ hQ hK r
  have hA := aff_val c0 q k 7 _ _ (kmean_val k (View.ld x4 r0_0 : B2 16 2048) (View.ld x1 r0_1 : B2 2048 128)
    (fun m i => (all_avg x4 m i).trans (h4 m i)) (fun m j x => (rows8 x1 _ x).trans (h1 m j x))) hQ
  have hb := bias_val q k 7 _ _ (div_pos hc (Real.log_pos (by norm_num))) hA
  have hB := lanes_val (View.ld x6 r0_9 : B2 256 256) (fun r y => (all_eye x6 r y).trans (h6 r y)) (bias 7#32 (aff 7#32 (kmean (View.ld x4 r0_0 : B2 16 2048) (View.ld x1 r0_1 : B2 2048 128)) (View.ld x0 r0_15 : B2 256 128)))
  have hP : ∀ i : Fin 1792, (past7 (aug (View.ld x0 r0_15 : B2 256 128) (lanes (View.ld x6 r0_9 : B2 256 256) (bias 7#32 (aff 7#32 (kmean (View.ld x4 r0_0 : B2 16 2048) (View.ld x1 r0_1 : B2 2048 128)) (View.ld x0 r0_15 : B2 256 128))))) (View.ld x1 r0_16 : B2 1792 128) (View.ld x5 r0_16 : B2 1792 128)) (ix2 r i) = if Spec.chosen q k 7 r ⟨i.val / 256, by omega⟩
      then ((c0 * Spec.qk q k 7 r ⟨i.val / 256, by omega⟩ ⟨i.val % 256, by omega⟩ / Real.log 2 : ℝ) : EReal) else ⊥ := by
    intro i
    rw [past7_at]
    exact past_val c0 q k 7 (W := 1792) (by decide) _ hQ _ _ hb hB _ (fun i x => (rows7 x1 i x).trans (key_row k x1 h1 _ x)) _
      (fun i x => (rows7 x5 i x).trans (h5 _ x)) r i
  obtain ⟨M, hM⟩ := top_real (fun x => (past7 (aug (View.ld x0 r0_15 : B2 256 128) (lanes (View.ld x6 r0_9 : B2 256 256) (bias 7#32 (aff 7#32 (kmean (View.ld x4 r0_0 : B2 16 2048) (View.ld x1 r0_1 : B2 2048 128)) (View.ld x0 r0_15 : B2 256 128))))) (View.ld x1 r0_16 : B2 1792 128) (View.ld x5 r0_16 : B2 1792 128)) (ix2 r x)) (fun x => own (View.ld x0 r0_15 : B2 256 128) (View.ld x1 r0_15 : B2 256 128) (ix2 r x))
    (fun i => by rw [hP]; exact not_top _ _ _) (fun j => by rw [hS]; exact not_top _ _ _) r (by rw [hS, if_pos (le_refl r)]; exact EReal.coe_ne_bot _)
  have hT : top7 (own (View.ld x0 r0_15 : B2 256 128) (View.ld x1 r0_15 : B2 256 128)) (past7 (aug (View.ld x0 r0_15 : B2 256 128) (lanes (View.ld x6 r0_9 : B2 256 256) (bias 7#32 (aff 7#32 (kmean (View.ld x4 r0_0 : B2 16 2048) (View.ld x1 r0_1 : B2 2048 128)) (View.ld x0 r0_15 : B2 256 128))))) (View.ld x1 r0_16 : B2 1792 128) (View.ld x5 r0_16 : B2 1792 128)) (ix2 r 0) = (M : EReal) := by
    rw [top7_at, top0_at]
    exact hM
  have key := Spec.attn_of_rows c0 q k (fun m j c => x2 (ix2 (row m j) c)) 7 r c 1792 rfl (fun x => (past7 (aug (View.ld x0 r0_15 : B2 256 128) (lanes (View.ld x6 r0_9 : B2 256 256) (bias 7#32 (aff 7#32 (kmean (View.ld x4 r0_0 : B2 16 2048) (View.ld x1 r0_1 : B2 2048 128)) (View.ld x0 r0_15 : B2 256 128))))) (View.ld x1 r0_16 : B2 1792 128) (View.ld x5 r0_16 : B2 1792 128)) (ix2 r x)) (fun x => own (View.ld x0 r0_15 : B2 256 128) (View.ld x1 r0_15 : B2 256 128) (ix2 r x))
    hP hS M
  unfold piece7
  rw [close_at, block7, pv7_at, pv7_at, hT]
  refine congrArg (· * x3 (ix2 (row 7 r) c)) (Eq.trans ?_ key)
  refine congrArg₂ Ideal.div (congrArg₂ (· + ·) (Finset.sum_congr rfl fun i _ => ?_) (Finset.sum_congr rfl fun j _ => ?_))
    (congrArg₂ (· + ·) (Finset.sum_congr rfl fun i _ => ?_) (Finset.sum_congr rfl fun j _ => ?_))
  · rw [dif_pos c.isLt, rows8]
    refine congrArg (fun t : Fin 2048 => _ * x2 (ix2 t c)) (Fin.ext ?_)
    show i.val = i.val / 256 * 256 + i.val % 256
    omega
  · rw [dif_pos c.isLt, rows8]
    rfl
  · rw [dif_neg (by show ¬ 128 + c.val < 128; omega)]
  · rw [dif_neg (by show ¬ 128 + c.val < 128; omega)]

end Cert.Proof.Ker

end
-- ==== Proof.KerOut.lean ====
/- The output block: at every row the attention over the reals, times the gate. -/
module

public import proofs.«01_k».proof.Proof.KerPieces

@[expose] public section

set_option maxRecDepth 16384

noncomputable section

namespace Cert.Proof.Ker

open Idealize.ShloMosaic Cert.KernelIdeal Cert.Proof
open Cert.KernelIdeal.Gen (r0_0 r0_1 r0_2 r0_3 r0_4 r0_5 r0_6 r0_7 r0_8 r0_9 r0_10 r0_11 r0_12 r0_13 r0_14 r0_15 r0_16 out0_7)

theorem pair_eta {a b : ℕ} (x : (⟨2, ![a, b]⟩ : Shape).Idx) : ∃ (r : Fin a) (c : Fin b), x = ix2 r c :=
  ⟨x 0, x 1, funext fun i => by fin_cases i <;> rfl⟩

variable (c0 : ℝ) (q k : Spec.Mat) (hc : 0 < c0)
  (x0 x1 x2 x3 : B2 2048 128) (x4 : B2 16 2048) (x5 : B2 2048 128) (x6 : B2 256 256)
  (h0 : ∀ (n : Fin 8) (r : Fin 256) x, x0 (ix2 (row n r) x) = ((q n r x * (c0 / Real.log 2) : ℝ) : EReal))
  (h1 : ∀ (m : Fin 8) (j : Fin 256) x, x1 (ix2 (row m j) x) = ((k m j x : ℝ) : EReal))
  (h4 : ∀ m i, x4 (ix2 m i) = if i.val / 256 = m.val then ((1 / 256 : ℝ) : EReal) else 0)
  (h5 : ∀ i x, x5 (ix2 i x) = if i.val / 256 = x.val then 1 else 0)
  (h6 : ∀ r y, x6 (ix2 r y) = if r = y then 1 else 0)

/-- The output at a row and channel of the block. -/
def goal (y : S2048x128.Idx) : EReal :=
  Spec.attn c0 q k (fun m j c => x2 (ix2 (row m j) c)) ⟨(y 0).val / 256, by have h : (y 0).val < 2048 := (y 0).isLt; omega⟩
    ⟨(y 0).val % 256, by omega⟩ (y 1) * x3 y

/-- A piece's value is the block's at its rows. -/
theorem goal_piece (n : Fin 8) (p : B2 256 128) (e : (⟨2, ![256, 128]⟩ : Shape).Idx → S2048x128.Idx)
    (he : ∀ (r : Fin 256) (c : Fin 128), e (ix2 r c) = ix2 (row n r) c)
    (hp : ∀ (r : Fin 256) (c : Fin 128), p (ix2 r c) = Spec.attn c0 q k (fun m j c => x2 (ix2 (row m j) c)) n r c
      * x3 (ix2 (row n r) c)) (x : (⟨2, ![256, 128]⟩ : Shape).Idx) :
    p x = goal c0 q k x2 x3 (e x) := by
  obtain ⟨r, c, rfl⟩ := pair_eta x
  rw [he, hp]
  unfold goal
  refine congrArg₂ (fun (a : Fin 8) (b : Fin 256) => Spec.attn c0 q k _ a b c * _) (Fin.ext ?_) (Fin.ext ?_)
  · show n.val = (n.val * 256 + r.val) / 256; omega
  · show r.val = (n.val * 256 + r.val) % 256; omega

include hc h0 h1 h4 h5 h6 in
theorem out_val (y : S2048x128.Idx) : out0_7 (F := Ideal) x0 x1 x2 x3 x4 x5 x6 y = goal c0 q k x2 x3 y := by
  rw [out_eq]
  refine View.canon_apply_of_pieces (Val := Elt Ideal) (e := .bf16) (goal c0 q k x2 x3) _ ?_ y (View.cover_of_tiled _ ![256, 128] rfl y)
  intro p hp
  simp only [List.mem_cons, List.not_mem_nil, or_false] at hp
  rcases hp with rfl | rfl | rfl | rfl | rfl | rfl | rfl | rfl
  · exact goal_piece c0 q k x2 x3 7 _ r0_15.emb (fun r c => funext fun a => Fin.ext (by
      match a with
      | ⟨0, _⟩ => show 1792 + 1 * r.val = 1792 + r.val; omega
      | ⟨1, _⟩ => show 0 + 1 * c.val = c.val; omega)) (piece7_val c0 q k hc x0 x1 x2 x3 x4 x5 x6 h0 h1 h4 h5 h6)
  · exact goal_piece c0 q k x2 x3 6 _ r0_13.emb (fun r c => funext fun a => Fin.ext (by
      match a with
      | ⟨0, _⟩ => show 1536 + 1 * r.val = 1536 + r.val; omega
      | ⟨1, _⟩ => show 0 + 1 * c.val = c.val; omega)) (piece6_val c0 q k hc x0 x1 x2 x3 x4 x5 x6 h0 h1 h4 h5 h6)
  · exact goal_piece c0 q k x2 x3 5 _ r0_11.emb (fun r c => funext fun a => Fin.ext (by
      match a with
      | ⟨0, _⟩ => show 1280 + 1 * r.val = 1280 + r.val; omega
      | ⟨1, _⟩ => show 0 + 1 * c.val = c.val; omega)) (piece5_val c0 q k hc x0 x1 x2 x3 x4 x5 x6 h0 h1 h4 h5 h6)
  · exact goal_piece c0 q k x2 x3 4 _ r0_8.emb (fun r c => funext fun a => Fin.ext (by
      match a with
      | ⟨0, _⟩ => show 1024 + 1 * r.val = 1024 + r.val; omega
      | ⟨1, _⟩ => show 0 + 1 * c.val = c.val; omega)) (piece4_val c0 q k hc x0 x1 x2 x3 x4 x5 x6 h0 h1 h4 h5 h6)
  · exact goal_piece c0 q k x2 x3 3 _ r0_6.emb (fun r c => funext fun a => Fin.ext (by
      match a with
      | ⟨0, _⟩ => show 768 + 1 * r.val = 768 + r.val; omega
      | ⟨1, _⟩ => show 0 + 1 * c.val = c.val; omega)) (piece3_val c0 q k x0 x1 x2 x3 x4 x5 x6 h0 h1)
  · exact goal_piece c0 q k x2 x3 2 _ r0_4.emb (fun r c => funext fun a => Fin.ext (by
      match a with
      | ⟨0, _⟩ => show 512 + 1 * r.val = 512 + r.val; omega
      | ⟨1, _⟩ => show 0 + 1 * c.val = c.val; omega)) (piece2_val c0 q k x0 x1 x2 x3 x4 x5 x6 h0 h1)
  · exact goal_piece c0 q k x2 x3 1 _ r0_3.emb (fun r c => funext fun a => Fin.ext (by
      match a with
      | ⟨0, _⟩ => show 256 + 1 * r.val = 256 + r.val; omega
      | ⟨1, _⟩ => show 0 + 1 * c.val = c.val; omega)) (piece1_val c0 q k x0 x1 x2 x3 x4 x5 x6 h0 h1)
  · exact goal_piece c0 q k x2 x3 0 _ r0_2.emb (fun r c => funext fun a => Fin.ext (by
      match a with
      | ⟨0, _⟩ => show 0 + 1 * r.val = 0 + r.val; omega
      | ⟨1, _⟩ => show 0 + 1 * c.val = c.val; omega)) (piece0_val c0 q k x0 x1 x2 x3 x4 x5 x6 h0 h1)

end Cert.Proof.Ker

end
-- ==== Proof.KerHost.lean ====
/- The kernel's operands: the concatenated columns and the three constant matrices, as terms and read at an index. -/
module

public import proofs.«01_k».proof.Proof.KerStages
public import proofs.«01_k».proof.Proof.Gen.KernelIdeal.Value
public import Idealize.ShloMosaic.Lib.IdealHost

@[expose] public section

set_option maxRecDepth 16384

noncomputable section

namespace Cert.Proof.Ker

open Idealize.ShloMosaic Idealize.ShloMosaic.TcCoe Cert.KernelIdeal Cert.KernelIdeal.Facts₀ Cert.Proof
open Cert.KernelIdeal.Gen (V iblk)

abbrev Arg := FVec Ideal S8x2048x1024 .f32

/-- The queries with the softmax's factor, in base two. -/
def scaled (q : Arg) : Arg :=
  Host.divf (mulf q (broadcastInDim S8x2048x1024 ![] bcast_S_S8x2048x1024 (constant S_ .f32 0x3DB504F3#32)))
    (broadcastInDim S8x2048x1024 ![] bcast_S_S8x2048x1024 (Host.log (constant S_ .f32 0x40000000#32)))

/-- The gate. -/
def swish (g : Arg) : Arg :=
  mulf g (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g))))

/-- An array by its rows. -/
def flat (x : Arg) : B2 16384 1024 := truncf .bf16 (shapeCast S16384x1024 x shapeCasts_S8x2048x1024_S16384x1024) bitsLt_bf16_f32

/-- The columns of the projection the kernel reads. -/
def proj (q k v g : Arg) : B2 16384 6656 :=
  concatenate S16384x6656 1 [⟨S16384x2048, broadcastInDim S16384x2048 ![] bcast_S_S16384x2048 (constant (F := Ideal) S_ .bf16 0x0000#16)⟩,
    ⟨S16384x1024, flat (swish g)⟩, ⟨S16384x1024, flat (scaled q)⟩, ⟨S16384x1024, flat k⟩, ⟨S16384x1024, flat v⟩,
    ⟨S16384x512, broadcastInDim S16384x512 ![] bcast_S_S16384x512 (constant (F := Ideal) S_ .bf16 0x0000#16)⟩]
    concatenates_S16384x2048_S16384x1024_S16384x1024_S16384x1024_S16384x1024_S16384x512_S16384x6656_d1

/-- The averaging matrix. -/
def avgM : B2 16 2048 :=
  truncf .bf16 (select (cmpi .eq (iotaInDim S16x2048 32 0)
      (Host.divsi (iotaInDim S16x2048 32 1) (broadcastInDim S16x2048 ![] bcast_S_S16x2048 (constantI S_ 32 256#32))))
    (broadcastInDim S16x2048 ![] bcast_S_S16x2048 (constant (F := Ideal) S_ .f32 0x3B800000#32))
    (broadcastInDim S16x2048 ![] bcast_S_S16x2048 (constant (F := Ideal) S_ .f32 0x00000000#32))) bitsLt_bf16_f32

/-- The matrix of a row's block. -/
def hotM : B2 2048 128 :=
  truncf .bf16 (select (cmpi .eq (Host.divsi (iotaInDim S2048x128 32 0) (broadcastInDim S2048x128 ![] bcast_S_S2048x128 (constantI S_ 32 256#32)))
      (iotaInDim S2048x128 32 1))
    (broadcastInDim S2048x128 ![] bcast_S_S2048x128 (constant (F := Ideal) S_ .f32 0x3F800000#32))
    (broadcastInDim S2048x128 ![] bcast_S_S2048x128 (constant (F := Ideal) S_ .f32 0x00000000#32))) bitsLt_bf16_f32

/-- The identity matrix. -/
def eyeM : B2 256 256 :=
  truncf .bf16 (select (cmpi .eq (iotaInDim S256x256 32 0) (iotaInDim S256x256 32 1))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

variable (m : (ℓ : Loc nD τ sig) → Buf (Elt Ideal) ℓ) (c : Dev nD)

theorem V_proj : V m c main_v16 = proj (m ((c.tc : Thread nD τ).loc main_arg0)) (m ((c.tc : Thread nD τ).loc main_arg1))
    (m ((c.tc : Thread nD τ).loc main_arg2)) (m ((c.tc : Thread nD τ).loc main_arg3)) := rfl

theorem V_avg : V m c main_v23 = avgM := rfl

theorem V_hot : V m c main_v30 = hotM := rfl

theorem V_eye : V m c main_v35 = eyeM := rfl

theorem eq_bits : ∀ (i j : ℕ), i < 4096 → j < 4096 → IntOp.cmpi .eq (BitVec.ofNat 32 i) (BitVec.ofNat 32 j) = if i = j then 1#1 else 0#1 := by
  intro i j hi hj
  by_cases h : i = j
  · subst h; simp [IntOp.cmpi]
  · have : BitVec.ofNat 32 i ≠ BitVec.ofNat 32 j := fun e => h (by
      have := congrArg BitVec.toNat e
      simp only [BitVec.toNat_ofNat] at this
      omega)
    simp only [IntOp.cmpi, if_neg h, beq_eq_false_iff_ne.mpr this]
    rfl

theorem div_bits : ∀ i : Fin 2048, IntOp.divsi .host (BitVec.ofNat 32 i.val) 256#32 = BitVec.ofNat 32 (i.val / 256) := by
  decide +kernel

theorem choose_bits (p : Prop) [Decidable p] (x y : EReal) : Scalar.select (if p then 1#1 else 0#1) x y = if p then x else y := by
  by_cases hp : p <;> simp [hp, Scalar.select]

theorem lit_avg : Ideal.ofBits .f32 0x3B800000#32 = ((1 / 256 : ℝ) : EReal) := by
  simp [Ideal.ofBits, Ideal.ieee, -EReal.coe_mul]; norm_num

theorem eyeM_at (r y : Fin 256) : eyeM (ix2 r y) = if r = y then 1 else 0 := by
  pointwise [eyeM]
  rw [eq_bits _ _ (by omega) (by omega), choose_bits]
  exact if_congr Fin.ext_iff.symm rfl rfl

theorem hotM_at (i : Fin 2048) (x : Fin 128) : hotM (ix2 i x) = if i.val / 256 = x.val then 1 else 0 := by
  pointwise [hotM]
  rw [div_bits, eq_bits _ _ (by omega) (by omega), choose_bits]

theorem avgM_at (a : Fin 16) (i : Fin 2048) : avgM (ix2 a i) = if i.val / 256 = a.val then ((1 / 256 : ℝ) : EReal) else 0 := by
  pointwise [avgM]
  rw [div_bits, eq_bits _ _ (by omega) (by omega), choose_bits, lit_avg]
  exact if_congr eq_comm rfl rfl

theorem flat_at (x : Arg) (R : Fin 16384) (C : Fin 1024) : flat x (ix2 R C) = x (ix3 ⟨R.val / 2048, by omega⟩ ⟨R.val % 2048, by omega⟩ C) := by
  pointwise [flat]

theorem proj_g (q k v g : Arg) (R : Fin 16384) (C : Fin 1024) : proj q k v g (ix2 R ⟨2048 + C.val, by omega⟩) = flat (swish g) (ix2 R C) := by
  pointwise [proj]

theorem proj_q (q k v g : Arg) (R : Fin 16384) (C : Fin 1024) : proj q k v g (ix2 R ⟨3072 + C.val, by omega⟩) = flat (scaled q) (ix2 R C) := by
  pointwise [proj]
  rw [dif_neg (by omega), dif_neg (by omega), dif_pos (by omega)]
  exact congrArg (fun t => flat (scaled q) (ix2 R t)) (Fin.ext (by show 3072 + C.val - 2048 - 1024 = C.val; omega))

theorem proj_k (q k v g : Arg) (R : Fin 16384) (C : Fin 1024) : proj q k v g (ix2 R ⟨4096 + C.val, by omega⟩) = flat k (ix2 R C) := by
  pointwise [proj]
  rw [dif_neg (by omega), dif_neg (by omega), dif_neg (by omega), dif_pos (by omega)]
  exact congrArg (fun t => flat k (ix2 R t)) (Fin.ext (by show 4096 + C.val - 2048 - 1024 - 1024 = C.val; omega))

theorem proj_v (q k v g : Arg) (R : Fin 16384) (C : Fin 1024) : proj q k v g (ix2 R ⟨5120 + C.val, by omega⟩) = flat v (ix2 R C) := by
  pointwise [proj]
  rw [dif_neg (by omega), dif_neg (by omega), dif_neg (by omega), dif_neg (by omega), dif_pos (by omega)]
  exact congrArg (fun t => flat v (ix2 R t)) (Fin.ext (by show 5120 + C.val - 2048 - 1024 - 1024 - 1024 = C.val; omega))

theorem scaled_at (q : Arg) (b : Fin 8) (r : Fin 2048) (C : Fin 1024) : scaled q (ix3 b r C) =
    Ideal.div (q (ix3 b r C) * Ideal.ofBits .f32 0x3DB504F3#32) (Ideal.log (Ideal.ofBits .f32 0x40000000#32)) := by
  pointwise [scaled]

theorem swish_at (g : Arg) (b : Fin 8) (r : Fin 2048) (C : Fin 1024) : swish g (ix3 b r C) =
    g (ix3 b r C) * Ideal.div 1 (1 + Ideal.exp (-g (ix3 b r C))) := by
  pointwise [swish]

theorem lt64 (t : Fin cfg0.N) : t.val < 64 := t.isLt

theorem index0 : ∀ t : Fin cfg0.N, win0_0.index t 0 = t.val / 8 ∧ win0_0.index t 1 = 24 + t.val % 8 :=
  (by decide +kernel : ∀ t : Fin grid0.N, win0_0.index t 0 = t.val / 8 ∧ win0_0.index t 1 = 24 + t.val % 8)

theorem iblk0 (t : Fin cfg0.N) (i : Fin 2048) (x : Fin 128) : (iblk m c 0 t : B2 2048 128) (ix2 i x) =
    V m c main_v16 (ix2 ⟨t.val / 8 * 2048 + i.val, by have := lt64 t; omega⟩ ⟨3072 + (t.val % 8 * 128 + x.val), by omega⟩) := by
  refine congrArg (V m c main_v16) (funext fun a => Fin.ext ?_)
  match a with
  | ⟨0, _⟩ =>
    show win0_0.index t 0 * 2048 + 1 * i.val = t.val / 8 * 2048 + i.val
    rw [(index0 t).1]; omega
  | ⟨1, _⟩ =>
    show win0_0.index t 1 * 128 + 1 * x.val = 3072 + (t.val % 8 * 128 + x.val)
    rw [(index0 t).2]; omega

theorem index1 : ∀ t : Fin cfg0.N, win0_1.index t 0 = t.val / 8 ∧ win0_1.index t 1 = 32 + t.val % 8 :=
  (by decide +kernel : ∀ t : Fin grid0.N, win0_1.index t 0 = t.val / 8 ∧ win0_1.index t 1 = 32 + t.val % 8)

theorem iblk1 (t : Fin cfg0.N) (i : Fin 2048) (x : Fin 128) : (iblk m c 1 t : B2 2048 128) (ix2 i x) =
    V m c main_v16 (ix2 ⟨t.val / 8 * 2048 + i.val, by have := lt64 t; omega⟩ ⟨4096 + (t.val % 8 * 128 + x.val), by omega⟩) := by
  refine congrArg (V m c main_v16) (funext fun a => Fin.ext ?_)
  match a with
  | ⟨0, _⟩ =>
    show win0_1.index t 0 * 2048 + 1 * i.val = t.val / 8 * 2048 + i.val
    rw [(index1 t).1]; omega
  | ⟨1, _⟩ =>
    show win0_1.index t 1 * 128 + 1 * x.val = 4096 + (t.val % 8 * 128 + x.val)
    rw [(index1 t).2]; omega

theorem index2 : ∀ t : Fin cfg0.N, win0_2.index t 0 = t.val / 8 ∧ win0_2.index t 1 = 40 + t.val % 8 :=
  (by decide +kernel : ∀ t : Fin grid0.N, win0_2.index t 0 = t.val / 8 ∧ win0_2.index t 1 = 40 + t.val % 8)

theorem iblk2 (t : Fin cfg0.N) (i : Fin 2048) (x : Fin 128) : (iblk m c 2 t : B2 2048 128) (ix2 i x) =
    V m c main_v16 (ix2 ⟨t.val / 8 * 2048 + i.val, by have := lt64 t; omega⟩ ⟨5120 + (t.val % 8 * 128 + x.val), by omega⟩) := by
  refine congrArg (V m c main_v16) (funext fun a => Fin.ext ?_)
  match a with
  | ⟨0, _⟩ =>
    show win0_2.index t 0 * 2048 + 1 * i.val = t.val / 8 * 2048 + i.val
    rw [(index2 t).1]; omega
  | ⟨1, _⟩ =>
    show win0_2.index t 1 * 128 + 1 * x.val = 5120 + (t.val % 8 * 128 + x.val)
    rw [(index2 t).2]; omega

theorem index3 : ∀ t : Fin cfg0.N, win0_3.index t 0 = t.val / 8 ∧ win0_3.index t 1 = 16 + t.val % 8 :=
  (by decide +kernel : ∀ t : Fin grid0.N, win0_3.index t 0 = t.val / 8 ∧ win0_3.index t 1 = 16 + t.val % 8)

theorem iblk3 (t : Fin cfg0.N) (i : Fin 2048) (x : Fin 128) : (iblk m c 3 t : B2 2048 128) (ix2 i x) =
    V m c main_v16 (ix2 ⟨t.val / 8 * 2048 + i.val, by have := lt64 t; omega⟩ ⟨2048 + (t.val % 8 * 128 + x.val), by omega⟩) := by
  refine congrArg (V m c main_v16) (funext fun a => Fin.ext ?_)
  match a with
  | ⟨0, _⟩ =>
    show win0_3.index t 0 * 2048 + 1 * i.val = t.val / 8 * 2048 + i.val
    rw [(index3 t).1]; omega
  | ⟨1, _⟩ =>
    show win0_3.index t 1 * 128 + 1 * x.val = 2048 + (t.val % 8 * 128 + x.val)
    rw [(index3 t).2]; omega

theorem iblk4 (t : Fin cfg0.N) : (iblk m c 4 t : B2 16 2048) = V m c main_v23 := by
  refine funext fun y => congrArg (V m c main_v23) (funext fun a => Fin.ext ?_)
  match a with
  | ⟨0, _⟩ =>
    show 0 * 16 + 1 * (y 0).val = (y 0).val
    omega
  | ⟨1, _⟩ =>
    show 0 * 2048 + 1 * (y 1).val = (y 1).val
    omega

theorem iblk5 (t : Fin cfg0.N) : (iblk m c 5 t : B2 2048 128) = V m c main_v30 := by
  refine funext fun y => congrArg (V m c main_v30) (funext fun a => Fin.ext ?_)
  match a with
  | ⟨0, _⟩ =>
    show 0 * 2048 + 1 * (y 0).val = (y 0).val
    omega
  | ⟨1, _⟩ =>
    show 0 * 128 + 1 * (y 1).val = (y 1).val
    omega

theorem iblk6 (t : Fin cfg0.N) : (iblk m c 6 t : B2 256 256) = V m c main_v35 := by
  refine funext fun y => congrArg (V m c main_v35) (funext fun a => Fin.ext ?_)
  match a with
  | ⟨0, _⟩ =>
    show 0 * 256 + 1 * (y 0).val = (y 0).val
    omega
  | ⟨1, _⟩ =>
    show 0 * 256 + 1 * (y 1).val = (y 1).val
    omega

theorem index7 : ∀ t : Fin cfg0.N, win0_7.index t 0 = t.val / 8 ∧ win0_7.index t 1 = t.val % 8 :=
  (by decide +kernel : ∀ t : Fin grid0.N, win0_7.index t 0 = t.val / 8 ∧ win0_7.index t 1 = t.val % 8)

end Cert.Proof.Ker

end
-- ==== Proof.RefStages.lean ====
/- The reference's result in stages, each a vector term of the four argument arrays or of earlier stages. The stages
   composed are the term its run leaves in the result buffer. -/
module

public import proofs.«01_k».proof.Proof.Gen.ReferenceIdeal.Run
public import Idealize.ShloMosaic.Lib.Pointwise
public import Idealize.ShloMosaic.PureOps.Ideal

@[expose] public section

set_option maxRecDepth 16384

noncomputable section

namespace Cert.Proof.Ref

open Idealize.ShloMosaic Cert.ReferenceIdeal Cert.ReferenceIdeal.Facts₀

abbrev Arg := FVec Ideal S8x2048x1024 .f32
abbrev Blk := FVec Ideal S8x8x8x256x128 .f32
abbrev Out := FVec Ideal S16384x1024 .bf16

/-- An argument cut into batch, head, block, row and channel. -/
def blocks (x : Arg) : Blk :=
  transpose S8x8x8x256x128 [0, 3, 1, 2, 4] (shapeCast S8x8x256x8x128 x shapeCasts_S8x2048x1024_S8x8x256x8x128)
    transposes_S8x8x256x8x128_S8x8x8x256x128_0_3_1_2_4

/-- The affinity of every query to every block, blocks not yet past masked. -/
def aff (qb kb : Blk) : FVec Ideal S8x8x8x256x8 .f32 :=
  select (cmpi .slt (iotaInDim S8x8x8x256x8 32 4) (iotaInDim S8x8x8x256x8 32 2))
    (Host.dotGeneral dot_S8x8x8x256x128_S8x8x8x128_S8x8x8x256x8_4_3_23_2_01_01 none qb
      (Host.divf (Host.reduceAdd kb (constant S_ .f32 0x00000000#32) reducesTo_S8x8x8x256x128_S8x8x8x128_d3 h_S_)
        (broadcastInDim S8x8x8x128 ![] bcast_S_S8x8x8x128 (constant S_ .f32 0x43800000#32))))
    (broadcastInDim S8x8x8x256x8 ![] bcast_S_S8x8x8x256x8 (id (constant S_ .f32 0xFF800000#32)))

/-- The three chosen blocks. -/
def sel (a : FVec Ideal S8x8x8x256x8 .f32) : IVec S8x8x8x256x3 32 :=
  (Host.topK S8x8x8x256x3 4 (FloatOps.cmpfTotal (F := Ideal) (φ := .f32) .gt) a sliceFits_S8x8x8x256x8_S8x8x8x256x3).2

/-- Where the gather reads: batch, head and chosen block. -/
def at3 (s : IVec S8x8x8x256x3 32) : IVec S8x8x8x256x3x3 32 :=
  concatenate S8x8x8x256x3x3 5
    [⟨S8x8x8x256x3x1, broadcastInDim S8x8x8x256x3x1 ![0, 1, 2, 3, 4] bcast_S8x8x8x256x3_S8x8x8x256x3x1_0_1_2_3_4 (iotaInDim S8x8x8x256x3 32 0)⟩,
     ⟨S8x8x8x256x3x1, broadcastInDim S8x8x8x256x3x1 ![0, 1, 2, 3, 4] bcast_S8x8x8x256x3_S8x8x8x256x3x1_0_1_2_3_4 (iotaInDim S8x8x8x256x3 32 1)⟩,
     ⟨S8x8x8x256x3x1, broadcastInDim S8x8x8x256x3x1 ![0, 1, 2, 3, 4] bcast_S8x8x8x256x3_S8x8x8x256x3x1_0_1_2_3_4 s⟩]
    concatenates_S8x8x8x256x3x1_S8x8x8x256x3x1_S8x8x8x256x3x1_S8x8x8x256x3x3_d5

/-- The chosen blocks of keys or values. -/
def picked (b : Blk) (s : IVec S8x8x8x256x3 32) : FVec Ideal S8x8x8x256x3x256x128 .f32 :=
  Host.gather gather_S8x8x8x256x128_S8x8x8x256x3x3_S8x8x8x256x3x256x128_56_012_n_n_012_5_111256128 b (at3 s)

/-- Scores against the chosen blocks, a block that is not past masked. -/
def scoreSel (qb : Blk) (kg : FVec Ideal S8x8x8x256x3x256x128 .f32) (s : IVec S8x8x8x256x3 32) :
    FVec Ideal S8x8x8x256x3x256 .f32 :=
  select (broadcastInDim S8x8x8x256x3x256 ![0, 1, 2, 3, 4, 5] bcast_S8x8x8x256x3x1_S8x8x8x256x3x256_0_1_2_3_4_5
      (broadcastInDim S8x8x8x256x3x1 ![0, 1, 2, 3, 4] bcast_S8x8x8x256x3_S8x8x8x256x3x1_0_1_2_3_4
        (cmpi .slt s (extractStridedSlice S8x8x8x256x3 ![0, 0, 0, 0, 0] (iotaInDim S8x8x8x256x8 32 2)
          slices_S8x8x8x256x8_S8x8x8x256x3_0_0_0_0_0))))
    (mulf (Host.dotGeneral dot_S8x8x8x256x128_S8x8x8x256x3x256x128_S8x8x8x256x3x256_4_6_n_45_0123_0123 none qb kg)
      (broadcastInDim S8x8x8x256x3x256 ![] bcast_S_S8x8x8x256x3x256 (constant S_ .f32 0x3DB504F3#32)))
    (broadcastInDim S8x8x8x256x3x256 ![] bcast_S_S8x8x8x256x3x256 (id (constant S_ .f32 0xFF800000#32)))

/-- Scores against the own block, keys after the query masked. -/
def scoreOwn (qb kb : Blk) : FVec Ideal S8x8x8x256x256 .f32 :=
  select (broadcastInDim S8x8x8x256x256 ![3, 4] bcast_S256x256_S8x8x8x256x256_3_4
      (select (cmpi .sge (addi (iotaInDim S256x256 32 0) (broadcastInDim S256x256 ![] bcast_S_S256x256 (constantI S_ 32 0#32)))
          (iotaInDim S256x256 32 1))
        (broadcastInDim S256x256 ![] bcast_S_S256x256 (constantI S_ 1 1#1))
        (broadcastInDim S256x256 ![] bcast_S_S256x256 (constantI S_ 1 0#1))))
    (mulf (Host.dotGeneral dot_S8x8x8x256x128_S8x8x8x256x128_S8x8x8x256x256_4_4_3_3_012_012 none qb kb)
      (broadcastInDim S8x8x8x256x256 ![] bcast_S_S8x8x8x256x256 (constant S_ .f32 0x3DB504F3#32)))
    (broadcastInDim S8x8x8x256x256 ![] bcast_S_S8x8x8x256x256 (id (constant S_ .f32 0xFF800000#32)))

/-- All 1024 scores of a query. -/
def logits (a : FVec Ideal S8x8x8x256x3x256 .f32) (b : FVec Ideal S8x8x8x256x256 .f32) : FVec Ideal S8x8x8x256x1024 .f32 :=
  concatenate S8x8x8x256x1024 4
    [⟨S8x8x8x256x768, shapeCast S8x8x8x256x768 a shapeCasts_S8x8x8x256x3x256_S8x8x8x256x768⟩, ⟨S8x8x8x256x256, b⟩]
    concatenates_S8x8x8x256x768_S8x8x8x256x256_S8x8x8x256x1024_d4

/-- The greatest score of a query. -/
def rowMax (l : FVec Ideal S8x8x8x256x1024 .f32) : FVec Ideal S8x8x8x256 .f32 :=
  maximumf (broadcastInDim S8x8x8x256 ![] bcast_S_S8x8x8x256 (constant S_ .f32 0xFF800000#32))
    (Host.reduce FloatOps.maximumf l (constant S_ .f32 0xFF800000#32) reducesTo_S8x8x8x256x1024_S8x8x8x256_d4 h_S_)

/-- The exponentials of the scores less their maximum. -/
def expo (l : FVec Ideal S8x8x8x256x1024 .f32) : FVec Ideal S8x8x8x256x1024 .f32 :=
  Host.exp (subf l (broadcastInDim S8x8x8x256x1024 ![0, 1, 2, 3, 4] bcast_S8x8x8x256x1_S8x8x8x256x1024_0_1_2_3_4
    (broadcastInDim S8x8x8x256x1 ![0, 1, 2, 3] bcast_S8x8x8x256_S8x8x8x256x1_0_1_2_3 (rowMax l))))

/-- The softmax. -/
def prob (e : FVec Ideal S8x8x8x256x1024 .f32) : FVec Ideal S8x8x8x256x1024 .f32 :=
  Host.divf e (broadcastInDim S8x8x8x256x1024 ![0, 1, 2, 3, 4] bcast_S8x8x8x256x1_S8x8x8x256x1024_0_1_2_3_4
    (broadcastInDim S8x8x8x256x1 ![0, 1, 2, 3] bcast_S8x8x8x256_S8x8x8x256x1_0_1_2_3
      (Host.reduceAdd e (constant S_ .f32 0x00000000#32) reducesTo_S8x8x8x256x1024_S8x8x8x256_d4 h_S_)))

/-- The weighted values. -/
def mix (p : FVec Ideal S8x8x8x256x1024 .f32) (vg : FVec Ideal S8x8x8x256x3x256x128 .f32) (vb : Blk) : Blk :=
  addf (Host.dotGeneral dot_S8x8x8x256x3x256_S8x8x8x256x3x256x128_S8x8x8x256x128_45_45_n_6_0123_0123 none
      (shapeCast S8x8x8x256x3x256 (extractStridedSlice S8x8x8x256x768 ![0, 0, 0, 0, 0] p
        slices_S8x8x8x256x1024_S8x8x8x256x768_0_0_0_0_0) shapeCasts_S8x8x8x256x768_S8x8x8x256x3x256) vg)
    (Host.dotGeneral dot_S8x8x8x256x256_S8x8x8x256x128_S8x8x8x256x128_4_3_3_4_012_012 none
      (extractStridedSlice S8x8x8x256x256 ![0, 0, 0, 0, 768] p slices_S8x8x8x256x1024_S8x8x8x256x256_0_0_0_0_768) vb)

/-- SiLU. -/
def silu (g : Arg) : Arg :=
  mulf g (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g))))

/-- The result from the attention's output and the gate. -/
def gated (o : Blk) (g : Arg) : Out :=
  truncf .bf16 (shapeCast S16384x1024 (mulf
    (shapeCast S8x2048x1024 (transpose S8x8x256x8x128 [0, 2, 3, 1, 4] o transposes_S8x8x8x256x128_S8x8x256x8x128_0_2_3_1_4)
      shapeCasts_S8x8x256x8x128_S8x2048x1024) (silu g)) shapeCasts_S8x2048x1024_S16384x1024) bitsLt_bf16_f32

/-- The attention before the gate. -/
def attn (qb kb vb : Blk) : Blk :=
  let s := sel (aff qb kb)
  mix (prob (expo (logits (scoreSel qb (picked kb s) s) (scoreOwn qb kb)))) (picked vb s) vb

/-- The reference's result. -/
def out (q k v g : Arg) : Out := gated (attn (blocks q) (blocks k) (blocks v)) g

open Idealize.SL.Sem Cert.ReferenceIdeal.Value in
set_option maxHeartbeats 4000000 in
theorem res_eq (m : (ℓ : Loc nD τ sig) → Buf (Elt Ideal) ℓ) (c : Dev nD) :
    res_main_v63 (F := Ideal) m c = out (m ((c.tc : Thread nD τ).loc main_arg0)) (m ((c.tc : Thread nD τ).loc main_arg1))
      (m ((c.tc : Thread nD τ).loc main_arg2)) (m ((c.tc : Thread nD τ).loc main_arg3)) := by
  unfold res_main_v63 out gated attn mix prob expo rowMax logits scoreOwn scoreSel picked at3 sel aff blocks silu
  rfl

end Cert.Proof.Ref

end
-- ==== Proof.RefRead.lean ====
/- The reference's stages read at an index. -/
module

public import proofs.«01_k».proof.Proof.RefStages
public import Idealize.ShloMosaic.Lib.Pointwise
public import Idealize.ShloMosaic.Lib.IdealHost

@[expose] public section

set_option maxRecDepth 16384

noncomputable section

namespace Cert.Proof.Ref

open Idealize.ShloMosaic Cert.ReferenceIdeal Cert.ReferenceIdeal.Facts₀

/-- The literal of minus infinity. -/
theorem lit_bot : Ideal.ofBits .f32 0xFF800000#32 = ⊥ := by simp [Ideal.ofBits, Ideal.ieee]

/-- The literal 256. -/
theorem lit_256 : Ideal.ofBits .f32 0x43800000#32 = ((256 : ℝ) : EReal) := by
  simp [Ideal.ofBits, Ideal.ieee, -EReal.coe_mul]; norm_num

/-- The score scale's literal is a positive real. -/
theorem lit_scale : ∃ c : ℝ, 0 < c ∧ Ideal.ofBits .f32 0x3DB504F3#32 = (c : EReal) := by
  refine ⟨11863283 * 2 ^ (-27 : ℤ), by positivity, ?_⟩
  simp [Ideal.ofBits, Ideal.ieee, -EReal.coe_mul]

theorem slt8 : ∀ m n : Fin 8, IntOp.cmpi .slt (BitVec.ofNat 32 m.val) (BitVec.ofNat 32 n.val) = if m < n then 1#1 else 0#1 := by
  decide

theorem sge256 : ∀ r d : Fin 256, IntOp.cmpi .sge (IntOp.addi (BitVec.ofNat 32 r.val) 0#32) (BitVec.ofNat 32 d.val)
    = if d ≤ r then 1#1 else 0#1 := by
  decide +kernel

/-- A select by a decided condition. -/
theorem select_ite (p : Prop) [Decidable p] (x y : EReal) : Scalar.select (if p then 1#1 else 0#1) x y = if p then x else y := by
  by_cases hp : p <;> simp [hp, Scalar.select]

theorem blocks_at (x : Arg) (b h n : Fin 8) (r : Fin 256) (c : Fin 128) :
    blocks x (ix5 b h n r c) = x (ix3 b ⟨n.val * 256 + r.val, by omega⟩ ⟨h.val * 128 + c.val, by omega⟩) := by
  pointwise [blocks]

theorem aff_at (qb kb : Blk) (b h n : Fin 8) (r : Fin 256) (m : Fin 8) :
    aff qb kb (ix5 b h n r m) =
      if m < n then ∑ x, qb (ix5 b h n r x) * Ideal.div (∑ j, kb (ix5 b h m j x)) ((256 : ℝ) : EReal) else ⊥ := by
  pointwise [aff]
  rw [slt8, select_ite, lit_256]
  exact congrArg (fun t => if m < n then _ else t) lit_bot

/-- The chosen blocks are the first three of the order by affinity, equal ones by number. -/
theorem sel_at (a) (b h n : Fin 8) (r : Fin 256) (j : Fin 3) :
    sel a (ix5 b h n r j) = BitVec.ofNat 32 (
      sortedFrom (fun k k' : Fin 8 => (FloatOps.cmpfTotal (F := Ideal) (φ := .f32) .gt (a (ix5 b h n r k))
        (a (ix5 b h n r k')) == 1#1)) (Fin.castLE (by decide : 3 ≤ 8) j)).val := by
  have hi : ∀ k : Fin 8, (Shape.Idx.along (s := S8x8x8x256x8) (ix5 b h n r (Fin.castLE (by decide : 3 ≤ 8) j)) 4 k) = ix5 b h n r k := by
    intro k; funext t; fin_cases t <;> rfl
  have he : (fun a_1 => ⟨0 + (ix5 b h n r j (Fin.cast sliceFits_S8x8x8x256x8_S8x8x8x256x3.1.symm a_1)).val, Nat.lt_of_lt_of_le (Nat.add_lt_add_left (ix5 b h n r j _).isLt _) (sliceFits_S8x8x8x256x8_S8x8x8x256x3.2 a_1)⟩ : S8x8x8x256x8.Idx) = ix5 b h n r (Fin.castLE (by decide : 3 ≤ 8) j) := by
    funext t; fin_cases t <;> exact Fin.ext (Nat.zero_add _)
  unfold sel Host.topK Host.sort2 extractStridedSlice
  simp only [dif_pos (show 4 < S8x8x8x256x8.rank by decide)]
  rw [he]
  have hu : ∀ X : Fin 8, (Shape.Idx.along (s := S8x8x8x256x8) (ix5 b h n r (Fin.castLE (by decide : 3 ≤ 8) j)) 4 X) 4 = X :=
    fun X => by rw [hi]; rfl
  refine (congrArg (fun t : Fin 8 => BitVec.ofNat 32 t.val) (hu _)).trans ?_
  refine Eq.trans (congrArg (fun t : Fin 8 => BitVec.ofNat 32 (sortedFrom _ t).val)
    (Fin.ext (Nat.zero_add _) : _ = Fin.castLE (by decide : 3 ≤ 8) j)) ?_
  refine congrArg (fun f => BitVec.ofNat 32 (sortedFrom f (Fin.castLE (by decide : 3 ≤ 8) j)).val) ?_
  funext k k'
  rw [← hi k, ← hi k']
  rfl
/-- The gather: the keys or values of the block whose number the index word holds. -/
theorem pick_at (x s) (b h n : Fin 8) (r : Fin 256) (j : Fin 3) (d : Fin 256) (c : Fin 128) (m : Fin 8)
    (hm : s (ix5 b h n r j) = BitVec.ofNat 32 m.val) :
    picked x s (ix7 b h n r j d c) = x (ix5 b h m d c) := by
  let D := gather_S8x8x8x256x128_S8x8x8x256x3x3_S8x8x8x256x3x256x128_56_012_n_n_012_5_111256128
  have si : ∀ k : Fin 3, D.siIdx (ix7 b h n r j d c) k = ix6 b h n r j k := by
    intro k; funext t; fin_cases t <;> rfl
  have v3 : ∀ m : Fin 8, min (BitVec.ofNat 32 m.val).toInt.toNat 7 + 0 + 0 = m.val := by decide
  have a0 : at3 s (ix6 b h n r j 0) = BitVec.ofNat 32 b.val := by
    pointwise [at3]
  have a1 : at3 s (ix6 b h n r j 1) = BitVec.ofNat 32 h.val := by
    pointwise [at3]
  have a2 : at3 s (ix6 b h n r j 2) = BitVec.ofNat 32 m.val := by
    rw [← hm]; pointwise [at3]
  have key : D.operandIdx (ix7 b h n r j d c) (at3 s) = ix5 b h m d c := by
    funext a
    fin_cases a
    · refine Fin.ext ?_
      show min (at3 s (D.siIdx (ix7 b h n r j d c) (0 : Fin 3))).toInt.toNat 7 + 0 + 0 = b.val
      rw [si, a0, v3]
    · refine Fin.ext ?_
      show min (at3 s (D.siIdx (ix7 b h n r j d c) (1 : Fin 3))).toInt.toNat 7 + 0 + 0 = h.val
      rw [si, a1, v3]
    · refine Fin.ext ?_
      show min (at3 s (D.siIdx (ix7 b h n r j d c) (2 : Fin 3))).toInt.toNat 7 + 0 + 0 = m.val
      rw [si, a2, v3]
    · refine Fin.ext ?_
      show 0 + 0 + d.val = d.val
      omega
    · refine Fin.ext ?_
      show 0 + 0 + c.val = c.val
      omega
  unfold picked Host.gather
  exact congrArg x key

theorem scoreSel_at (qb kg s) (b h n : Fin 8) (r : Fin 256) (i : Fin 3) (d : Fin 256) (m : Fin 8)
    (hm : s (ix5 b h n r i) = BitVec.ofNat 32 m.val) :
    scoreSel qb kg s (ix6 b h n r i d) =
      if m < n then (∑ x, qb (ix5 b h n r x) * kg (ix7 b h n r i d x)) * Ideal.ofBits .f32 0x3DB504F3#32 else ⊥ := by
  pointwise [scoreSel]
  rw [hm, slt8, select_ite]
  exact congrArg (fun t => if m < n then _ else t) lit_bot

theorem scoreOwn_at (qb kb) (b h n : Fin 8) (r : Fin 256) (d : Fin 256) :
    scoreOwn qb kb (ix5 b h n r d) =
      if d ≤ r then (∑ x, qb (ix5 b h n r x) * kb (ix5 b h n d x)) * Ideal.ofBits .f32 0x3DB504F3#32 else ⊥ := by
  pointwise [scoreOwn]
  rw [sge256]
  refine Eq.trans (congrArg (fun t => Scalar.select t _ _) (?_ : _ = if d ≤ r then 1#1 else 0#1)) ?_
  · by_cases hd : d ≤ r <;> simp [hd, Scalar.select]
  rw [select_ite]
  exact congrArg (fun t => if d ≤ r then _ else t) lit_bot

theorem logits_at (x y) (b h n : Fin 8) (r : Fin 256) (c : Fin 1024) :
    logits x y (ix5 b h n r c) = if hc : c.val < 768
      then x (ix6 b h n r ⟨c.val / 256, by omega⟩ ⟨c.val % 256, by omega⟩) else y (ix5 b h n r ⟨c.val - 768, by omega⟩) := by
  pointwise [logits]

theorem reduce_max_at (l : FVec Ideal S8x8x8x256x1024 .f32) (z : FVec Ideal S_ .f32) (z0 : EReal) (hz : z (Shape.Idx.first h_S_) = z0) (b h n : Fin 8) (r : Fin 256) :
    Host.reduce FloatOps.maximumf l z reducesTo_S8x8x8x256x1024_S8x8x8x256_d4 h_S_ (ix4 b h n r) =
     Finset.fold max z0 (fun k : Fin 1024 => l (ix5 b h n r k)) Finset.univ := by
  subst hz
  pointwise
theorem max_at (s : Shape) (x y : FVec Ideal s .f32) (i) : maximumf x y i = max (x i) (y i) := rfl
theorem rowMax_at (l) (b h n : Fin 8) (r : Fin 256) :
    rowMax l (ix4 b h n r) = max (⊥)
      (Finset.fold max (⊥) (fun k : Fin 1024 => l (ix5 b h n r k)) Finset.univ) := by
  unfold rowMax
  rw [max_at, reduce_max_at (z0 := ⊥) (hz := rfl)]
  exact congrArg (fun t => max t _) rfl
theorem expo_at (x ) (b h n : Fin 8) (r : Fin 256) (c : Fin 1024) :
    expo x (ix5 b h n r c) = Ideal.exp (x (ix5 b h n r c) - rowMax x (ix4 b h n r)) := by
  pointwise [expo]

theorem prob_at (e) (b h n : Fin 8) (r : Fin 256) (c : Fin 1024) :
    prob e (ix5 b h n r c) = Ideal.div (e (ix5 b h n r c)) (∑ i, e (ix5 b h n r i)) := by
  pointwise [prob]

theorem mix_at (p vg vb) (b h n : Fin 8) (r : Fin 256) (c : Fin 128) :
    mix p vg vb (ix5 b h n r c) =
      ∑ x : Fin 3, ∑ j : Fin 256, p (ix5 b h n r ⟨x.val * 256 + j.val, by omega⟩) * vg (ix7 b h n r x j c) +
      ∑ j : Fin 256, p (ix5 b h n r ⟨768 + j.val, by omega⟩) * vb (ix5 b h n j c) := by
  pointwise [mix]

theorem gated_at (o g) (R : Fin 16384) (C : Fin 1024) :
    gated o g (ix2 R C) =
      o (ix5 ⟨R.val / 2048, by omega⟩ ⟨C.val / 128, by omega⟩ ⟨R.val % 2048 / 256, by omega⟩ ⟨R.val % 2048 % 256, by omega⟩
        ⟨C.val % 128, by omega⟩) *
      (g (ix3 ⟨R.val / 2048, by omega⟩ ⟨R.val % 2048, by omega⟩ C) *
        Ideal.div 1 (1 + Ideal.exp (-g (ix3 ⟨R.val / 2048, by omega⟩ ⟨R.val % 2048, by omega⟩ C)))) := by
  pointwise [gated, silu]

end Cert.Proof.Ref

end
-- ==== Proof.RefValue.lean ====
/- The reference's attention is the attention over the reals, where queries and keys are real. -/
module

public import proofs.«01_k».proof.Proof.RefRead
public import proofs.«01_k».proof.Proof.Spec

@[expose] public section

set_option maxRecDepth 16384

noncomputable section

namespace Cert.Proof.Ref

open Idealize.ShloMosaic Cert.ReferenceIdeal Cert.ReferenceIdeal.Facts₀ Cert.Proof

/-- A sum over the 1024 scores: three blocks of 256, then the last 256. -/
theorem sum_slots (F : Fin 1024 → EReal) :
    ∑ i, F i = ∑ x : Fin 3, ∑ j : Fin 256, F ⟨x.val * 256 + j.val, by omega⟩ + ∑ j : Fin 256, F ⟨768 + j.val, by omega⟩ := by
  rw [← Fintype.sum_prod_type' (fun (x : Fin 3) (j : Fin 256) => F ⟨x.val * 256 + j.val, by omega⟩), ← Fintype.sum_sum_type
    (fun i : (Fin 3 × Fin 256) ⊕ Fin 256 => F (match i with
      | .inl p => ⟨p.1.val * 256 + p.2.val, by omega⟩ | .inr j => ⟨768 + j.val, by omega⟩))]
  symm
  refine Fintype.sum_bijective _ ⟨?_, ?_⟩ _ _ (fun _ => rfl)
  · rintro (⟨x, j⟩ | j) (⟨x', j'⟩ | j') hh <;> simp only [Fin.mk.injEq] at hh
    · have h1 : x = x' := Fin.ext (by omega)
      have h2 : j = j' := Fin.ext (by omega)
      rw [h1, h2]
    · omega
    · omega
    · exact congrArg _ (Fin.ext (by omega))
  · intro i
    by_cases hi : i.val < 768
    · exact ⟨.inl (⟨i.val / 256, by omega⟩, ⟨i.val % 256, by omega⟩), Fin.ext (by show i.val / 256 * 256 + i.val % 256 = i.val; omega)⟩
    · exact ⟨.inr ⟨i.val - 768, by omega⟩, Fin.ext (by show 768 + (i.val - 768) = i.val; omega)⟩

/-- A sum of real products is the real sum. -/
theorem dot_coe {n : ℕ} (a b : Fin n → ℝ) : ∑ x, (a x : EReal) * (b x : EReal) = ((∑ x, a x * b x : ℝ) : EReal) := by
  rw [← Soft.sum_coe]; exact Finset.sum_congr rfl fun x _ => (EReal.coe_mul _ _).symm

theorem mean_coe {n : ℕ} (a : Fin n → ℝ) : Ideal.div (∑ x, (a x : EReal)) ((256 : ℝ) : EReal) = (((∑ x, a x) / 256 : ℝ) : EReal) := by
  rw [Soft.sum_coe, Soft.div_coe _ _ (by norm_num), ← EReal.coe_mul]; rfl

variable (qb kb vb : Blk) (b h : Fin 8) (q k : Spec.Mat) (c0 : ℝ)

theorem aff_eq (hq : ∀ n r x, qb (ix5 b h n r x) = (q n r x : EReal)) (hk : ∀ n r x, kb (ix5 b h n r x) = (k n r x : EReal))
    (n : Fin 8) (r : Fin 256) (m : Fin 8) : aff qb kb (ix5 b h n r m) = Spec.past q k n r m := by
  rw [aff_at]
  unfold Spec.past Spec.affinity
  simp only [hq, hk, mean_coe, dot_coe]

/-- The order the blocks are sorted by. -/
def order (a : FVec Ideal S8x8x8x256x8 .f32) (n : Fin 8) (r : Fin 256) (i j : Fin 8) : Bool :=
  FloatOps.cmpfTotal (F := Ideal) (φ := .f32) .gt (a (ix5 b h n r i)) (a (ix5 b h n r j)) == 1#1

theorem order_eq (hq : ∀ n r x, qb (ix5 b h n r x) = (q n r x : EReal)) (hk : ∀ n r x, kb (ix5 b h n r x) = (k n r x : EReal))
    (n : Fin 8) (r : Fin 256) (i j : Fin 8) :
    order b h (aff qb kb) n r i j = decide (Spec.past q k n r j < Spec.past q k n r i) := by
  unfold order
  rw [aff_eq qb kb b h q k hq hk, aff_eq qb kb b h q k hq hk]
  show (BitVec.ofBool (decide (Spec.past q k n r j < Spec.past q k n r i)) == 1#1) = _
  cases decide (Spec.past q k n r j < Spec.past q k n r i) <;> rfl

theorem attn_eq (hc : Ideal.ofBits .f32 0x3DB504F3#32 = (c0 : EReal)) (hq : ∀ n r x, qb (ix5 b h n r x) = (q n r x : EReal))
    (hk : ∀ n r x, kb (ix5 b h n r x) = (k n r x : EReal)) (n : Fin 8) (r : Fin 256) (c : Fin 128) :
    attn qb kb vb (ix5 b h n r c) = Spec.attn c0 q k (fun n r x => vb (ix5 b h n r x)) n r c := by
  have hs : ∀ i : Fin 3, sel (aff qb kb) (ix5 b h n r i) = BitVec.ofNat 32
      (sortedFrom (order b h (aff qb kb) n r) (Fin.castLE (by decide : 3 ≤ 8) i)).val := fun i => sel_at _ b h n r i
  have hR := order_eq qb kb b h q k hq hk n r
  generalize order b h (aff qb kb) n r = R at hs hR
  unfold attn
  generalize sel (aff qb kb) = s at hs
  generalize hl : logits (scoreSel qb (picked kb s) s) (scoreOwn qb kb) = l
  have x1 : ∀ (i : Fin 3) (j : Fin 256), l (ix5 b h n r ⟨i.val * 256 + j.val, by omega⟩) =
      if sortedFrom R (Fin.castLE (by decide : 3 ≤ 8) i) < n
      then ((c0 * Spec.qk q k n r (sortedFrom R (Fin.castLE (by decide : 3 ≤ 8) i)) j : ℝ) : EReal) else ⊥ := by
    intro i j
    rw [← hl, logits_at, dif_pos (show (⟨i.val * 256 + j.val, _⟩ : Fin 1024).val < 768 by show i.val * 256 + j.val < 768; omega)]
    have e1 : (⟨(i.val * 256 + j.val) / 256, by omega⟩ : Fin 3) = i := Fin.ext (by show (i.val * 256 + j.val) / 256 = i.val; omega)
    have e2 : (⟨(i.val * 256 + j.val) % 256, by omega⟩ : Fin 256) = j := Fin.ext (by show (i.val * 256 + j.val) % 256 = j.val; omega)
    simp only [e1, e2]
    rw [scoreSel_at qb _ s b h n r i j _ (hs i), hc]
    simp only [pick_at kb s b h n r i j _ _ (hs i), hq, hk, ← EReal.coe_mul, Soft.sum_coe, mul_comm _ c0]
    rfl
  have x2 : ∀ j : Fin 256, l (ix5 b h n r ⟨768 + j.val, by omega⟩) =
      if j ≤ r then ((c0 * Spec.qk q k n r n j : ℝ) : EReal) else ⊥ := by
    intro j
    rw [← hl, logits_at, dif_neg (show ¬ (⟨768 + j.val, _⟩ : Fin 1024).val < 768 by show ¬ (768 + j.val < 768); omega)]
    have e1 : (⟨768 + j.val - 768, by omega⟩ : Fin 256) = j := Fin.ext (by show 768 + j.val - 768 = j.val; omega)
    simp only [e1]
    rw [scoreOwn_at, hc]
    simp only [hq, hk, ← EReal.coe_mul, Soft.sum_coe, mul_comm _ c0]
    rfl
  have hT : ∀ i : Fin 1024, l (ix5 b h n r i) ≠ ⊤ := by
    intro i
    by_cases hi : i.val < 768
    · have := x1 ⟨i.val / 256, by omega⟩ ⟨i.val % 256, by omega⟩
      have e : (⟨i.val / 256 * 256 + i.val % 256, by omega⟩ : Fin 1024) = i := Fin.ext (by show i.val / 256 * 256 + i.val % 256 = i.val; omega)
      rw [e] at this; rw [this]; split; exacts [EReal.coe_ne_top _, bot_ne_top]
    · have := x2 ⟨i.val - 768, by omega⟩
      have e : (⟨768 + (i.val - 768), by omega⟩ : Fin 1024) = i := Fin.ext (by show 768 + (i.val - 768) = i.val; omega)
      simp only [e] at this; rw [this]; split; exacts [EReal.coe_ne_top _, bot_ne_top]
  obtain ⟨M, hM⟩ := Soft.max_real (fun i : Fin 1024 => l (ix5 b h n r i)) hT ⟨768 + r.val, by omega⟩
    (by show l (ix5 b h n r ⟨768 + r.val, by omega⟩) ≠ ⊥; rw [x2, if_pos (le_refl _)]; exact EReal.coe_ne_bot _)
  have hmax : rowMax l (ix4 b h n r) = (M : EReal) := by
    rw [rowMax_at, hM]; exact max_eq_right bot_le
  rw [mix_at]
  simp only [prob_at, expo_at, hmax]
  rw [sum_slots (fun i => Ideal.exp (l (ix5 b h n r i) - (M : EReal)))]
  simp only [pick_at vb s b h n r _ _ _ _ (hs _)]
  rw [← Spec.attn_of_sorted c0 q k (fun n r x => vb (ix5 b h n r x)) n r c R hR (fun i => l (ix5 b h n r (match i with
      | .inl p => ⟨p.1.val * 256 + p.2.val, by omega⟩ | .inr j => ⟨768 + j.val, by omega⟩))) x1 x2 M]
  rw [Fintype.sum_sum_type, Fintype.sum_prod_type, Fintype.sum_sum_type, Fintype.sum_prod_type]

end Cert.Proof.Ref

end
-- ==== Proof.KerArray.lean ====
/- The kernel's result array is the reference's function of the arguments, where the queries and keys are finite. -/
module

public import proofs.«01_k».proof.Proof.KerOut
public import proofs.«01_k».proof.Proof.KerHost
public import proofs.«01_k».proof.Proof.RefValue

@[expose] public section

set_option maxRecDepth 16384

noncomputable section

namespace Cert.Proof.Ker

open Idealize.ShloMosaic Idealize.ShloMosaic.TcCoe Cert.KernelIdeal Cert.Proof
open Cert.KernelIdeal.Gen (V iblk dats out0_7 flush0_7)

/-- A batch's row in the flat array. -/
def brow (b : Fin 8) (i : Fin 2048) : Fin 16384 := ⟨b.val * 2048 + i.val, by omega⟩

/-- A head's channel. -/
def hcol (h : Fin 8) (x : Fin 128) : Fin 1024 := ⟨h.val * 128 + x.val, by omega⟩

theorem flat_row (x : Arg) (b : Fin 8) (i : Fin 2048) (C : Fin 1024) : flat x (ix2 (brow b i) C) = x (ix3 b i C) := by
  rw [flat_at]
  refine congrArg₂ (fun (s : Fin 8) (t : Fin 2048) => x (ix3 s t C)) (Fin.ext ?_) (Fin.ext ?_)
  · show (b.val * 2048 + i.val) / 2048 = b.val; omega
  · show (b.val * 2048 + i.val) % 2048 = i.val; omega

theorem lit_log : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  show (if (2 : ℝ) ≤ 0 then (⊥ : EReal) else ((Real.log 2 : ℝ) : EReal)) = _
  rw [if_neg (by norm_num)]

/-- The grid point's batch and head. -/
def bat (t : Fin cfg0.N) : Fin 8 := ⟨t.val / 8, by have := lt64 t; omega⟩
def head (t : Fin cfg0.N) : Fin 8 := ⟨t.val % 8, by omega⟩

/-- The queries or keys of one batch and head as reals. -/
def mat (x : Arg) (b h : Fin 8) : Spec.Mat := fun n r c => (x (ix3 b (row n r) (hcol h c))).toReal

variable (m : (ℓ : Loc nD τ sig) → Buf (Elt Ideal) ℓ) (c : Dev nD)

abbrev aq : Arg := m ((c.tc : Thread nD τ).loc main_arg0)
abbrev ak : Arg := m ((c.tc : Thread nD τ).loc main_arg1)
abbrev av : Arg := m ((c.tc : Thread nD τ).loc main_arg2)
abbrev ag : Arg := m ((c.tc : Thread nD τ).loc main_arg3)

theorem in0 (t : Fin cfg0.N) (i : Fin 2048) (x : Fin 128) : (iblk m c 0 t : B2 2048 128) (ix2 i x) =
    scaled (aq m c) (ix3 (bat t) i (hcol (head t) x)) := by
  rw [iblk0, V_proj]
  exact (proj_q _ _ _ _ (brow (bat t) i) (hcol (head t) x)).trans (flat_row _ _ _ _)

theorem in1 (t : Fin cfg0.N) (i : Fin 2048) (x : Fin 128) : (iblk m c 1 t : B2 2048 128) (ix2 i x) =
    ak m c (ix3 (bat t) i (hcol (head t) x)) := by
  rw [iblk1, V_proj]
  exact (proj_k _ _ _ _ (brow (bat t) i) (hcol (head t) x)).trans (flat_row _ _ _ _)

theorem in2 (t : Fin cfg0.N) (i : Fin 2048) (x : Fin 128) : (iblk m c 2 t : B2 2048 128) (ix2 i x) =
    av m c (ix3 (bat t) i (hcol (head t) x)) := by
  rw [iblk2, V_proj]
  exact (proj_v _ _ _ _ (brow (bat t) i) (hcol (head t) x)).trans (flat_row _ _ _ _)

theorem in3 (t : Fin cfg0.N) (i : Fin 2048) (x : Fin 128) : (iblk m c 3 t : B2 2048 128) (ix2 i x) =
    swish (ag m c) (ix3 (bat t) i (hcol (head t) x)) := by
  rw [iblk3, V_proj]
  exact (proj_g _ _ _ _ (brow (bat t) i) (hcol (head t) x)).trans (flat_row _ _ _ _)

/-- The reference's output at a batch, row, head and channel. -/
theorem out_at (q k v g : Arg) (c0 : ℝ) (hc : Ideal.ofBits .f32 0x3DB504F3#32 = (c0 : EReal))
    (hq : ∀ i, q i = ((q i).toReal : EReal)) (hk : ∀ i, k i = ((k i).toReal : EReal)) (b h : Fin 8) (i : Fin 2048) (x : Fin 128) :
    Ref.out q k v g (ix2 (brow b i) (hcol h x)) =
      Spec.attn c0 (mat q b h) (mat k b h) (fun n r x => v (ix3 b (row n r) (hcol h x))) ⟨i.val / 256, by omega⟩ ⟨i.val % 256, by omega⟩ x
        * swish g (ix3 b i (hcol h x)) := by
  have e := Ref.attn_eq (Ref.blocks q) (Ref.blocks k) (Ref.blocks v) b h (mat q b h) (mat k b h) c0 hc
    (fun n r x => (Ref.blocks_at q b h n r x).trans (hq _)) (fun n r x => (Ref.blocks_at k b h n r x).trans (hk _))
    ⟨i.val / 256, by omega⟩ ⟨i.val % 256, by omega⟩ x
  have hv : (fun n r x => Ref.blocks v (ix5 b h n r x)) = fun n r x => v (ix3 b (row n r) (hcol h x)) :=
    funext fun n => funext fun r => funext fun x => Ref.blocks_at v b h n r x
  rw [hv] at e
  unfold Ref.out
  rw [Ref.gated_at, swish_at]
  have e1 : (⟨(brow b i).val / 2048, by have := (brow b i).isLt; omega⟩ : Fin 8) = b :=
    Fin.ext (by show (b.val * 2048 + i.val) / 2048 = b.val; omega)
  have e2 : (⟨(brow b i).val % 2048, by omega⟩ : Fin 2048) = i :=
    Fin.ext (by show (b.val * 2048 + i.val) % 2048 = i.val; omega)
  have e3 : (⟨(hcol h x).val / 128, by have := (hcol h x).isLt; omega⟩ : Fin 8) = h :=
    Fin.ext (by show (h.val * 128 + x.val) / 128 = h.val; omega)
  have e4 : (⟨(hcol h x).val % 128, by omega⟩ : Fin 128) = x :=
    Fin.ext (by show (h.val * 128 + x.val) % 128 = x.val; omega)
  have e5 : (⟨(brow b i).val % 2048 / 256, by omega⟩ : Fin 8) = ⟨i.val / 256, by omega⟩ :=
    Fin.ext (by show (b.val * 2048 + i.val) % 2048 / 256 = i.val / 256; omega)
  have e6 : (⟨(brow b i).val % 2048 % 256, by omega⟩ : Fin 256) = ⟨i.val % 256, by omega⟩ :=
    Fin.ext (by show (b.val * 2048 + i.val) % 2048 % 256 = i.val % 256; omega)
  rw [e1, e2, e3, e4, e5, e6, e]

variable (hq : ∀ i, aq m c i = ((aq m c i).toReal : EReal)) (hk : ∀ i, ak m c i = ((ak m c i).toReal : EReal))

include hq hk in
/-- What a grid point leaves in its block. -/
theorem block_val (t : Fin cfg0.N) (i : Fin 2048) (x : Fin 128) :
    out0_7 (F := Ideal) (iblk m c 0 t) (iblk m c 1 t) (iblk m c 2 t) (iblk m c 3 t) (iblk m c 4 t) (iblk m c 5 t) (iblk m c 6 t) (ix2 i x) =
      Ref.out (aq m c) (ak m c) (av m c) (ag m c) (ix2 (brow (bat t) i) (hcol (head t) x)) := by
  obtain ⟨c0, hc0, hc⟩ := Ref.lit_scale
  rw [out_at _ _ _ _ c0 hc hq hk]
  refine (out_val c0 (mat (aq m c) (bat t) (head t)) (mat (ak m c) (bat t) (head t)) hc0 _ _ _ _ _ _ _ ?_ ?_ ?_ ?_ ?_ _).trans ?_
  · intro n r x
    refine (in0 m c t (row n r) x).trans ?_
    rw [scaled_at, hc, lit_log, hq, Soft.div_coe _ _ (Real.log_pos (by norm_num)), ← EReal.coe_mul, ← EReal.coe_mul]
    congr 1
    unfold mat
    rw [mul_assoc]; rfl
  · intro n r x
    exact (in1 m c t (row n r) x).trans (hk _)
  · intro a i
    rw [iblk4, V_avg]; exact avgM_at a i
  · intro i x
    rw [iblk5, V_hot]; exact hotM_at i x
  · intro r y
    rw [iblk6, V_eye]; exact eyeM_at r y
  · unfold goal
    refine congrArg₂ (· * ·) ?_ (in3 m c t i x)
    refine congrArg (fun v => Spec.attn c0 _ _ v _ _ x) ?_
    exact funext fun n => funext fun r => funext fun x => in2 m c t (row n r) x

/-- The result array. -/
abbrev res : Buf (Elt Ideal) ((c.tc : Thread nD τ).loc main_v36) := Ref.out (aq m c) (ak m c) (av m c) (ag m c)

theorem cut_eq (t : Fin cfg0.N) (f : B2 2048 128) : (cfg0.win 7).cut (grid0.coords t) f = f := rfl

theorem read_eq (R : B2 16384 1024) (t : Fin cfg0.N) (i : Fin 2048) (x : Fin 128) :
    (win0_7.blk t).view.read (Elt Ideal) R (ix2 i x) = R (ix2 (brow (bat t) i) (hcol (head t) x)) := by
  refine congrArg R (funext fun a => Fin.ext ?_)
  match a with
  | ⟨0, _⟩ =>
    show win0_7.index t 0 * 2048 + 1 * i.val = t.val / 8 * 2048 + i.val
    rw [(index7 t).1]; omega
  | ⟨1, _⟩ =>
    show win0_7.index t 1 * 128 + 1 * x.val = t.val % 8 * 128 + x.val
    rw [(index7 t).2]; omega

/-- A block that agrees with the array at every row and channel is the array read through the window. -/
theorem block_eq (f : B2 2048 128) (R : B2 16384 1024) (t : Fin cfg0.N)
    (h : ∀ i x, f (ix2 i x) = R (ix2 (brow (bat t) i) (hcol (head t) x))) :
    (cfg0.win 7).cut (grid0.coords t) f = (win0_7.blk t).view.read (Elt Ideal) R := by
  rw [cut_eq]
  funext y
  obtain ⟨i, x, rfl⟩ := pair_eta (a := 2048) (b := 128) y
  exact (h i x).trans (read_eq R t i x).symm

include hq hk in
theorem flushed_eq (t : Fin cfg0.N) : (dats m 0 c).flushed 7 t = (win0_7.blk t).view.read (Elt Ideal) (res m c) :=
  (Value.flushed7 m c t).trans (block_eq _ _ t (block_val m c hq hk t))

theorem mem_block (t : Fin cfg0.N) (i : S16384x1024.Idx) (h0 : t.val / 8 = (i 0).val / 2048) (h1 : t.val % 8 = (i 1).val / 128) :
    i ∈ ((cfg0.win 7).blk t).view.set := by
  show i ∈ ((View.whole main_v36).slice (win0_7.rect t)).set
  rw [View.set_slice_whole, Rect.mem_set_unit]
  intro a
  match a with
  | ⟨0, _⟩ =>
    show win0_7.index t 0 * 2048 ≤ (i 0).val ∧ (i 0).val < win0_7.index t 0 * 2048 + 2048
    rw [(index7 t).1]
    omega
  | ⟨1, _⟩ =>
    show win0_7.index t 1 * 128 ≤ (i 1).val ∧ (i 1).val < win0_7.index t 1 * 128 + 128
    rw [(index7 t).2]
    omega

theorem cover (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  have ht : (i 0).val / 2048 * 8 + (i 1).val / 128 < cfg0.N := by
    show (i 0).val / 2048 * 8 + (i 1).val / 128 < 64
    omega
  exact ⟨⟨_, ht⟩, flush0_7 _, mem_block _ i (by dsimp only; omega) (by dsimp only; omega)⟩

include hq hk in
theorem final : (dats m 0 c).arrAt 7 cfg0.N = res m c :=
  (dats m 0 c).arrAt_eq_of_cover 7 (res m c) (fun t _ => flushed_eq m c hq hk t) cover

end Cert.Proof.Ker

end
-- ==== Proof.Algebraic.lean ====
/- The algebraic claim: both programs end with the same function of the arguments. -/
module

public import proofs.«01_k».proof.Defs
public import proofs.«01_k».proof.Proof.KerArray
public import proofs.«01_k».proof.Proof.Gen.ReferenceIdeal.Run

@[expose] public section

set_option maxRecDepth 16384

noncomputable section

namespace Cert.Proof

open Idealize.ShloMosaic Idealize.ShloMosaic.TcCoe Idealize.SL.Sem

theorem pre_facts : Cert.Pre_finite_qk.Facts := ⟨by decide⟩

theorem inf_lit : Ideal.ofBits .f32 0x7F800000#32 = ⊤ := by simp [Ideal.ofBits, Ideal.ieee]

theorem real_of_abs (x : EReal) (h : FloatOps.absf (F := Ideal) (φ := .f32) x < ⊤) : x = (x.toReal : EReal) := by
  refine (EReal.coe_toReal ?_ ?_).symm
  · rintro rfl
    exact absurd h (by simp [Ideal.absf_def])
  · rintro rfl
    exact absurd h (by simp [Ideal.absf_def])

/-- What the precondition says of an element. -/
theorem pre_at [Cert.Pre_finite_qk.Facts] (q k v g : FVec Ideal ⟨3, ![8, 2048, 1024]⟩ .f32) (h : Cert.Pre_finite_qk.fn q k v g = fun _ => 1#1)
    (i : Fin 8) (r : Fin 2048) (c : Fin 1024) :
    q (ix3 i r c) = ((q (ix3 i r c)).toReal : EReal) ∧ k (ix3 i r c) = ((k (ix3 i r c)).toReal : EReal) := by
  have e := congrFun h (ix3 i r c)
  have e2 : Cert.Pre_finite_qk.fn q k v g (ix3 i r c) = IntOp.andi
      (BitVec.ofBool (decide (FloatOps.absf (F := Ideal) (φ := .f32) (q (ix3 i r c)) < Ideal.ofBits .f32 0x7F800000#32)))
      (BitVec.ofBool (decide (FloatOps.absf (F := Ideal) (φ := .f32) (k (ix3 i r c)) < Ideal.ofBits .f32 0x7F800000#32))) := by
    pointwise [Cert.Pre_finite_qk.fn]
  rw [e2, inf_lit] at e
  by_cases hq : FloatOps.absf (F := Ideal) (φ := .f32) (q (ix3 i r c)) < ⊤ <;> by_cases hk : FloatOps.absf (F := Ideal) (φ := .f32) (k (ix3 i r c)) < ⊤
  · exact ⟨real_of_abs _ hq, real_of_abs _ hk⟩
  all_goals simp [hq, hk, IntOp.andi] at e

/-- An index of an argument is its three coordinates. -/
theorem triple_eta (i : (⟨3, ![8, 2048, 1024]⟩ : Shape).Idx) : ∃ (a : Fin 8) (r : Fin 2048) (c : Fin 1024), i = ix3 a r c :=
  ⟨i 0, i 1, i 2, funext fun k => by fin_cases k <;> rfl⟩

theorem algebraic [Cert.Pre_finite_qk.Facts] : Cert.algebraic_KernelIdeal_ReferenceIdeal_pre_finite_qk := by
  intro m ρ m' ρ' hpre hag
  have hq : ∀ c i, Ker.aq m c i = ((Ker.aq m c i).toReal : EReal) := by
    intro c i
    obtain ⟨a, r, x, rfl⟩ := triple_eta i
    exact (pre_at _ _ _ _ (hpre c) a r x).1
  have hk : ∀ c i, Ker.ak m c i = ((Ker.ak m c i).toReal : EReal) := by
    intro c i
    obtain ⟨a, r, x, rfl⟩ := triple_eta i
    exact (pre_at _ _ _ _ (hpre c) a r x).2
  refine ⟨fun c => Ker.res m c, ?_, ?_⟩
  · exact (θ_run Cert.KernelIdeal.defs _ _).mono
      (fun r h c => ⟨(h c).1.trans (Ker.final m c (hq c) (hk c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Ref.res_eq]
    show Ref.out _ _ _ _ = Ref.out _ _ _ _
    rw [(hag c).1, (hag c).2.1, (hag c).2.2.1, (hag c).2.2.2]

end Cert.Proof

end
-- ==== Proof.ProjRun.lean ====
/- The launch of the projection's kernel at the ideal types. At an even point of the grid the body stores the norm of
   its 1024 rows to the scratch and the first 3328 columns of the product, at an odd point the other 3328. The second
   output (the steps' columns, which no result here carries) is stored at the even points only and written back at the
   odd ones too, so nothing is said of what is in its buffer. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branches a point takes -/

/-- An even point: it computes the norm, its own columns and the steps' columns. -/
structure First (i : grid0.Coords) : Prop where
  one : k0_cond1 i = 1#1
  two : ¬k0_cond2 i = 1#1
  three : k0_cond3 i = 1#1

/-- An odd point: it computes the other columns only. -/
structure Second (i : grid0.Coords) : Prop where
  one : ¬k0_cond1 i = 1#1
  two : k0_cond2 i = 1#1
  three : ¬k0_cond3 i = 1#1

theorem conds (t : Fin cfg0.N) : (k0_cond1 (grid0.coords t) = 1#1 ↔ t.val % 2 = 0)
    ∧ (k0_cond2 (grid0.coords t) = 1#1 ↔ t.val % 2 = 1) ∧ (k0_cond3 (grid0.coords t) = 1#1 ↔ t.val % 2 = 0) := by
  have ht : t.val < 32 := Nat.lt_of_lt_of_eq t.isLt N_0
  have e0 : (grid0.coords t 0).val = t.val / 2 % 16 := Pipeline.Grid.coords_val t 0 (by decide) rfl
  have e1 : (grid0.coords t 1).val = t.val / 1 % 2 := Pipeline.Grid.coords_val t 1 (by decide) rfl
  refine ⟨?_, ?_, ?_⟩
  · simp only [k0_cond1, e0, e1]; word_cmp
  · simp only [k0_cond2, e0, e1]; word_cmp
  · simp only [k0_cond3, e0, e1]; word_cmp

theorem first_of (t : Fin cfg0.N) (h : t.val % 2 = 0) : First (grid0.coords t) :=
  ⟨(conds t).1.mpr h, fun e => by have := (conds t).2.1.mp e; omega, (conds t).2.2.mpr h⟩

theorem second_of (t : Fin cfg0.N) (h : ¬t.val % 2 = 0) : Second (grid0.coords t) :=
  ⟨fun e => h ((conds t).1.mp e), (conds t).2.1.mpr (by omega), fun e => h ((conds t).2.2.mp e)⟩

/-! ## The body on any whole buffers -/

section Body

variable (c : Dev nD) (i : grid0.Coords) (arg2 : Memref sig .tc .vmem S1024x1024 .f32) (harg2 : arg2.IsWhole)
  (arg3 : Memref sig .tc .vmem S6672x1024 .bf16) (harg3 : arg3.IsWhole)
  (arg4 : Memref sig .tc .vmem S128x1024 .bf16) (harg4 : arg4.IsWhole)
  (arg5 : Memref sig .tc .vmem S1024x3328 .bf16) (harg5 : arg5.IsWhole)
  (arg6 : Memref sig .tc .vmem S1024x128 .f32) (harg6 : arg6.IsWhole)
  (arg7 : Memref sig .tc .vmem S1024x1024 .bf16) (harg7 : arg7.IsWhole)
  (x0 : Vec F S1024x1024 .f32) (x1 : Vec F S6672x1024 .bf16) (x2 : Vec F S128x1024 .bf16)

/-- The body leaves its inputs as they were and writes the pieces `L` to the first output, over what was there. -/
def Leaves (L : List (View.Piece (Elt F) S1024x3328 .bf16)) : Prop :=
  ∀ (E : Set ℕ) (K : PUnit → sProp 𝕄),
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2
            ∗ (∃ f, arg5.view.loc (c : Thread nD τ) ↦[arg5.view.set]{fullShare} arg5.view.writes (Elt F) f L)
            ∗ (∃ d, owns (c : Thread nD τ) arg6 fullShare d) ∗ (∃ d, owns (c : Thread nD τ) arg7 fullShare d)) -∗ K ⟨⟩))
      ⊢ wp frame (wpE (defs₀ (F := F)) Variants.none c none) E
          (cc0_norm_proj_aux i arg2 harg2 arg3 harg3 arg4 harg4 arg5 harg5 arg6 harg6 arg7 harg7) K

set_option maxHeartbeats 1000000 in
/-- The pieces an even point stores. -/
def firstRun (h : First i) : { L : List (View.Piece (Elt F) S1024x3328 .bf16) //
    Leaves c i arg2 harg2 arg3 harg3 arg4 harg4 arg5 harg5 arg6 harg6 arg7 harg7 x0 x1 x2 L } := by
  have h1 := h.one; have h2 := h.two; have h3 := h.three
  refine ⟨?_, fun E K => ?run⟩
  case run =>
    simp only [cc0_norm_proj_aux_eq_skeleton]; unfold cc0_norm_proj_aux_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
    obtain rfl := harg2.eq_unread e0; obtain rfl := harg3.eq_unread e1; obtain rfl := harg4.eq_unread e2
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    iexists _, _; isplitr; swap; · iexact H5
    ipureintro; rfl

set_option maxHeartbeats 1000000 in
/-- The pieces an odd point stores. -/
def secondRun (h : Second i) : { L : List (View.Piece (Elt F) S1024x3328 .bf16) //
    Leaves c i arg2 harg2 arg3 harg3 arg4 harg4 arg5 harg5 arg6 harg6 arg7 harg7 x0 x1 x2 L } := by
  have h1 := h.one; have h2 := h.two; have h3 := h.three
  refine ⟨?_, fun E K => ?run⟩
  case run =>
    simp only [cc0_norm_proj_aux_eq_skeleton]; unfold cc0_norm_proj_aux_skel
    simp only [k0_part4_eq_skeleton]
    unfold owns
    iintro ⟨⟨%f0, %e0, H0⟩, ⟨%f1, %e1, H1⟩, ⟨%f2, %e2, H2⟩, ⟨%d3, %f3, -, H3⟩, ⟨%d4, %f4, -, H4⟩, ⟨%d5, %f5, -, H5⟩, Hk⟩
    obtain rfl := harg2.eq_unread e0; obtain rfl := harg3.eq_unread e1; obtain rfl := harg4.eq_unread e2
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _, _; isplitr; swap; · iexact H4
      ipureintro; rfl
    iexists _, _; isplitr; swap; · iexact H5
    ipureintro; rfl

/-- The pieces of an even point fill the block: cut to 512 rows by 256 columns they tile it. -/
theorem firstRun_cover (h : First i) (y : S1024x3328.Idx) :
    ∃ pc ∈ (firstRun c i arg2 harg2 arg3 harg3 arg4 harg4 arg5 harg5 arg6 harg6 arg7 harg7 x0 x1 x2 h).1, y ∈ pc.1.set :=
  View.cover_of_tiledBy (firstRun c i arg2 harg2 arg3 harg3 arg4 harg4 arg5 harg5 arg6 harg6 arg7 harg7 x0 x1 x2 h).1
    ![512, 256] (by sl_kernel_rfl) y

/-- So do those of an odd point. -/
theorem secondRun_cover (h : Second i) (y : S1024x3328.Idx) :
    ∃ pc ∈ (secondRun c i arg2 harg2 arg3 harg3 arg4 harg4 arg5 harg5 arg6 harg6 arg7 harg7 x0 x1 x2 h).1, y ∈ pc.1.set :=
  View.cover_of_tiledBy (secondRun c i arg2 harg2 arg3 harg3 arg4 harg4 arg5 harg5 arg6 harg6 arg7 harg7 x0 x1 x2 h).1
    ![512, 256] (by sl_kernel_rfl) y

end Body

/-! ## The buffers at a point, and what the first output's holds after it -/

abbrev rows (t : Fin cfg0.N) : Memref sig .tc .vmem S1024x1024 .f32 := win0_0.stage (cfg0.slots t 0)
abbrev rows_whole (t : Fin cfg0.N) : (rows t).IsWhole := hstage0_0 ((cfg0.slots t 0).cast nbuf0_0)
abbrev wts (t : Fin cfg0.N) : Memref sig .tc .vmem S6672x1024 .bf16 := win0_1.stage (cfg0.slots t 1)
abbrev wts_whole (t : Fin cfg0.N) : (wts t).IsWhole := hstage0_1 ((cfg0.slots t 1).cast nbuf0_1)
abbrev stepWts (t : Fin cfg0.N) : Memref sig .tc .vmem S128x1024 .bf16 := win0_2.stage (cfg0.slots t 2)
abbrev stepWts_whole (t : Fin cfg0.N) : (stepWts t).IsWhole := hstage0_2 ((cfg0.slots t 2).cast nbuf0_2)
abbrev outp (t : Fin cfg0.N) : Memref sig .tc .vmem S1024x3328 .bf16 := win0_3.stage (cfg0.slots t 3)
abbrev outp_whole (t : Fin cfg0.N) : (outp t).IsWhole := hstage0_3 ((cfg0.slots t 3).cast nbuf0_3)
abbrev steps (t : Fin cfg0.N) : Memref sig .tc .vmem S1024x128 .f32 := win0_4.stage (cfg0.slots t 4)
abbrev steps_whole (t : Fin cfg0.N) : (steps t).IsWhole := hstage0_4 ((cfg0.slots t 4).cast nbuf0_4)
abbrev normed : Memref sig .tc .vmem S1024x1024 .bf16 := Memref.whole cc0_scratch0

/-- One buffer of the first output: its contents do not depend on which. -/
abbrev outView : View sig .tc .vmem S1024x3328 .bf16 :=
  (Memref.whole cc0_stg3_0 : Memref sig .tc .vmem S1024x3328 .bf16).view

/-- What an even point leaves. -/
def leftFirst (c : Dev nD) (t : Fin cfg0.N) (h : First (grid0.coords t)) : Vec F S1024x3328 .bf16 :=
  outView.read (Elt F) (outView.writes (Elt F) outView.junk
    (firstRun c (grid0.coords t) (rows t) (rows_whole t) (wts t) (wts_whole t) (stepWts t) (stepWts_whole t) (outp t)
      (outp_whole t) (steps t) (steps_whole t) normed (Memref.isWhole_whole _) (iblk m c 0 t) (iblk m c 1 t)
      (iblk m c 2 t) h).1)

/-- What an odd point leaves. -/
def leftSecond (c : Dev nD) (t : Fin cfg0.N) (h : Second (grid0.coords t)) : Vec F S1024x3328 .bf16 :=
  outView.read (Elt F) (outView.writes (Elt F) outView.junk
    (secondRun c (grid0.coords t) (rows t) (rows_whole t) (wts t) (wts_whole t) (stepWts t) (stepWts_whole t) (outp t)
      (outp_whole t) (steps t) (steps_whole t) normed (Memref.isWhole_whole _) (iblk m c 0 t) (iblk m c 1 t)
      (iblk m c 2 t) h).1)

def left (c : Dev nD) (t : Fin cfg0.N) : Vec F S1024x3328 .bf16 :=
  if h : t.val % 2 = 0 then leftFirst m c t (first_of t h) else leftSecond m c t (second_of t h)

theorem left_even (c : Dev nD) (t : Fin cfg0.N) (h : t.val % 2 = 0) : left m c t = leftFirst m c t (first_of t h) :=
  dif_pos h

theorem left_odd (c : Dev nD) (t : Fin cfg0.N) (h : ¬t.val % 2 = 0) : left m c t = leftSecond m c t (second_of t h) :=
  dif_neg h

/-! ## The launch -/

/-- The window of which nothing is said. -/
def unsaid : Fin 5 → Bool := fun w => w.val == 4

/-- The arrays as the region finds them; after a point each input's block in its buffer and `left` in the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
    | ⟨4, h⟩ => Pipeline.Dat.unnamed (cfg := cfg0) ⟨4, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = left m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- The first output's window is written back at every point. -/
theorem live_3 : ∀ t : Fin cfg0.N, cfg0.idle 3 (grid0.coords t) = false := by decide +kernel

theorem leaves_0 (c : Dev nD) (t : Fin cfg0.N) :
    (dats m 0 c).leavesExact 0 t = owns (c : Thread nD τ) (rows t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (wts t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (stepWts t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (outp t) fullShare (left m c t) := by
  unfold Dat.leavesExact; rw [live_3 t, after_3]

/-- The scratch and the generator's register, as the body takes them and gives them back. -/
theorem rest_eq (c : Dev nD) : (Pipeline.ΦA spec0 c : sProp 𝕄)
    = iprop(iprop(∃ d, owns (c : Thread nD τ) normed fullShare d) ∗ (∃ r, prngReg c r)) := by
  unfold Pipeline.ΦA; rw [scopedRest0_eq]; simp only [normed, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (rows t) fullShare ((dats m 0 c).before 0 t d))
    ∗ (∃ d, owns (c : Thread nD τ) (wts t) fullShare ((dats m 0 c).before 1 t d))
    ∗ (∃ d, owns (c : Thread nD τ) (stepWts t) fullShare ((dats m 0 c).before 2 t d))
    ∗ (∃ d, owns (c : Thread nD τ) (outp t) fullShare ((dats m 0 c).before 3 t d))
    ∗ (∃ d, owns (c : Thread nD τ) (steps t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (∃ d, owns (c : Thread nD τ) (steps t) fullShare d))

/-- Whatever pieces the body leaves, if they fill the block and read back as `left`, the body does its part. -/
theorem body_of (c : Dev nD) (t : Fin cfg0.N) (L : List (View.Piece (Elt F) S1024x3328 .bf16))
    (run : Leaves c (grid0.coords t) (rows t) (rows_whole t) (wts t) (wts_whole t) (stepWts t) (stepWts_whole t) (outp t)
      (outp_whole t) (steps t) (steps_whole t) normed (Memref.isWhole_whole _) (iblk m c 0 t) (iblk m c 1 t)
      (iblk m c 2 t) L)
    (fill : ∀ y, ∃ pc ∈ L, y ∈ pc.1.set)
    (back : left m c t = outView.read (Elt F) (outView.writes (Elt F) outView.junk L)) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2, leaves_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq, back]
  iintro ⟨⟨HS, Hg⟩, Ho, ⟨%d0, H0⟩, ⟨%d1, H1⟩, ⟨%d2, H2⟩, ⟨%d3, H3⟩, ⟨%d4, H4⟩⟩
  iapply (run Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%f3, H3⟩, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ fill
  iexact H4

theorem body (c : Dev nD) (t : Fin cfg0.N) :
    bodyPre m c t ⊢ wp frame (wpE (defs₀ (F := F)) Variants.none c none) Set.univ (bodyAt0 t) (fun _ => bodyPost m c t) := by
  by_cases h : t.val % 2 = 0
  · exact body_of m c t _ (firstRun c _ _ _ _ _ _ _ _ _ _ _ _ _ _ _ _ (first_of t h)).2
      (firstRun_cover c _ _ _ _ _ _ _ _ _ _ _ _ _ _ _ _ _) (left_even m c t h)
  · exact body_of m c t _ (secondRun c _ _ _ _ _ _ _ _ _ _ _ _ _ _ _ _ (second_of t h)).2
      (secondRun_cover c _ _ _ _ _ _ _ _ _ _ _ _ _ _ _ _ _) (left_odd m c t h)

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unsaid := fun t => by
  rw [bigSep_W0, bigSep_W0, row]
  exact triple_restated (body m c t) rfl .rfl fun _ => .rfl

/-- What is known when the launch is over. -/
def Done : PUnit × MemSt nD τ sig (Elt F) → Prop :=
  Pipeline.RDat.FramePost (cfgs 0) (fun c => (dats m 0 c).toRForget unsaid) (V m)

set_option backward.isDefEq.respectTransparency.types false in
theorem launch : θ_run defs (onTc (τ := τ) (main (F := F))) (s₀ m ρ) (fun r => Done m r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments are no window's arrays, and the launch leaves the other buffers alone. -/
theorem kept (r : PUnit × MemSt nD τ sig (Elt F)) (h : Done m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the arguments are unchanged and the counters are zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (launch m ρ)

end Cert.Proof.Proj

end
-- ==== Proof.ProjSpec.lean ====
/- The even layer's norm and projection over extended reals, entry by entry, in the order of the columns in which the
   call leaves them. -/
module

public import Idealize.ShloMosaic.PureOps.Ideal

@[expose] public section

noncomputable section

namespace Cert.Proof.Proj

open Idealize.ShloMosaic

/-- What a row is multiplied by: the inverse root of its mean square, after the small addend. -/
def gain (row : Fin 1024 → EReal) : EReal :=
  Ideal.rsqrt (Ideal.div (∑ e, row e * row e) (Ideal.ofBits .f32 0x44800000#32) + Ideal.ofBits .f32 0x3727C5AC#32)

/-- A row's norm against a column of weights. -/
def prod (row w : Fin 1024 → EReal) : EReal := ∑ d, row d * gain row * w d

/-- SiLU. -/
def silu (p : EReal) : EReal := p * Ideal.div 1 (1 + Ideal.exp (-p))

def act (g : Bool) (p : EReal) : EReal := if g then silu p else p

/-- Whether an output column is one of the two gates'. -/
def gate (C : ℕ) : Bool := decide (C < 1024) || (decide (2048 ≤ C) && decide (C < 3072))

/-- The column of the projection that an output column holds. -/
def src (C : ℕ) : ℕ := if C < 2048 then C else if C < 3072 then C + 3600 else if C < 6144 then C - 496 else C - 4096

theorem src_lt (C : ℕ) (h : C < 6656) : src C < 6672 := by
  unfold src; split_ifs <;> omega

/-- An output's entry, from its row and the weights with their gain. -/
def entry (row : Fin 1024 → EReal) (W : Fin 6672 → Fin 1024 → EReal) (C : Fin 6656) : EReal :=
  act (gate C.val) (prod row (W ⟨src C.val, src_lt C.val C.isLt⟩))

/-- The kernel's sigmoid is the logistic: in base two of a multiple it is the exponential. -/
theorem exp2_neg (p : EReal) : Ideal.exp2 (p * (((-1) * (Real.log 2)⁻¹ : ℝ) : EReal)) = Ideal.exp (-p) := by
  have h2 : 0 < Real.log 2 := Real.log_pos (by norm_num)
  have hn : ((-1) * (Real.log 2)⁻¹ : ℝ) < 0 := by have := inv_pos.mpr h2; linarith
  induction p using EReal.rec with
  | bot => rw [EReal.bot_mul_coe_of_neg hn, EReal.neg_bot]; rfl
  | top => rw [EReal.top_mul_coe_of_neg hn, EReal.neg_top]; rfl
  | coe x =>
    rw [← EReal.coe_mul, ← EReal.coe_neg]
    show ((Real.rpow 2 (x * ((-1) * (Real.log 2)⁻¹)) : ℝ) : EReal) = ((Real.exp (-x) : ℝ) : EReal)
    congr 1
    show (2 : ℝ) ^ (x * ((-1) * (Real.log 2)⁻¹)) = Real.exp (-x)
    rw [Real.rpow_def_of_pos (by norm_num)]
    congr 1
    field_simp

end Cert.Proof.Proj

end
-- ==== Proof.ProjBlock.lean ====
/- What a point of the projection's grid leaves in its block, entry by entry: rows in two halves of 512, columns in
   pieces, each piece a product of the halves' norm with rows of the transposed weights. -/
module

public import proofs.«01_k».proof.Proof.ProjRun
public import proofs.«01_k».proof.Proof.ProjSpec
public import Idealize.ShloMosaic.Lib.Pointwise
public import Idealize.ShloMosaic.Lib.Writes
public import Idealize.ShloMosaic.Lib.WholeRead
public import Idealize.ShloMosaic.PureOps.Ideal

@[expose] public section

set_option maxRecDepth 16384

noncomputable section

namespace Cert.Proof.Proj

open Idealize.ShloMosaic Idealize.ShloMosaic.TcCoe Cert.Kernel2Ideal Cert.Kernel2Ideal.Gen

abbrev M2 (a b : ℕ) := Vec Ideal ⟨2, ![a, b]⟩ .bf16

/-- The kernel's constant. -/
theorem named_eq : (Named.named κ "neg_log2e" (φ := .f32) 0xBFB8AA3B#32 : Ideal .f32) = (((-1) * (Real.log 2)⁻¹ : ℝ) : EReal) := rfl

theorem silu_of (p : EReal) :
    p * Ideal.div 1 (1 + FloatOps.exp2 (F := Ideal) (φ := .f32) (p * (((-1) * (Real.log 2)⁻¹ : ℝ) : EReal))) = silu p :=
  congrArg (fun e => p * Ideal.div 1 (1 + e)) (exp2_neg p)

/-- A half's norm at an entry. -/
def nrm (v : Vec Ideal S512x1024 .f32) (r : Fin 512) (d : Fin 1024) : EReal := v (ix2 r d) * gain (fun e => v (ix2 r e))

theorem pay5_at (v) (r : Fin 512) (d : Fin 1024) : k0_pay5 (F := Ideal) v (ix2 r d) = nrm v r d := by
  pointwise [k0_pay5]; rfl
theorem pay6_at (v) (r : Fin 512) (d : Fin 1024) : k0_pay6 (F := Ideal) v (ix2 r d) = nrm v r d := by
  pointwise [k0_pay6]; rfl
theorem pay18_at (v) (r : Fin 512) (d : Fin 1024) : k0_pay18 (F := Ideal) v (ix2 r d) = nrm v r d := by
  pointwise [k0_pay18]; rfl
theorem pay19_at (v) (r : Fin 512) (d : Fin 1024) : k0_pay19 (F := Ideal) v (ix2 r d) = nrm v r d := by
  pointwise [k0_pay19]; rfl

/-- A product of a half with rows of weights, at an entry. -/
def dots {n : ℕ} (v : M2 512 1024) (w : M2 n 1024) (r : Fin 512) (c : Fin n) : EReal := ∑ d, v (ix2 r d) * w (ix2 c d)

theorem pay8_at (v w) (r : Fin 512) (c : Fin 1024) : k0_pay8 (F := Ideal) v w (ix2 r c) = silu (dots (k0_pay5 v) w r c) := by
  pointwise [k0_pay8]
  rw [named_eq]
  exact silu_of _
theorem pay9_at (v w) (r : Fin 512) (c : Fin 1024) : k0_pay9 (F := Ideal) v w (ix2 r c) = dots v w r c := by
  pointwise [k0_pay9]; rfl
theorem pay10_at (v w) (r : Fin 512) (c : Fin 1024) : k0_pay10 (F := Ideal) v w (ix2 r c) = silu (dots v w r c) := by
  pointwise [k0_pay10]
  rw [named_eq]
  exact silu_of _
theorem pay11_at (v w) (r : Fin 512) (c : Fin 256) : k0_pay11 (F := Ideal) v w (ix2 r c) = dots v w r c := by
  pointwise [k0_pay11]; rfl
theorem pay14_at (v w) (r : Fin 512) (c : Fin 1024) : k0_pay14 (F := Ideal) (k0_pay13 v w) (ix2 r c) = silu (dots v w r c) := by
  pointwise [k0_pay14, k0_pay13]
  rw [named_eq]
  exact silu_of _
theorem pay15_at (v w) (r : Fin 512) (c : Fin 1024) : k0_pay15 (F := Ideal) v w (ix2 r c) = dots v w r c := by
  pointwise [k0_pay15]; rfl
theorem pay16_at (v w) (r : Fin 512) (c : Fin 1024) : k0_pay16 (F := Ideal) v w (ix2 r c) = silu (dots v w r c) := by
  pointwise [k0_pay16]
  rw [named_eq]
  exact silu_of _
theorem pay17_at (v w) (r : Fin 512) (c : Fin 256) : k0_pay17 (F := Ideal) v w (ix2 r c) = dots v w r c := by
  pointwise [k0_pay17]; rfl
theorem pay21_at (v w) (r : Fin 512) (c : Fin 2816) : k0_pay21 (F := Ideal) v w (ix2 r c) = dots (k0_pay18 v) w r c := by
  pointwise [k0_pay21]; rfl
theorem pay22_at (v w) (r : Fin 512) (c : Fin 512) : k0_pay22 (F := Ideal) v w (ix2 r c) = dots (k0_pay18 v) w r c := by
  pointwise [k0_pay22]; rfl
theorem pay2_at (v w) (r : Fin 512) (c : Fin 2816) : k0_pay2 (F := Ideal) v w (ix2 r c) = dots v w r c := by
  pointwise [k0_pay2]; rfl
theorem pay3_at (v w) (r : Fin 512) (c : Fin 512) : k0_pay3 (F := Ideal) v w (ix2 r c) = dots v w r c := by
  pointwise [k0_pay3]; rfl

theorem two_eta {a b : ℕ} (x : (⟨2, ![a, b]⟩ : Shape).Idx) : ∃ (r : Fin a) (c : Fin b), x = ix2 r c :=
  ⟨x 0, x 1, funext fun i => by fin_cases i <;> rfl⟩

/-! ## Loads -/

theorem load_at {n k : ℕ} {sp : Space} {e : EltTy} {arg : Memref sig .tc sp ⟨2, ![n, 1024]⟩ e} (harg : arg.IsWhole)
    (X : Vec Ideal ⟨2, ![n, 1024]⟩ e) (o : ℕ) (inb : ∀ a, (![o, 0] : Fin 2 → ℕ) a + (⟨2, ![k, 1024]⟩ : Shape).size a ≤ (⟨2, ![n, 1024]⟩ : Shape).size a)
    (r : Fin k) (d : Fin 1024) (h : o + r.val < n) :
    View.readAt (Elt Ideal) arg.view (Rect.unit (s := ⟨2, ![n, 1024]⟩) ![o, 0] (⟨2, ![k, 1024]⟩ : Shape).size inb).toLoadRect
      (harg.unread X) (ix2 r d) = X (ix2 ⟨o + r.val, h⟩ d) := by
  refine (harg.readAt_unread X _ _).trans (congrArg X (funext fun a => Fin.ext ?_))
  match a with
  | ⟨0, _⟩ => show o + 1 * r.val = o + r.val; omega
  | ⟨1, _⟩ => show 0 + 1 * d.val = d.val; omega

/-! ## Pieces -/

/-- A block's column among all the output's. -/
def across (half : Fin 2) (c : Fin 3328) : Fin 6656 := ⟨half.val * 3328 + c.val, by omega⟩

/-- What the block holds. -/
def blk (half : Fin 2) (x0 : Vec Ideal S1024x1024 .f32) (x1 : M2 6672 1024) (y : S1024x3328.Idx) : EReal :=
  entry (fun d => x0 (ix2 (y 0) d)) (fun n d => x1 (ix2 n d)) (across half (y 1))

theorem piece {n : ℕ} (half : Fin 2) (x0 : Vec Ideal S1024x1024 .f32) (x1 : M2 6672 1024) (r0 c0 n0 : ℕ) (g : Bool)
    (hr : r0 + 512 ≤ 1024) (hc : c0 + n ≤ 3328) (hn : n0 + n ≤ 6672)
    (p : Vec Ideal ⟨2, ![512, n]⟩ .bf16) (e : (⟨2, ![512, n]⟩ : Shape).Idx → S1024x3328.Idx)
    (v : M2 512 1024) (w : M2 n 1024)
    (he : ∀ (r : Fin 512) (c : Fin n), e (ix2 r c) = ix2 ⟨r0 + r.val, by omega⟩ ⟨c0 + c.val, by omega⟩)
    (hp : ∀ (r : Fin 512) (c : Fin n), p (ix2 r c) = act g (dots v w r c))
    (v0 : Vec Ideal S512x1024 .f32) (hv : ∀ r d, v (ix2 r d) = nrm v0 r d)
    (h0 : ∀ (r : Fin 512) (d : Fin 1024), v0 (ix2 r d) = x0 (ix2 ⟨r0 + r.val, by omega⟩ d))
    (h1 : ∀ (c : Fin n) (d : Fin 1024), w (ix2 c d) = x1 (ix2 ⟨n0 + c.val, by omega⟩ d))
    (hs : ∀ c < n, src (half.val * 3328 + (c0 + c)) = n0 + c ∧ gate (half.val * 3328 + (c0 + c)) = g) (x : (⟨2, ![512, n]⟩ : Shape).Idx) :
    p x = blk half x0 x1 (e x) := by
  obtain ⟨r, c, rfl⟩ := two_eta x
  rw [he, hp]
  unfold blk entry
  refine congrArg₂ act (hs c.val c.isLt).2.symm (Finset.sum_congr rfl fun d _ => ?_)
  rw [hv, h1]
  unfold nrm
  refine congrArg₂ (· * ·) (congrArg₂ (· * ·) (h0 r d) (congrArg gain (funext fun e => h0 r e))) ?_
  exact congrArg (fun k => x1 (ix2 k d)) (Fin.ext (hs c.val c.isLt).1.symm)

theorem cols_gate0 : ∀ c < 1024, src ((0 : Fin 2).val * 3328 + (0 + c)) = 0 + c ∧ gate ((0 : Fin 2).val * 3328 + (0 + c)) = true := by
  intro c h
  have e : (0 : Fin 2).val * 3328 + (0 + c) = c := by simp
  rw [e]; unfold src gate
  exact ⟨by split_ifs <;> omega, by simp; omega⟩
theorem cols_xs : ∀ c < 1024, src ((0 : Fin 2).val * 3328 + (1024 + c)) = 1024 + c ∧ gate ((0 : Fin 2).val * 3328 + (1024 + c)) = false := by
  intro c h
  have e : (0 : Fin 2).val * 3328 + (1024 + c) = 1024 + c := by simp
  rw [e]; unfold src gate
  exact ⟨by split_ifs <;> omega, by simp; omega⟩
theorem cols_gate1 : ∀ c < 1024, src ((0 : Fin 2).val * 3328 + (2048 + c)) = 5648 + c ∧ gate ((0 : Fin 2).val * 3328 + (2048 + c)) = true := by
  intro c h
  have e : (0 : Fin 2).val * 3328 + (2048 + c) = 2048 + c := by simp
  rw [e]; unfold src gate
  exact ⟨by split_ifs <;> omega, by simp; omega⟩
theorem cols_q0 : ∀ c < 256, src ((0 : Fin 2).val * 3328 + (3072 + c)) = 2576 + c ∧ gate ((0 : Fin 2).val * 3328 + (3072 + c)) = false := by
  intro c h
  have e : (0 : Fin 2).val * 3328 + (3072 + c) = 3072 + c := by simp
  rw [e]; unfold src gate
  exact ⟨by split_ifs <;> omega, by simp; omega⟩
theorem cols_qkv : ∀ c < 2816, src ((1 : Fin 2).val * 3328 + (0 + c)) = 2832 + c ∧ gate ((1 : Fin 2).val * 3328 + (0 + c)) = false := by
  intro c h
  have e : (1 : Fin 2).val * 3328 + (0 + c) = 3328 + c := by simp
  rw [e]; unfold src gate
  exact ⟨by split_ifs <;> omega, by simp; omega⟩
theorem cols_bc : ∀ c < 512, src ((1 : Fin 2).val * 3328 + (2816 + c)) = 2048 + c ∧ gate ((1 : Fin 2).val * 3328 + (2816 + c)) = false := by
  intro c h
  have e : (1 : Fin 2).val * 3328 + (2816 + c) = 6144 + c := by simp; omega
  rw [e]; unfold src gate
  exact ⟨by split_ifs <;> omega, by simp; omega⟩

/-- Where a piece stands in the block. -/
theorem stands {n : ℕ} (r0 c0 : ℕ) (inb : ∀ a, (![r0, c0] : Fin 2 → ℕ) a + (⟨2, ![512, n]⟩ : Shape).size a ≤ S1024x3328.size a)
    (r : Fin 512) (c : Fin n) (hr : r0 + r.val < 1024) (hc : c0 + c.val < 3328) :
    (Rect.unit (s := S1024x3328) ![r0, c0] (⟨2, ![512, n]⟩ : Shape).size inb).emb (ix2 r c) = ix2 ⟨r0 + r.val, hr⟩ ⟨c0 + c.val, hc⟩ := by
  refine funext fun a => Fin.ext ?_
  match a with
  | ⟨0, _⟩ => show r0 + 1 * r.val = r0 + r.val; omega
  | ⟨1, _⟩ => show c0 + 1 * c.val = c0 + c.val; omega

variable (c : Dev nD) (i : grid0.Coords) (arg2 : Memref sig .tc .vmem S1024x1024 .f32) (harg2 : arg2.IsWhole)
  (arg3 : Memref sig .tc .vmem S6672x1024 .bf16) (harg3 : arg3.IsWhole)
  (arg4 : Memref sig .tc .vmem S128x1024 .bf16) (harg4 : arg4.IsWhole)
  (arg5 : Memref sig .tc .vmem S1024x3328 .bf16) (harg5 : arg5.IsWhole)
  (arg6 : Memref sig .tc .vmem S1024x128 .f32) (harg6 : arg6.IsWhole)
  (arg7 : Memref sig .tc .vmem S1024x1024 .bf16) (harg7 : arg7.IsWhole)
  (x0 : Vec Ideal S1024x1024 .f32) (x1 : Vec Ideal S6672x1024 .bf16) (x2 : Vec Ideal S128x1024 .bf16)

/-- An even point's pieces hold the first 3328 columns. -/
theorem firstPieces (h : First i) : ∀ p ∈ (firstRun c i arg2 harg2 arg3 harg3 arg4 harg4 arg5 harg5 arg6 harg6 arg7 harg7 x0 x1 x2 h).1,
    ∀ x, p.2 x = blk 0 x0 x1 (p.1.emb x) := by
  intro p hp
  dsimp only [firstRun] at hp
  simp only [List.mem_cons, List.not_mem_nil, or_false] at hp
  rcases hp with rfl | rfl | rfl | rfl | rfl | rfl | rfl | rfl
  · exact piece 0 x0 x1 512 3072 2576 false (by omega) (by omega) (by omega) _ _ _ _ (fun r c => stands _ _ inb_S1024x3328_S512x256_512_3072 _ _ _ _)
      (pay17_at _ _) _ (pay6_at _) (fun r d => load_at _ _ _ _ _ _ _) (fun r d => load_at _ _ _ _ _ _ _) cols_q0
  · exact piece 0 x0 x1 512 2048 5648 true (by omega) (by omega) (by omega) _ _ _ _ (fun r c => stands _ _ inb_S1024x3328_S512x1024_512_2048 _ _ _ _)
      (pay16_at _ _) _ (pay6_at _) (fun r d => load_at _ _ _ _ _ _ _) (fun r d => load_at _ _ _ _ _ _ _) cols_gate1
  · exact piece 0 x0 x1 512 1024 1024 false (by omega) (by omega) (by omega) _ _ _ _ (fun r c => stands _ _ inb_S1024x3328_S512x1024_512_1024 _ _ _ _)
      (pay15_at _ _) _ (pay6_at _) (fun r d => load_at _ _ _ _ _ _ _) (fun r d => load_at _ _ _ _ _ _ _) cols_xs
  · exact piece 0 x0 x1 512 0 0 true (by omega) (by omega) (by omega) _ _ _ _ (fun r c => stands _ _ inb_S1024x3328_S512x1024_512_0 _ _ _ _)
      (pay14_at _ _) _ (pay6_at _) (fun r d => load_at _ _ _ _ _ _ _) (fun r d => load_at _ _ _ _ _ _ _) cols_gate0
  · exact piece 0 x0 x1 0 3072 2576 false (by omega) (by omega) (by omega) _ _ _ _ (fun r c => stands _ _ inb_S1024x3328_S512x256_0_3072 _ _ _ _)
      (pay11_at _ _) _ (pay5_at _) (fun r d => load_at _ _ _ _ _ _ _) (fun r d => load_at _ _ _ _ _ _ _) cols_q0
  · exact piece 0 x0 x1 0 2048 5648 true (by omega) (by omega) (by omega) _ _ _ _ (fun r c => stands _ _ inb_S1024x3328_S512x1024_0_2048 _ _ _ _)
      (pay10_at _ _) _ (pay5_at _) (fun r d => load_at _ _ _ _ _ _ _) (fun r d => load_at _ _ _ _ _ _ _) cols_gate1
  · exact piece 0 x0 x1 0 1024 1024 false (by omega) (by omega) (by omega) _ _ _ _ (fun r c => stands _ _ inb_S1024x3328_S512x1024_0_1024 _ _ _ _)
      (pay9_at _ _) _ (pay5_at _) (fun r d => load_at _ _ _ _ _ _ _) (fun r d => load_at _ _ _ _ _ _ _) cols_xs
  · exact piece 0 x0 x1 0 0 0 true (by omega) (by omega) (by omega) _ _ _ _ (fun r c => stands _ _ inb_S1024x3328_S512x1024_0_0 _ _ _ _)
      (pay8_at _ _) _ (pay5_at _) (fun r d => load_at _ _ _ _ _ _ _) (fun r d => load_at _ _ _ _ _ _ _) cols_gate0

/-- An odd point's hold the others. -/
theorem secondPieces (h : Second i) : ∀ p ∈ (secondRun c i arg2 harg2 arg3 harg3 arg4 harg4 arg5 harg5 arg6 harg6 arg7 harg7 x0 x1 x2 h).1,
    ∀ x, p.2 x = blk 1 x0 x1 (p.1.emb x) := by
  intro p hp
  dsimp only [secondRun] at hp
  simp only [List.mem_cons, List.not_mem_nil, or_false] at hp
  rcases hp with rfl | rfl | rfl | rfl
  · exact piece 1 x0 x1 512 2816 2048 false (by omega) (by omega) (by omega) _ _ _ _ (fun r c => stands _ _ inb_S1024x3328_S512x512_512_2816 _ _ _ _)
      (pay3_at _ _) _ (pay19_at _) (fun r d => load_at _ _ _ _ _ _ _) (fun r d => load_at _ _ _ _ _ _ _) cols_bc
  · exact piece 1 x0 x1 512 0 2832 false (by omega) (by omega) (by omega) _ _ _ _ (fun r c => stands _ _ inb_S1024x3328_S512x2816_512_0 _ _ _ _)
      (pay2_at _ _) _ (pay19_at _) (fun r d => load_at _ _ _ _ _ _ _) (fun r d => load_at _ _ _ _ _ _ _) cols_qkv
  · exact piece 1 x0 x1 0 2816 2048 false (by omega) (by omega) (by omega) _ _ _ _ (fun r c => stands _ _ inb_S1024x3328_S512x512_0_2816 _ _ _ _)
      (pay22_at _ _) _ (pay18_at _) (fun r d => load_at _ _ _ _ _ _ _) (fun r d => load_at _ _ _ _ _ _ _) cols_bc
  · exact piece 1 x0 x1 0 0 2832 false (by omega) (by omega) (by omega) _ _ _ _ (fun r c => stands _ _ inb_S1024x3328_S512x2816_0_0 _ _ _ _)
      (pay21_at _ _) _ (pay18_at _) (fun r d => load_at _ _ _ _ _ _ _) (fun r d => load_at _ _ _ _ _ _ _) cols_qkv

variable (m : (ℓ : Loc nD τ sig) → Buf (Elt Ideal) ℓ)

theorem leftFirst_at (t : Fin cfg0.N) (h : First (grid0.coords t)) (y : S1024x3328.Idx) :
    leftFirst m c t h y = blk 0 (iblk m c 0 t) (iblk m c 1 t) y := by
  unfold leftFirst
  refine View.read_writes_apply_of_pieces (Val := Elt Ideal) outView _ (blk 0 (iblk m c 0 t) (iblk m c 1 t)) _ ?_ y ?_
  · exact firstPieces c _ _ _ _ _ _ _ _ _ _ _ _ _ _ _ _ h
  · exact firstRun_cover c _ _ _ _ _ _ _ _ _ _ _ _ _ _ _ _ h y

theorem leftSecond_at (t : Fin cfg0.N) (h : Second (grid0.coords t)) (y : S1024x3328.Idx) :
    leftSecond m c t h y = blk 1 (iblk m c 0 t) (iblk m c 1 t) y := by
  unfold leftSecond
  refine View.read_writes_apply_of_pieces (Val := Elt Ideal) outView _ (blk 1 (iblk m c 0 t) (iblk m c 1 t)) _ ?_ y ?_
  · exact secondPieces c _ _ _ _ _ _ _ _ _ _ _ _ _ _ _ _ h
  · exact secondRun_cover c _ _ _ _ _ _ _ _ _ _ _ _ _ _ _ _ h y

/-- What a point leaves. -/
theorem left_at (t : Fin cfg0.N) (y : S1024x3328.Idx) :
    left m c t y = blk ⟨t.val % 2, by omega⟩ (iblk m c 0 t) (iblk m c 1 t) y := by
  by_cases h : t.val % 2 = 0
  · rw [left_even m c t h, leftFirst_at]
    exact congrArg (fun s => blk s (iblk m c 0 t) (iblk m c 1 t) y) (Fin.ext h.symm)
  · rw [left_odd m c t h, leftSecond_at]
    exact congrArg (fun s => blk s (iblk m c 0 t) (iblk m c 1 t) y) (Fin.ext (by show 1 = t.val % 2; omega))

end Cert.Proof.Proj

end
-- ==== Proof.ProjRef.lean ====
/- The projection's reference, read at an entry. -/
module

public import proofs.«01_k».proof.Proof.ProjSpec
public import proofs.«01_k».proof.Proof.Gen.Reference2Ideal.Run
public import Idealize.ShloMosaic.Lib.Pointwise
public import Idealize.ShloMosaic.Lib.IdealHost

@[expose] public section

set_option maxRecDepth 16384

noncomputable section

namespace Cert.Proof.Proj

open Idealize.ShloMosaic Idealize.ShloMosaic.TcCoe Cert.Reference2Ideal Cert.Reference2Ideal.Facts₀

/-- The activations, the gain and the weights. -/
abbrev Acts := FVec Ideal S8x2048x1024 .f32
abbrev Gain := FVec Ideal S1x1024 .f32
abbrev Wts := FVec Ideal S1x1024x6672 .f32

/-- Each row's inverse root of its mean square. -/
def invRoot (x : Acts) : FVec Ideal S8x2048x1 .f32 :=
  Host.rsqrt (addf (Host.divf (broadcastInDim S8x2048x1 ![0, 1] bcast_S8x2048_S8x2048x1_0_1
      (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x3727C5AC#32)))

/-- The norm with its gain. -/
def rmsNorm (x : Acts) (g : Gain) : Acts :=
  mulf (mulf x (broadcastInDim S8x2048x1024 ![0, 1, 2] bcast_S8x2048x1_S8x2048x1024_0_1_2 (invRoot x)))
    (broadcastInDim S8x2048x1024 ![0, 1, 2] bcast_S1x1x1024_S8x2048x1024_0_1_2
      (broadcastInDim S1x1x1024 ![2] bcast_S1024_S1x1x1024_2 (shapeCast _ g shapeCasts_S1x1024_S1024)))

/-- The projection's columns, by rows. -/
def columns (x : Acts) (g : Gain) (w : Wts) : FVec Ideal S16384x6672 .f32 :=
  shapeCast _ (Host.dotGeneral dot_S8x2048x1024_S1024x6672_S8x2048x6672_2_0_01_1_n_n none (rmsNorm x g)
    (shapeCast _ w shapeCasts_S1x1024x6672_S1024x6672)) shapeCasts_S8x2048x6672_S16384x6672

def siluAll (p : FVec Ideal S16384x1024 .f32) : FVec Ideal S16384x1024 .f32 :=
  mulf p (Host.divf (broadcastInDim S16384x1024 ![] bcast_S_S16384x1024 (constant S_ .f32 0x3F800000#32))
    (addf (broadcastInDim S16384x1024 ![] bcast_S_S16384x1024 (constant S_ .f32 0x3F800000#32)) (Host.exp (Host.negf p))))

/-- The columns in the order in which the mixers read them. -/
def ordered (p : FVec Ideal S16384x6672 .f32) : FVec Ideal S16384x6656 .bf16 :=
  truncf .bf16 (concatenate S16384x6656 1
    [⟨S16384x1024, siluAll (extractStridedSlice S16384x1024 ![0, 0] p slices_S16384x6672_S16384x1024_0_0)⟩,
     ⟨S16384x1024, extractStridedSlice S16384x1024 ![0, 0] (extractStridedSlice S16384x1536 ![0, 1024] p slices_S16384x6672_S16384x1536_0_1024) slices_S16384x1536_S16384x1024_0_0⟩,
     ⟨S16384x1024, siluAll (extractStridedSlice S16384x1024 ![0, 5648] p slices_S16384x6672_S16384x1024_0_5648)⟩,
     ⟨S16384x1024, extractStridedSlice S16384x1024 ![0, 2576] p slices_S16384x6672_S16384x1024_0_2576⟩,
     ⟨S16384x1024, extractStridedSlice S16384x1024 ![0, 3600] p slices_S16384x6672_S16384x1024_0_3600⟩,
     ⟨S16384x1024, extractStridedSlice S16384x1024 ![0, 4624] p slices_S16384x6672_S16384x1024_0_4624⟩,
     ⟨S16384x512, extractStridedSlice S16384x512 ![0, 1024] (extractStridedSlice S16384x1536 ![0, 1024] p slices_S16384x6672_S16384x1536_0_1024) slices_S16384x1536_S16384x512_0_1024⟩]
    concatenates_S16384x1024_S16384x1024_S16384x1024_S16384x1024_S16384x1024_S16384x1024_S16384x512_S16384x6656_d1) bitsLt_bf16_f32

theorem ref_eq (m : (ℓ : Loc nD τ sig) → Buf (Elt Ideal) ℓ) (c : Dev nD) :
    Value.res_out0 m c = ordered (columns (m ((c.tc : Thread nD τ).loc main_arg0)) (m ((c.tc : Thread nD τ).loc main_arg1))
      (m ((c.tc : Thread nD τ).loc main_arg2))) := rfl

theorem siluAll_at (p : FVec Ideal S16384x1024 .f32) (R : Fin 16384) (C : Fin 1024) : siluAll p (ix2 R C) = silu (p (ix2 R C)) := by
  pointwise [siluAll]; rfl

theorem invRoot_at (x : Acts) (b : Fin 8) (r : Fin 2048) (z : Fin 1) : invRoot x (ix3 b r z) = gain (fun d => x (ix3 b r d)) := by
  pointwise [invRoot]; rfl

theorem rmsNorm_at (x : Acts) (g : Gain) (b : Fin 8) (r : Fin 2048) (d : Fin 1024) :
    rmsNorm x g (ix3 b r d) = x (ix3 b r d) * gain (fun e => x (ix3 b r e)) * g (ix2 0 d) := by
  pointwise [rmsNorm]
  rw [invRoot_at]

theorem columns_at (x : Acts) (g : Gain) (w : Wts) (R : Fin 16384) (n : Fin 6672) : columns x g w (ix2 R n) =
    ∑ d, rmsNorm x g (ix3 ⟨R.val / 2048, by omega⟩ ⟨R.val % 2048, by omega⟩ d) * w (ix3 0 d n) := by
  pointwise [columns]

theorem ordered_at (p : FVec Ideal S16384x6672 .f32) (R : Fin 16384) (C : Fin 6656) :
    ordered p (ix2 R C) = act (gate C.val) (p (ix2 R ⟨src C.val, src_lt C.val C.isLt⟩)) := by
  have plain : ∀ (n : ℕ) (hn : n < 6672), src C.val = n → gate C.val = false →
      p (ix2 R ⟨n, hn⟩) = act (gate C.val) (p (ix2 R ⟨src C.val, src_lt C.val C.isLt⟩)) := by
    intro n hn hs hg; subst hs; rw [hg]; rfl
  have gated : ∀ (n : ℕ) (hn : n < 6672), src C.val = n → gate C.val = true →
      silu (p (ix2 R ⟨n, hn⟩)) = act (gate C.val) (p (ix2 R ⟨src C.val, src_lt C.val C.isLt⟩)) := by
    intro n hn hs hg; subst hs; rw [hg]; rfl
  pointwise [ordered]
  by_cases h1 : C.val < 1024
  · rw [dif_pos h1, siluAll_at]
    pointwise []
    exact gated _ _ (by unfold src; split_ifs <;> omega) (by simp [gate]; omega)
  rw [dif_neg h1]
  by_cases h2 : C.val - 1024 < 1024
  · rw [dif_pos h2]
    exact plain _ _ (by unfold src; split_ifs <;> omega) (by simp [gate]; omega)
  rw [dif_neg h2]
  by_cases h3 : C.val - 1024 - 1024 < 1024
  · rw [dif_pos h3, siluAll_at]
    pointwise []
    exact gated _ _ (by unfold src; split_ifs <;> omega) (by simp [gate]; omega)
  rw [dif_neg h3]
  by_cases h4 : C.val - 1024 - 1024 - 1024 < 1024
  · rw [dif_pos h4]
    exact plain _ _ (by unfold src; split_ifs <;> omega) (by simp [gate]; omega)
  rw [dif_neg h4]
  by_cases h5 : C.val - 1024 - 1024 - 1024 - 1024 < 1024
  · rw [dif_pos h5]
    exact plain _ _ (by unfold src; split_ifs <;> omega) (by simp [gate]; omega)
  rw [dif_neg h5]
  by_cases h6 : C.val - 1024 - 1024 - 1024 - 1024 - 1024 < 1024
  · rw [dif_pos h6]
    exact plain _ _ (by unfold src; split_ifs <;> omega) (by simp [gate]; omega)
  rw [dif_neg h6]
  exact plain _ _ (by unfold src; split_ifs <;> omega) (by simp [gate]; omega)

/-- The reference at an entry. -/
theorem out_at (x : Acts) (g : Gain) (w : Wts) (R : Fin 16384) (C : Fin 6656) :
    ordered (columns x g w) (ix2 R C) = entry (fun d => x (ix3 ⟨R.val / 2048, by omega⟩ ⟨R.val % 2048, by omega⟩ d))
      (fun n d => w (ix3 0 d n) * g (ix2 0 d)) C := by
  rw [ordered_at, columns_at]
  unfold entry
  refine congrArg (act _) (Finset.sum_congr rfl fun d _ => ?_)
  rw [rmsNorm_at, mul_assoc, mul_comm (g _)]

end Cert.Proof.Proj

end
-- ==== Proof.ProjArray.lean ====
/- The projection's result array is the reference's function of the arguments. -/
module

public import proofs.«01_k».proof.Proof.ProjBlock
public import proofs.«01_k».proof.Proof.ProjRef

@[expose] public section

set_option maxRecDepth 16384

noncomputable section

namespace Cert.Proof.Proj

open Idealize.ShloMosaic Idealize.ShloMosaic.TcCoe Cert.Kernel2Ideal Cert.Kernel2Ideal.Facts₀
open Cert.Kernel2Ideal.Gen (V iblk flush0_3)

/-! ## The operands -/

/-- The activations by rows. -/
def byRows (x : Acts) : Vec Ideal S16384x1024 .f32 := shapeCast S16384x1024 x shapeCasts_S8x2048x1024_S16384x1024

/-- The transposed weights with the norm's gain. -/
def scaledWts (g : Gain) (w : Wts) : M2 6672 1024 :=
  truncf .bf16 (mulf (transpose S6672x1024 [1, 0] (shapeCast S1024x6672 w shapeCasts_S1x1024x6672_S1024x6672) transposes_S1024x6672_S6672x1024_1_0)
    (broadcastInDim S6672x1024 ![0, 1] bcast_S1x1024_S6672x1024_0_1
      (broadcastInDim S1x1024 ![1] bcast_S1024_S1x1024_1 (shapeCast S1024 g shapeCasts_S1x1024_S1024)))) bitsLt_bf16_f32

theorem byRows_at (x : Acts) (R : Fin 16384) (d : Fin 1024) :
    byRows x (ix2 R d) = x (ix3 ⟨R.val / 2048, by omega⟩ ⟨R.val % 2048, by omega⟩ d) := by
  pointwise [byRows]

theorem scaledWts_at (g : Gain) (w : Wts) (n : Fin 6672) (d : Fin 1024) :
    scaledWts g w (ix2 n d) = w (ix3 0 d n) * g (ix2 0 d) := by
  pointwise [scaledWts]

variable (m : (ℓ : Loc nD τ sig) → Buf (Elt Ideal) ℓ) (c : Dev nD)

abbrev ax : Acts := m ((c.tc : Thread nD τ).loc main_arg0)
abbrev ag : Gain := m ((c.tc : Thread nD τ).loc main_arg1)
abbrev aw : Wts := m ((c.tc : Thread nD τ).loc main_arg2)

theorem V_rows : V m c main_v0 = byRows (ax m c) := rfl
theorem V_wts : V m c main_v7 = scaledWts (ag m c) (aw m c) := rfl

/-! ## The blocks -/

theorem lt32 (t : Fin cfg0.N) : t.val < 32 := t.isLt

/-- A block's row among all rows. -/
def down (t : Fin cfg0.N) (r : Fin 1024) : Fin 16384 := ⟨t.val / 2 * 1024 + r.val, by have := lt32 t; omega⟩

/-- The half of the columns a point computes. -/
def side (t : Fin cfg0.N) : Fin 2 := ⟨t.val % 2, by omega⟩

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

theorem iblk0 (t : Fin cfg0.N) (r : Fin 1024) (d : Fin 1024) : (iblk m c 0 t : Vec Ideal S1024x1024 .f32) (ix2 r d) =
    V m c main_v0 (ix2 (down t r) d) := by
  refine congrArg (V m c main_v0) (funext fun a => Fin.ext ?_)
  match a with
  | ⟨0, _⟩ =>
    show win0_0.index t 0 * 1024 + 1 * r.val = t.val / 2 * 1024 + r.val
    rw [(index0 t).1]; omega
  | ⟨1, _⟩ =>
    show win0_0.index t 1 * 1024 + 1 * d.val = d.val
    rw [(index0 t).2]; omega

theorem iblk1 (t : Fin cfg0.N) : (iblk m c 1 t : M2 6672 1024) = V m c main_v7 := by
  refine funext fun y => congrArg (V m c main_v7) (funext fun a => Fin.ext ?_)
  match a with
  | ⟨0, _⟩ =>
    show 0 * 6672 + 1 * (y 0).val = (y 0).val
    omega
  | ⟨1, _⟩ =>
    show 0 * 1024 + 1 * (y 1).val = (y 1).val
    omega

/-- What a point leaves in its block. -/
theorem block_val (t : Fin cfg0.N) (r : Fin 1024) (k : Fin 3328) : left m c t (ix2 r k) =
    ordered (columns (ax m c) (ag m c) (aw m c)) (ix2 (down t r) (across (side t) k)) := by
  rw [left_at, out_at]
  refine congrArg₂ (fun x w => entry x w (across (side t) k)) (funext fun d => ?_) (funext fun n => funext fun d => ?_)
  · exact (iblk0 m c t r d).trans ((congrFun (V_rows m c) _).trans (byRows_at _ _ _))
  · exact (congrFun (iblk1 m c t) _).trans ((congrFun (V_wts m c) _).trans (scaledWts_at _ _ _ _))

/-! ## The array -/

/-- The result array. -/
abbrev res : Buf (Elt Ideal) ((c.tc : Thread nD τ).loc main_v14_0) := ordered (columns (ax m c) (ag m c) (aw m c))

theorem cut_eq (t : Fin cfg0.N) (f : M2 1024 3328) : (cfg0.win 3).cut (grid0.coords t) f = f := rfl

theorem read_eq (R : M2 16384 6656) (t : Fin cfg0.N) (r : Fin 1024) (k : Fin 3328) :
    (win0_3.blk t).view.read (Elt Ideal) R (ix2 r k) = R (ix2 (down t r) (across (side t) k)) := by
  refine congrArg R (funext fun a => Fin.ext ?_)
  match a with
  | ⟨0, _⟩ =>
    show win0_3.index t 0 * 1024 + 1 * r.val = t.val / 2 * 1024 + r.val
    rw [(index3 t).1]; omega
  | ⟨1, _⟩ =>
    show win0_3.index t 1 * 3328 + 1 * k.val = t.val % 2 * 3328 + k.val
    rw [(index3 t).2]; omega

/-- A block that agrees with the array at every row and column is the array read through the window. -/
theorem block_eq (f : M2 1024 3328) (R : M2 16384 6656) (t : Fin cfg0.N)
    (h : ∀ r k, f (ix2 r k) = R (ix2 (down t r) (across (side t) k))) :
    (cfg0.win 3).cut (grid0.coords t) f = (win0_3.blk t).view.read (Elt Ideal) R := by
  rw [cut_eq]
  funext y
  obtain ⟨r, k, rfl⟩ := two_eta (a := 1024) (b := 3328) y
  exact (h r k).trans (read_eq R t r k).symm

theorem flushed_eq (t : Fin cfg0.N) : (dats m 0 c).flushed 3 t = (win0_3.blk t).view.read (Elt Ideal) (res m c) := by
  show (cfg0.win 3).cut (grid0.coords t) ((dats m 0 c).after 3 t) = _
  rw [after_3]
  exact block_eq _ _ t (block_val m c t)

theorem mem_block (t : Fin cfg0.N) (i : S16384x6656.Idx) (h0 : t.val / 2 = (i 0).val / 1024) (h1 : t.val % 2 = (i 1).val / 3328) :
    i ∈ ((cfg0.win 3).blk t).view.set := by
  show i ∈ ((View.whole main_v14_0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]
    omega
  | ⟨1, _⟩ =>
    show win0_3.index t 1 * 3328 ≤ (i 1).val ∧ (i 1).val < win0_3.index t 1 * 3328 + 3328
    rw [(index3 t).2]
    omega

theorem cover (i : S16384x6656.Idx) : ∃ t : Fin cfg0.N, (cfg0.win 3).flush t = true ∧ i ∈ ((cfg0.win 3).blk t).view.set := by
  have h0 : (i 0).val < 16384 := (i 0).isLt
  have h1 : (i 1).val < 6656 := (i 1).isLt
  have ht : (i 0).val / 1024 * 2 + (i 1).val / 3328 < cfg0.N := by
    show (i 0).val / 1024 * 2 + (i 1).val / 3328 < 32
    omega
  exact ⟨⟨_, ht⟩, flush0_3 _, mem_block _ i (by dsimp only; omega) (by dsimp only; omega)⟩

theorem final : (dats m 0 c).arrAt 3 cfg0.N = res m c :=
  (dats m 0 c).arrAt_eq_of_cover 3 (res m c) (fun t _ => flushed_eq m c t) cover

end Cert.Proof.Proj

end
-- ==== Proof.ProjBits.lean ====
/- The frame of the projection's kernel at the word types: its body runs at every point of the grid and leaves its
   inputs as they were. Nothing is said of what it leaves in its outputs. -/
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.ProjBits

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An even point's branches and an odd point's. -/
theorem conds (t : Fin cfg0.N) :
    (t.val % 2 = 0 → k0_cond1 (grid0.coords t) = 1#1 ∧ ¬k0_cond2 (grid0.coords t) = 1#1 ∧ k0_cond3 (grid0.coords t) = 1#1)
    ∧ (¬t.val % 2 = 0 → ¬k0_cond1 (grid0.coords t) = 1#1 ∧ k0_cond2 (grid0.coords t) = 1#1 ∧ ¬k0_cond3 (grid0.coords t) = 1#1) := by
  have ht : t.val < 32 := Nat.lt_of_lt_of_eq t.isLt N_0
  have e0 : (grid0.coords t 0).val = t.val / 2 % 16 := Pipeline.Grid.coords_val t 0 (by decide) rfl
  have e1 : (grid0.coords t 1).val = t.val / 1 % 2 := Pipeline.Grid.coords_val t 1 (by decide) rfl
  have a1 : k0_cond1 (grid0.coords t) = 1#1 ↔ t.val % 2 = 0 := by simp only [k0_cond1, e0, e1]; word_cmp
  have a2 : k0_cond2 (grid0.coords t) = 1#1 ↔ t.val % 2 = 1 := by simp only [k0_cond2, e0, e1]; word_cmp
  have a3 : k0_cond3 (grid0.coords t) = 1#1 ↔ t.val % 2 = 0 := by simp only [k0_cond3, e0, e1]; word_cmp
  rw [a1, a2, a3]
  omega

/-! ## The body on any whole buffers -/

section Body

variable (c : Dev nD) (i : grid0.Coords) (arg2 : Memref sig .tc .vmem S1024x1024 .f32) (harg2 : arg2.IsWhole)
  (arg3 : Memref sig .tc .vmem S6672x1024 .bf16) (harg3 : arg3.IsWhole)
  (arg4 : Memref sig .tc .vmem S128x1024 .bf16) (harg4 : arg4.IsWhole)
  (arg5 : Memref sig .tc .vmem S1024x3328 .bf16) (harg5 : arg5.IsWhole)
  (arg6 : Memref sig .tc .vmem S1024x128 .f32) (harg6 : arg6.IsWhole)
  (arg7 : Memref sig .tc .vmem S1024x1024 .bf16) (harg7 : arg7.IsWhole)
  (x0 : Vec F S1024x1024 .f32) (x1 : Vec F S6672x1024 .bf16) (x2 : Vec F S128x1024 .bf16)

/-- The buffers the body takes and gives back. -/
def held : sProp 𝕄 :=
  iprop(owns (c : Thread nD τ) arg2 fullShare x0 ∗ owns (c : Thread nD τ) arg3 fullShare x1
    ∗ owns (c : Thread nD τ) arg4 fullShare x2 ∗ (∃ d, owns (c : Thread nD τ) arg5 fullShare d)
    ∗ (∃ d, owns (c : Thread nD τ) arg6 fullShare d) ∗ (∃ d, owns (c : Thread nD τ) arg7 fullShare d))

def Runs : Prop :=
  ∀ (E : Set ℕ) (K : PUnit → sProp 𝕄),
    iprop(held c arg2 arg3 arg4 arg5 arg6 arg7 x0 x1 x2 ∗ (held c arg2 arg3 arg4 arg5 arg6 arg7 x0 x1 x2 -∗ K ⟨⟩))
      ⊢ wp frame (wpE (defs₀ (F := F)) Variants.none c none) E
          (cc0_norm_proj_aux i arg2 harg2 arg3 harg3 arg4 harg4 arg5 harg5 arg6 harg6 arg7 harg7) K

set_option maxHeartbeats 1000000 in
theorem runs_even (h1 : k0_cond1 i = 1#1) (h2 : ¬k0_cond2 i = 1#1) (h3 : k0_cond3 i = 1#1) :
    Runs c i arg2 harg2 arg3 harg3 arg4 harg4 arg5 harg5 arg6 harg6 arg7 harg7 x0 x1 x2 := by
  intro E K
  simp only [cc0_norm_proj_aux_eq_skeleton]; unfold cc0_norm_proj_aux_skel
  simp only [k0_part1_eq_skeleton, k0_part2_eq_skeleton, k0_part3_eq_skeleton]
  unfold held owns
  iintro ⟨⟨⟨%f0, %e0, H0⟩, ⟨%f1, %e1, H1⟩, ⟨%f2, %e2, H2⟩, ⟨%d3, %f3, -, H3⟩, ⟨%d4, %f4, -, H4⟩, ⟨%d5, %f5, -, H5⟩⟩, Hk⟩
  sl_exec (disch := first | sl_exact h1 | sl_exact h2 | sl_exact h3)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

set_option maxHeartbeats 1000000 in
theorem runs_odd (h1 : ¬k0_cond1 i = 1#1) (h2 : k0_cond2 i = 1#1) (h3 : ¬k0_cond3 i = 1#1) :
    Runs c i arg2 harg2 arg3 harg3 arg4 harg4 arg5 harg5 arg6 harg6 arg7 harg7 x0 x1 x2 := by
  intro E K
  simp only [cc0_norm_proj_aux_eq_skeleton]; unfold cc0_norm_proj_aux_skel
  simp only [k0_part4_eq_skeleton]
  unfold held owns
  iintro ⟨⟨⟨%f0, %e0, H0⟩, ⟨%f1, %e1, H1⟩, ⟨%f2, %e2, H2⟩, ⟨%d3, %f3, -, H3⟩, ⟨%d4, %f4, -, H4⟩, ⟨%d5, %f5, -, H5⟩⟩, Hk⟩
  sl_exec (disch := first | sl_exact h1 | sl_exact h2 | sl_exact h3)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

end Body

/-! ## The launch -/

/-- The two outputs' windows. -/
def unsaid : Fin 5 → Bool := fun w => decide (3 ≤ w.val)

/-- The arrays as the region finds them, and each input's block in its buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]

theorem rest_eq (c : Dev nD) : (Pipeline.ΦA spec0 c : sProp 𝕄)
    = iprop(iprop(∃ d, owns (c : Thread nD τ) (Memref.whole cc0_scratch0 : Memref sig .tc .vmem S1024x1024 .bf16) fullShare d)
      ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d) ∗ (∃ d, owns (c : Thread nD τ) (st0_4 t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ d, owns (c : Thread nD τ) (st0_3 t) fullShare d) ∗ (∃ d, owns (c : Thread nD τ) (st0_4 t) fullShare d))

theorem body (c : Dev nD) (t : Fin cfg0.N) :
    bodyPre m c t ⊢ wp frame (wpE (defs₀ (F := F)) Variants.none c none) Set.univ (bodyAt0 t) (fun _ => bodyPost m c t) := by
  have run : Runs c (grid0.coords t) (st0_0 t) (hstage0_0 ((cfg0.slots t 0).cast nbuf0_0)) (st0_1 t)
      (hstage0_1 ((cfg0.slots t 1).cast nbuf0_1)) (st0_2 t) (hstage0_2 ((cfg0.slots t 2).cast nbuf0_2)) (st0_3 t)
      (hstage0_3 ((cfg0.slots t 3).cast nbuf0_3)) (st0_4 t) (hstage0_4 ((cfg0.slots t 4).cast nbuf0_4))
      (Memref.whole cc0_scratch0) (Memref.isWhole_whole _) (iblk m c 0 t) (iblk m c 1 t) (iblk m c 2 t) := by
    by_cases h : t.val % 2 = 0
    · exact runs_even _ _ _ _ _ _ _ _ _ _ _ _ _ _ _ _ _ ((conds t).1 h).1 ((conds t).1 h).2.1 ((conds t).1 h).2.2
    · exact runs_odd _ _ _ _ _ _ _ _ _ _ _ _ _ _ _ _ _ ((conds t).2 h).1 ((conds t).2 h).2.1 ((conds t).2 h).2.2
  unfold bodyPre bodyPost bodyAt0
  simp only [before0_0_of m (dats m 0 c) (dats_A m c 0) (after_0 m c), before0_1_of m (dats m 0 c) (dats_A m c 1) (after_1 m c),
    before0_2_of m (dats m 0 c) (dats_A m c 2) (after_2 m c), leaves_0, leaves_1, leaves_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq]
  iintro ⟨⟨HS, Hg⟩, Ho, ⟨%d0, H0⟩, ⟨%d1, H1⟩, ⟨%d2, H2⟩, H3, H4⟩
  iapply (run Set.univ _)
  unfold held
  isplitl [H0 H1 H2 H3 H4 HS]
  · isplitl [H0]; · iexact H0
    isplitl [H1]; · iexact H1
    isplitl [H2]; · iexact H2
    isplitl [H3]; · iexact H3
    isplitl [H4]; · iexact H4
    iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unsaid := fun t => by
  rw [bigSep_W0, bigSep_W0, row]
  exact triple_restated (body m c t) rfl .rfl fun _ => .rfl

set_option backward.isDefEq.respectTransparency.types false in
theorem launch : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: the arguments are unchanged and the counters are zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (launch m ρ)

end Cert.Proof.ProjBits

end
-- ==== Proof.ProjClaims.lean ====
/- The projection's claims: the frames of its four programs, its named constant, and the algebraic claim. -/
module

public import proofs.«01_k».proof.Defs
public import proofs.«01_k».proof.Proof.ProjArray
public import proofs.«01_k».proof.Proof.ProjBits
public import proofs.«01_k».proof.Proof.Gen.Reference2
public import Idealize.ShloMosaic.Adequacy
public import Idealize.ShloMosaic.Init

@[expose] public section

set_option maxRecDepth 16384

noncomputable section

namespace Cert.Proof.Proj

open Idealize.ShloMosaic Idealize.ShloMosaic.TcCoe Idealize.SL.Sem

theorem frame_kernel : Cert.quiescent_Kernel2 := fun m ρ _ => ProjBits.quiet m ρ

theorem frame_ideal : Cert.quiescent_Kernel2Ideal := fun m ρ _ => quiet m ρ

theorem frame_ref : Cert.quiescent_Reference2Ideal := by
  intro m ρ _
  exact (θ_run Cert.Reference2Ideal.defs _ _).mono
    (fun r h => ⟨fun c => (h c).2, sem_eq_zero_of_no_sems (by decide) r.2⟩)
    (Cert.Reference2Ideal.Value.run (F := Ideal) m ρ)

set_option maxHeartbeats 4000000 in
theorem frame_ref_bits : Cert.quiescent_Reference2 := by
  intro m ρ _
  exact (θ_run Cert.Reference2.defs _ _).mono
    (fun r h => ⟨fun c => (h c).2, sem_eq_zero_of_no_sems (by decide) r.2⟩)
    (Cert.Reference2Ideal.Value.run (F := Bits) m ρ)

theorem preserves : Cert.preserves_Kernel2_Kernel2Ideal :=
  IdealRules.named_const.statement Cert.Kernel2Ideal.κ "neg_log2e" .f32 _ _ rfl

open Cert.Kernel2Ideal in
/-- What the launch leaves in the result array. -/
theorem result (m : (ℓ : Loc nD τ sig) → Buf (Elt Ideal) ℓ) (r : PUnit × MemSt nD τ sig (Elt Ideal)) (h : Done m r) (c : Dev nD) :
    r.2.mem ((c.tc : Thread nD τ).loc main_v14_0) = res m c :=
  (((dats m 0 c).toRForget_arrAt_iff (w := 3) (by decide) _ _).mp ((h c).1 3)).trans (final m c)

theorem algebraic : Cert.algebraic_Kernel2Ideal_Reference2Ideal := by
  intro m ρ m' ρ' hpre hag
  refine ⟨fun c => res m c, ?_, ?_⟩
  · exact (θ_run Cert.Kernel2Ideal.defs _ _).mono (fun r h c => ⟨result m r h.1 c, kept m r h.1 c⟩) (launch m ρ)
  · refine (θ_run Cert.Reference2Ideal.defs _ _).mono (fun r h c => ⟨(h c).1.trans ?_, (h c).2⟩)
      (Cert.Reference2Ideal.Value.run (F := Ideal) m' ρ')
    refine (ref_eq m' c).trans ?_
    show ordered (columns _ _ _) = ordered (columns _ _ _)
    rw [(hag c).1, (hag c).2.1, (hag c).2.2]

end Cert.Proof.Proj

end
-- ==== Proof.OutSpec.lean ====
/- The output projections over extended reals, entry by entry: the odd layer's with its gate and the final norm, and the
   even layer's over the two mixers. -/
module

public import proofs.«01_k».proof.Proof.ProjSpec
public import Idealize.ShloMosaic.Lib.Pointwise
public import Idealize.ShloMosaic.Lib.Writes
public import Idealize.ShloMosaic.Lib.WholeRead
public import Idealize.ShloMosaic.PureOps.Ideal

@[expose] public section

noncomputable section

namespace Cert.Proof.Out

open Idealize.ShloMosaic

/-- A residual row's entry with the gated attention's row against a column of weights. -/
def gated (x : EReal) (o g w : Fin 2048 → EReal) : EReal := x + ∑ k, o k * Proj.silu (g k) * w k

/-- The final norm of a row, at a column. -/
def normed (y : Fin 1024 → EReal) (C : Fin 1024) (f : EReal) : EReal := y C * Proj.gain y * f

/-- A residual row's entry with the two mixers' rows against the two halves of a column of weights. -/
def joined (x : EReal) (s a : Fin 1024 → EReal) (w : Fin 2048 → EReal) : EReal :=
  x + ∑ k, s k * w ⟨k.val, by omega⟩ + ∑ k, a k * w ⟨1024 + k.val, by omega⟩

theorem silu_of (p : EReal) :
    p * Ideal.div 1 (1 + FloatOps.exp2 (F := Ideal) (φ := .f32) (p * (((-1) * (Real.log 2)⁻¹ : ℝ) : EReal))) = Proj.silu p :=
  congrArg (fun e => p * Ideal.div 1 (1 + e)) (Proj.exp2_neg p)

theorem pair_eta {a b : ℕ} (x : (⟨2, ![a, b]⟩ : Shape).Idx) : x = ix2 (x 0) (x 1) :=
  funext fun i => by fin_cases i <;> rfl

/-- A load of a whole block is the block. -/
theorem whole_load {sig : RefSig} {sp : Space} {a b : ℕ} {e : EltTy} {arg : Memref sig .tc sp ⟨2, ![a, b]⟩ e} (harg : arg.IsWhole)
    (X : Vec Ideal ⟨2, ![a, b]⟩ e) (inb : ∀ i, (![0, 0] : Fin 2 → ℕ) i + (⟨2, ![a, b]⟩ : Shape).size i ≤ (⟨2, ![a, b]⟩ : Shape).size i) :
    View.readAt (Elt Ideal) arg.view (Rect.unit (s := ⟨2, ![a, b]⟩) ![0, 0] (⟨2, ![a, b]⟩ : Shape).size inb).toLoadRect
      (harg.unread X) = X := by
  funext y
  refine (harg.readAt_unread X _ _).trans (congrArg X (funext fun i => Fin.ext ?_))
  match i with
  | ⟨0, _⟩ => show 0 + 1 * (y 0).val = (y 0).val; omega
  | ⟨1, _⟩ => show 0 + 1 * (y 1).val = (y 1).val; omega

/-- A load of some rows of a whole buffer, at an entry. -/
theorem rows_load {sig : RefSig} {sp : Space} {a b n : ℕ} {e : EltTy} {arg : Memref sig .tc sp ⟨2, ![a, b]⟩ e} (harg : arg.IsWhole)
    (X : Vec Ideal ⟨2, ![a, b]⟩ e) (o : ℕ) (inb : ∀ i, (![o, 0] : Fin 2 → ℕ) i + (⟨2, ![n, b]⟩ : Shape).size i ≤ (⟨2, ![a, b]⟩ : Shape).size i)
    (r : Fin n) (c : Fin b) (h : o + r.val < a) :
    View.readAt (Elt Ideal) arg.view (Rect.unit (s := ⟨2, ![a, b]⟩) ![o, 0] (⟨2, ![n, b]⟩ : Shape).size inb).toLoadRect
      (harg.unread X) (ix2 r c) = X (ix2 ⟨o + r.val, h⟩ c) := by
  refine (harg.readAt_unread X _ _).trans (congrArg X (funext fun i => Fin.ext ?_))
  match i with
  | ⟨0, _⟩ => show o + 1 * r.val = o + r.val; omega
  | ⟨1, _⟩ => show 0 + 1 * c.val = c.val; omega

theorem zero_emb {a b : ℕ} (inb : ∀ i, (![0, 0] : Fin 2 → ℕ) i + (⟨2, ![a, b]⟩ : Shape).size i ≤ (⟨2, ![a, b]⟩ : Shape).size i)
    (y : (⟨2, ![a, b]⟩ : Shape).Idx) : (Rect.unit (s := ⟨2, ![a, b]⟩) ![0, 0] (⟨2, ![a, b]⟩ : Shape).size inb).emb y = y := by
  refine funext fun i => Fin.ext ?_
  match i with
  | ⟨0, _⟩ => show 0 + 1 * (y 0).val = (y 0).val; omega
  | ⟨1, _⟩ => show 0 + 1 * (y 1).val = (y 1).val; omega

/-- What a store of a whole buffer leaves is what it stored. -/
theorem whole_store {sig : RefSig} {κ : Kind} {sp : Space} {a b : ℕ} {e : EltTy} (v : View sig κ sp ⟨2, ![a, b]⟩ e) (f : v.ty.Contents (Elt Ideal))
    (inb : ∀ i, (![0, 0] : Fin 2 → ℕ) i + (⟨2, ![a, b]⟩ : Shape).size i ≤ (⟨2, ![a, b]⟩ : Shape).size i) (X : Vec Ideal ⟨2, ![a, b]⟩ e) :
    v.read (Elt Ideal) (v.writes (Elt Ideal) f [⟨Rect.unit (s := ⟨2, ![a, b]⟩) ![0, 0] (⟨2, ![a, b]⟩ : Shape).size inb, X⟩]) = X := by
  funext y
  conv_lhs => rw [← zero_emb inb y]
  exact View.read_writes_cons_emb v f (Rect.unit (s := ⟨2, ![a, b]⟩) ![0, 0] (⟨2, ![a, b]⟩ : Shape).size inb) X [] y

end Cert.Proof.Out

end
-- ==== Proof.OutFinalBlock.lean ====
/- What a point of the odd layer's output projection leaves in its block, entry by entry. The weights are kept in a
   buffer from the first point on. -/
module

public import proofs.«01_k».proof.Proof.OutSpec
public import proofs.«01_k».proof.Proof.Gen.Kernel3Ideal.Value
public import Idealize.ShloMosaic.Lib.VecWindow

@[expose] public section

set_option maxRecDepth 16384

noncomputable section

namespace Cert.Proof.OutFinal

open Idealize.ShloMosaic Idealize.ShloMosaic.TcCoe Cert.Kernel3Ideal Cert.Kernel3Ideal.Gen

theorem named_eq : (Named.named κ "neg_log2e" (φ := .f32) 0xBFB8AA3B#32 : Ideal .f32) = (((-1) * (Real.log 2)⁻¹ : ℝ) : EReal) := rfl

/-- A row's residual with its projection. -/
def sumRow (x : Vec Ideal S1024x1024 .f32) (g o : Vec Ideal S1024x2048 .bf16) (w : Vec Ideal S2048x1024 .bf16) (r d : Fin 1024) : EReal :=
  Out.gated (x (ix2 r d)) (fun k => o (ix2 r k)) (fun k => g (ix2 r k)) (fun k => w (ix2 k d))

theorem pay1_eq (w : Vec Ideal S2048x1024 .f32) : k0_pay1 (F := Ideal) w = w := by
  funext y
  rw [Out.pair_eta (a := 2048) (b := 1024) y]
  generalize y 0 = p
  generalize y 1 = q
  pointwise [k0_pay1]

theorem pay2_at (x : Vec Ideal S1024x1024 .f32) (g o : Vec Ideal S1024x2048 .bf16) (w : Vec Ideal S2048x1024 .bf16) (f : Vec Ideal S1x1024 .f32)
    (r C : Fin 1024) : k0_pay2 (F := Ideal) x g o w f (ix2 r C) = Out.normed (sumRow x g o w r) C (f (ix2 0 C)) := by
  pointwise [k0_pay2]
  simp only [named_eq]
  have e : ∀ d : Fin 1024, x (ix2 r d) + ∑ k : Fin 2048, o (ix2 r k) * (g (ix2 r k) * Ideal.div 1 (1 + FloatOps.exp2 (F := Ideal) (φ := .f32)
      (g (ix2 r k) * (((-1) * (Real.log 2)⁻¹ : ℝ) : EReal)))) * w (ix2 k d) = sumRow x g o w r d := fun d =>
    congrArg (x (ix2 r d) + ·) (Finset.sum_congr rfl fun k _ => by rw [Out.silu_of])
  simp only [e]
  rfl

variable (c : Dev nD) (i : grid0.Coords) (arg1 : Memref sig .tc .vmem S1024x2048 .bf16) (harg1 : arg1.IsWhole)
  (arg2 : Memref sig .tc .vmem S1024x2048 .bf16) (harg2 : arg2.IsWhole)
  (arg3 : Memref sig .tc .vmem S1024x1024 .f32) (harg3 : arg3.IsWhole)
  (arg4 : Memref sig .tc .vmem S2048x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S2048x1024 .bf16) (harg7 : arg7.IsWhole)
  (x0 x1 : Vec Ideal S1024x2048 .bf16) (x2 : Vec Ideal S1024x1024 .f32) (x3 : Vec Ideal S2048x1024 .f32) (x4 : Vec Ideal S1x1024 .f32)

theorem stored_first (h : cond0_0 i) :
    sout0_A_0 (F := Ideal) c i arg1 harg1 arg2 harg2 arg3 harg3 arg4 harg4 arg5 harg5 arg6 harg6 arg7 harg7 h x0 x1 x2 x3 x4 = x3 := by
  refine (Out.whole_store VS0_0 _ inb_S2048x1024_S2048x1024_0_0 _).trans ((pay1_eq _).trans ?_)
  exact Out.whole_load harg4 x3 inb_S2048x1024_S2048x1024_0_0

theorem read_first : kernelRun0_A.sl.v21 (F := Ideal) c arg4 harg4 arg7 x3 = x3 := by
  refine (View.readCov_full (Val := Elt Ideal) arg7.view inb_S2048x1024_S2048x1024_0_0 inb_S2048x1024_S2048x1024_0_0 _ []).trans ?_
  exact (pay1_eq _).trans (Out.whole_load harg4 x3 inb_S2048x1024_S2048x1024_0_0)

theorem left_first (h : cond0_0 i) :
    out0_A_5 (F := Ideal) c i arg1 harg1 arg2 harg2 arg3 harg3 arg4 harg4 arg5 harg5 arg6 harg6 arg7 harg7 h x0 x1 x2 x3 x4 =
      k0_pay2 x2 x1 x0 x3 x4 := by
  refine (Out.whole_store VO0_5 _ inb_S1024x1024_S1024x1024_0_0 _).trans ?_
  unfold kernelRun0_A.sl.r
  rw [read_first c arg4 harg4 arg7 x3]
  rw [Out.whole_load harg3 x2 inb_S1024x1024_S1024x1024_0_0, Out.whole_load harg2 x1 inb_S1024x2048_S1024x2048_0_0,
    Out.whole_load harg1 x0 inb_S1024x2048_S1024x2048_0_0, Out.whole_load harg5 x4 inb_S1x1024_S1x1024_0_0]

theorem left_later (h : ¬cond0_0 i) (xs : Vec Ideal S2048x1024 .bf16) :
    out0_B_5 (F := Ideal) c i arg1 harg1 arg2 harg2 arg3 harg3 arg4 harg4 arg5 harg5 arg6 harg6 arg7 harg7 h x0 x1 x2 x3 x4 xs =
      k0_pay2 x2 x1 x0 xs x4 := by
  refine (Out.whole_store VO0_5 _ inb_S1024x1024_S1024x1024_0_0 _).trans ?_
  unfold kernelRun0_B.sl.r
  rw [Out.whole_load harg3 x2 inb_S1024x1024_S1024x1024_0_0, Out.whole_load harg2 x1 inb_S1024x2048_S1024x2048_0_0,
    Out.whole_load harg1 x0 inb_S1024x2048_S1024x2048_0_0, Out.whole_load harg5 x4 inb_S1x1024_S1x1024_0_0,
    Out.whole_load harg7 xs inb_S2048x1024_S2048x1024_0_0]

variable (m : (ℓ : Loc nD τ sig) → Buf (Elt Ideal) ℓ)

/-- The weights' block is all of them, at every point. -/
theorem iblk3 (t : Fin cfg0.N) : (iblk m c 3 t : Vec Ideal S2048x1024 .f32) = V m c main_v7 := by
  refine funext fun y => congrArg (V m c main_v7) (funext fun a => Fin.ext ?_)
  match a with
  | ⟨0, _⟩ => show 0 * 2048 + 1 * (y 0).val = (y 0).val; omega
  | ⟨1, _⟩ => show 0 * 1024 + 1 * (y 1).val = (y 1).val; omega

/-- After every point the buffer holds the weights. -/
theorem kept_weights (n : ℕ) (hn : n < cfg0.N) : (outsAt0 m c n hn).2 = (V m c main_v7 : Vec Ideal S2048x1024 .f32) := by
  induction n with
  | zero =>
    rw [outsAt0_A m c ⟨0, hn⟩ (Nat.zero_mod _)]
    dsimp only
    rw [stored_first, iblk3]
  | succ n ih =>
    have h : ¬ (n + 1) % 16 = 0 := by have : n + 1 < 16 := hn; omega
    rw [outsAt0_B m c ⟨n + 1, hn⟩ h]
    dsimp only [sout0_B_0]
    exact ih _

/-- What a point leaves. -/
theorem left_eq (t : Fin cfg0.N) : (outsAt0 m c t.val t.isLt).1 =
    k0_pay2 (iblk m c 2 t) (iblk m c 1 t) (iblk m c 0 t) (V m c main_v7 : Vec Ideal S2048x1024 .f32) (iblk m c 4 t) := by
  by_cases h : t.val % 16 = 0
  · rw [outsAt0_A m c t h]
    dsimp only
    rw [left_first, iblk3]
  · rw [outsAt0_B m c t h]
    dsimp only
    rw [left_later, kept_weights]

end Cert.Proof.OutFinal

end
-- ==== Proof.OutFinalRef.lean ====
/- The odd layer's output projection: its reference, read at an entry. -/
module

public import proofs.«01_k».proof.Proof.OutSpec
public import proofs.«01_k».proof.Proof.ProjRef
public import proofs.«01_k».proof.Proof.Gen.Reference3Ideal.Run
public import Idealize.ShloMosaic.Lib.IdealHost

@[expose] public section

set_option maxRecDepth 16384

noncomputable section

namespace Cert.Proof.Out

open Idealize.ShloMosaic Idealize.ShloMosaic.TcCoe Cert.Reference3Ideal Cert.Reference3Ideal.Facts₀

/-- The attention's result or its gate, and the residual. -/
abbrev Wide := FVec Ideal S8x2048x2048 .f32
abbrev Acts := FVec Ideal S8x2048x1024 .f32
abbrev Wts := FVec Ideal S1x2048x1024 .f32
abbrev Gain := FVec Ideal S1024 .f32

def siluWide (g : Wide) : Wide :=
  mulf g (Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf g))))

/-- The residual with the projection of the gated attention. -/
def residual (o g : Wide) (x : Acts) (w : Wts) : Acts :=
  addf x (Host.dotGeneral dot_S8x2048x2048_S2048x1024_S8x2048x1024_2_0_01_1_n_n none (mulf o (siluWide g))
    (shapeCast _ w shapeCasts_S1x2048x1024_S2048x1024))

/-- The final norm, by rows. -/
def finalNorm (y : Acts) (f : Gain) : FVec Ideal S16384x1024 .f32 :=
  shapeCast _ (mulf (mulf y (broadcastInDim S8x2048x1024 ![0, 1, 2] bcast_S8x2048x1_S8x2048x1024_0_1_2 (Proj.invRoot y)))
    (broadcastInDim S8x2048x1024 ![0, 1, 2] bcast_S1x1x1024_S8x2048x1024_0_1_2
      (broadcastInDim S1x1x1024 ![2] bcast_S1024_S1x1x1024_2 f))) shapeCasts_S8x2048x1024_S16384x1024

theorem siluWide_at (g : Wide) (b : Fin 8) (r k : Fin 2048) : siluWide g (ix3 b r k) = Proj.silu (g (ix3 b r k)) := by
  pointwise [siluWide]; rfl

theorem residual_at (o g : Wide) (x : Acts) (w : Wts) (b : Fin 8) (r : Fin 2048) (C : Fin 1024) : residual o g x w (ix3 b r C) =
    gated (x (ix3 b r C)) (fun k => o (ix3 b r k)) (fun k => g (ix3 b r k)) (fun k => w (ix3 0 k C)) := by
  pointwise [residual]
  simp only [siluWide_at]
  rfl

theorem finalNorm_at (y : Acts) (f : Gain) (R : Fin 16384) (C : Fin 1024) : finalNorm y f (ix2 R C) =
    normed (fun d => y (ix3 ⟨R.val / 2048, by omega⟩ ⟨R.val % 2048, by omega⟩ d)) C (f (ix1 C)) := by
  pointwise [finalNorm]
  rw [Proj.invRoot_at]
  rfl

/-- The reference's result from its arguments. -/
abbrev lastOut (o g : Wide) (x : Acts) (w : Wts) (f : Gain) : FVec Ideal S16384x1024 .f32 := finalNorm (residual o g x w) f

/-- The reference at an entry. -/
theorem lastOut_at (o g : Wide) (x : Acts) (w : Wts) (f : Gain) (R : Fin 16384) (C : Fin 1024) : lastOut o g x w f (ix2 R C) =
    normed (fun d => gated (x (ix3 ⟨R.val / 2048, by omega⟩ ⟨R.val % 2048, by omega⟩ d))
      (fun k => o (ix3 ⟨R.val / 2048, by omega⟩ ⟨R.val % 2048, by omega⟩ k))
      (fun k => g (ix3 ⟨R.val / 2048, by omega⟩ ⟨R.val % 2048, by omega⟩ k)) (fun k => w (ix3 0 k d))) C (f (ix1 C)) := by
  refine (finalNorm_at _ _ _ _).trans ?_
  exact congrArg (fun y => normed y C (f (ix1 C))) (funext fun d => residual_at _ _ _ _ _ _ _)

end Cert.Proof.Out

end
-- ==== Proof.OutFinalArray.lean ====
/- The odd layer's output projection: its result array is the reference's function of the arguments. -/
module

public import proofs.«01_k».proof.Proof.OutFinalBlock
public import proofs.«01_k».proof.Proof.OutFinalRef

@[expose] public section

set_option maxRecDepth 16384

noncomputable section

namespace Cert.Proof.OutFinal

open Idealize.ShloMosaic Idealize.ShloMosaic.TcCoe Cert.Kernel3Ideal Cert.Kernel3Ideal.Facts₀
open Cert.Kernel3Ideal.Gen (V iblk flush0_5 dats outsAt0 k0_pay2)
open Out (Wide Acts Wts Gain)

/-! ## The operands -/

def wideRows (o : Wide) : Vec Ideal S16384x2048 .bf16 :=
  truncf .bf16 (shapeCast S16384x2048 o shapeCasts_S8x2048x2048_S16384x2048) bitsLt_bf16_f32

/-- The gate in the last 2048 of 8192 columns. -/
def gateRows (g : Wide) : Vec Ideal S16384x8192 .bf16 :=
  concatenate S16384x8192 1 [⟨S16384x6144, broadcastInDim S16384x6144 ![] bcast_S_S16384x6144 (constant (F := Ideal) S_ .bf16 0x0000#16)⟩,
    ⟨S16384x2048, wideRows g⟩] concatenates_S16384x6144_S16384x2048_S16384x8192_d1

def actRows (x : Acts) : Vec Ideal S16384x1024 .f32 := shapeCast S16384x1024 x shapeCasts_S8x2048x1024_S16384x1024
def matrix (w : Wts) : Vec Ideal S2048x1024 .f32 := shapeCast S2048x1024 w shapeCasts_S1x2048x1024_S2048x1024
def gainRow (f : Gain) : Vec Ideal S1x1024 .f32 := shapeCast S1x1024 f shapeCasts_S1024_S1x1024

theorem wideRows_at (o : Wide) (R : Fin 16384) (k : Fin 2048) :
    wideRows o (ix2 R k) = o (ix3 ⟨R.val / 2048, by omega⟩ ⟨R.val % 2048, by omega⟩ k) := by
  pointwise [wideRows]

theorem gateRows_at (g : Wide) (R : Fin 16384) (k : Fin 2048) :
    gateRows g (ix2 R ⟨6144 + k.val, by omega⟩) = g (ix3 ⟨R.val / 2048, by omega⟩ ⟨R.val % 2048, by omega⟩ k) := by
  pointwise [gateRows]
  exact wideRows_at g R k

theorem actRows_at (x : Acts) (R : Fin 16384) (d : Fin 1024) :
    actRows x (ix2 R d) = x (ix3 ⟨R.val / 2048, by omega⟩ ⟨R.val % 2048, by omega⟩ d) := by
  pointwise [actRows]

theorem matrix_at (w : Wts) (k : Fin 2048) (d : Fin 1024) : matrix w (ix2 k d) = w (ix3 0 k d) := by
  pointwise [matrix]

theorem gainRow_at (f : Gain) (z : Fin 1) (d : Fin 1024) : gainRow f (ix2 z d) = f (ix1 d) := by
  pointwise [gainRow]

variable (m : (ℓ : Loc nD τ sig) → Buf (Elt Ideal) ℓ) (c : Dev nD)

abbrev ao : Wide := m ((c.tc : Thread nD τ).loc main_arg0)
abbrev ag : Wide := m ((c.tc : Thread nD τ).loc main_arg1)
abbrev ax : Acts := m ((c.tc : Thread nD τ).loc main_arg2)
abbrev aw : Wts := m ((c.tc : Thread nD τ).loc main_arg3)
abbrev af : Gain := m ((c.tc : Thread nD τ).loc main_arg4)

theorem V_o : V m c main_v1 = wideRows (ao m c) := rfl
theorem V_g : V m c main_v5 = gateRows (ag m c) := rfl
theorem V_x : V m c main_v6 = actRows (ax m c) := rfl
theorem V_w : V m c main_v7 = matrix (aw m c) := rfl
theorem V_f : V m c main_v8 = gainRow (af m c) := rfl

/-! ## The blocks -/

theorem lt16 (t : Fin cfg0.N) : t.val < 16 := t.isLt

/-- A block's row among all rows. -/
def down (t : Fin cfg0.N) (r : Fin 1024) : Fin 16384 := ⟨t.val * 1024 + r.val, by have := lt16 t; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 3 :=
  (by decide +kernel : ∀ t : Fin grid0.N, win0_1.index t 0 = t.val ∧ win0_1.index t 1 = 3)
theorem index2 : ∀ t : Fin cfg0.N, win0_2.index t 0 = t.val ∧ win0_2.index t 1 = 0 :=
  (by decide +kernel : ∀ t : Fin grid0.N, win0_2.index t 0 = t.val ∧ win0_2.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem iblk0 (t : Fin cfg0.N) (r : Fin 1024) (k : Fin 2048) : (iblk m c 0 t : Vec Ideal S1024x2048 .bf16) (ix2 r k) =
    V m c main_v1 (ix2 (down t r) k) := by
  refine congrArg (V m c main_v1) (funext fun a => Fin.ext ?_)
  match a with
  | ⟨0, _⟩ =>
    show win0_0.index t 0 * 1024 + 1 * r.val = t.val * 1024 + r.val
    rw [(index0 t).1]; omega
  | ⟨1, _⟩ =>
    show win0_0.index t 1 * 2048 + 1 * k.val = k.val
    rw [(index0 t).2]; omega

theorem iblk1 (t : Fin cfg0.N) (r : Fin 1024) (k : Fin 2048) : (iblk m c 1 t : Vec Ideal S1024x2048 .bf16) (ix2 r k) =
    V m c main_v5 (ix2 (down t r) ⟨6144 + k.val, by omega⟩) := by
  refine congrArg (V m c main_v5) (funext fun a => Fin.ext ?_)
  match a with
  | ⟨0, _⟩ =>
    show win0_1.index t 0 * 1024 + 1 * r.val = t.val * 1024 + r.val
    rw [(index1 t).1]; omega
  | ⟨1, _⟩ =>
    show win0_1.index t 1 * 2048 + 1 * k.val = 6144 + k.val
    rw [(index1 t).2]; omega

theorem iblk2 (t : Fin cfg0.N) (r : Fin 1024) (d : Fin 1024) : (iblk m c 2 t : Vec Ideal S1024x1024 .f32) (ix2 r d) =
    V m c main_v6 (ix2 (down t r) d) := by
  refine congrArg (V m c main_v6) (funext fun a => Fin.ext ?_)
  match a with
  | ⟨0, _⟩ =>
    show win0_2.index t 0 * 1024 + 1 * r.val = t.val * 1024 + r.val
    rw [(index2 t).1]; omega
  | ⟨1, _⟩ =>
    show win0_2.index t 1 * 1024 + 1 * d.val = d.val
    rw [(index2 t).2]; omega

theorem iblk4 (t : Fin cfg0.N) : (iblk m c 4 t : Vec Ideal S1x1024 .f32) = V m c main_v8 := by
  refine funext fun y => congrArg (V m c main_v8) (funext fun a => Fin.ext ?_)
  match a with
  | ⟨0, _⟩ => show 0 * 1 + 1 * (y 0).val = (y 0).val; omega
  | ⟨1, _⟩ => show 0 * 1024 + 1 * (y 1).val = (y 1).val; omega

/-- The result array. -/
abbrev res : Buf (Elt Ideal) ((c.tc : Thread nD τ).loc main_v9) := Out.lastOut (ao m c) (ag m c) (ax m c) (aw m c) (af m c)

/-- What a point leaves in its block. -/
theorem block_val (t : Fin cfg0.N) (r C : Fin 1024) : (outsAt0 m c t.val t.isLt).1 (ix2 r C) = res m c (ix2 (down t r) C) := by
  rw [left_eq]
  refine (pay2_at _ _ _ _ _ r C).trans ((Out.lastOut_at _ _ _ _ _ (down t r) C).trans ?_).symm
  refine congrArg₂ (fun y f => Out.normed y C f) (funext fun d => ?_) ?_
  · unfold sumRow
    have hx : (iblk m c 2 t : Vec Ideal S1024x1024 .f32) (ix2 r d) = _ :=
      (iblk2 m c t r d).trans ((congrFun (V_x m c) _).trans (actRows_at (ax m c) _ _))
    have ho : ∀ k, (iblk m c 0 t : Vec Ideal S1024x2048 .bf16) (ix2 r k) = _ := fun k =>
      (iblk0 m c t r k).trans ((congrFun (V_o m c) _).trans (wideRows_at (ao m c) _ _))
    have hg : ∀ k, (iblk m c 1 t : Vec Ideal S1024x2048 .bf16) (ix2 r k) = _ := fun k =>
      (iblk1 m c t r k).trans ((congrFun (V_g m c) _).trans (gateRows_at (ag m c) _ _))
    have hw : ∀ k, (V m c main_v7 : Vec Ideal S2048x1024 .f32) (ix2 k d) = _ := fun k =>
      (congrFun (V_w m c) _).trans (matrix_at (aw m c) _ _)
    exact (congr (congr (congrArg₂ Out.gated hx (funext ho)) (funext hg)) (funext hw)).symm
  · exact ((congrFun (iblk4 m c t) _).trans ((congrFun (V_f m c) _).trans (gainRow_at (af m c) _ _))).symm

/-! ## The array -/

theorem cut_eq (t : Fin cfg0.N) (f : Vec Ideal S1024x1024 .f32) : (cfg0.win 5).cut (grid0.coords t) f = f := rfl

theorem read_eq (R : Vec Ideal S16384x1024 .f32) (t : Fin cfg0.N) (r k : Fin 1024) :
    (win0_5.blk t).view.read (Elt Ideal) R (ix2 r k) = R (ix2 (down t r) k) := by
  refine congrArg R (funext fun a => Fin.ext ?_)
  match a with
  | ⟨0, _⟩ =>
    show win0_5.index t 0 * 1024 + 1 * r.val = t.val * 1024 + r.val
    rw [(index5 t).1]; omega
  | ⟨1, _⟩ =>
    show win0_5.index t 1 * 1024 + 1 * k.val = k.val
    rw [(index5 t).2]; omega

theorem block_eq (f : Vec Ideal S1024x1024 .f32) (R : Vec Ideal S16384x1024 .f32) (t : Fin cfg0.N)
    (h : ∀ r k : Fin 1024, f (ix2 r k) = R (ix2 (down t r) k)) :
    (cfg0.win 5).cut (grid0.coords t) f = (win0_5.blk t).view.read (Elt Ideal) R := by
  rw [cut_eq]
  funext y
  obtain ⟨r, k, rfl⟩ : ∃ r k : Fin 1024, y = ix2 r k := ⟨_, _, Out.pair_eta (a := 1024) (b := 1024) y⟩
  exact (h r k).trans (read_eq R t r k).symm

theorem flushed_eq (t : Fin cfg0.N) : (dats m 0 c).flushed 5 t = (win0_5.blk t).view.read (Elt Ideal) (res m c) :=
  (Cert.Kernel3Ideal.Value.flushed5 m c t).trans (block_eq _ _ t (block_val m c t))

theorem mem_block (t : Fin cfg0.N) (i : S16384x1024.Idx) (h0 : t.val = (i 0).val / 1024) : i ∈ ((cfg0.win 5).blk t).view.set := by
  show i ∈ ((View.whole main_v9).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(index5 t).1]
    omega
  | ⟨1, _⟩ =>
    show win0_5.index t 1 * 1024 ≤ (i 1).val ∧ (i 1).val < win0_5.index t 1 * 1024 + 1024
    rw [(index5 t).2]
    have h1 : (i 1).val < 1024 := (i 1).isLt
    omega

theorem cover (i : S16384x1024.Idx) : ∃ t : Fin cfg0.N, (cfg0.win 5).flush t = true ∧ i ∈ ((cfg0.win 5).blk t).view.set := by
  have h0 : (i 0).val < 16384 := (i 0).isLt
  have ht : (i 0).val / 1024 < cfg0.N := by
    show (i 0).val / 1024 < 16
    omega
  exact ⟨⟨_, ht⟩, flush0_5 _, mem_block _ i rfl⟩

theorem final : (dats m 0 c).arrAt 5 cfg0.N = res m c :=
  (dats m 0 c).arrAt_eq_of_cover 5 (res m c) (fun t _ => flushed_eq m c t) cover

end Cert.Proof.OutFinal

end
-- ==== Proof.OutEven.lean ====
/- The even layer's output projection: its reference read at an entry, and what a point leaves in its block. The weights
   are kept in a buffer from the first point on. -/
module

public import proofs.«01_k».proof.Proof.OutSpec
public import proofs.«01_k».proof.Proof.Gen.Kernel4Ideal.Value
public import proofs.«01_k».proof.Proof.Gen.Reference4Ideal.Run
public import Idealize.ShloMosaic.Lib.VecWindow
public import Idealize.ShloMosaic.Lib.IdealHost

@[expose] public section

set_option maxRecDepth 16384

noncomputable section

namespace Cert.Proof.OutEven

open Idealize.ShloMosaic Idealize.ShloMosaic.TcCoe

section
open Cert.Reference4Ideal Cert.Reference4Ideal.Facts₀

abbrev Acts := FVec Ideal S8x2048x1024 .f32
abbrev Wts := FVec Ideal S1x2048x1024 .f32

/-- The reference's result from its arguments. -/
def evenOut (s a x : Acts) (w : Wts) : FVec Ideal S16384x1024 .f32 :=
  shapeCast _ (addf x (Host.dotGeneral dot_S8x2048x2048_S2048x1024_S8x2048x1024_2_0_01_1_n_n none
    (concatenate S8x2048x2048 2 [⟨S8x2048x1024, s⟩, ⟨S8x2048x1024, a⟩] concatenates_S8x2048x1024_S8x2048x1024_S8x2048x2048_d2)
    (shapeCast _ w shapeCasts_S1x2048x1024_S2048x1024))) shapeCasts_S8x2048x1024_S16384x1024

/-- The reference at an entry. -/
theorem evenOut_at (s a x : Acts) (w : Wts) (R : Fin 16384) (C : Fin 1024) : evenOut s a x w (ix2 R C) =
    Out.joined (x (ix3 ⟨R.val / 2048, by omega⟩ ⟨R.val % 2048, by omega⟩ C)) (fun k => s (ix3 ⟨R.val / 2048, by omega⟩ ⟨R.val % 2048, by omega⟩ k))
      (fun k => a (ix3 ⟨R.val / 2048, by omega⟩ ⟨R.val % 2048, by omega⟩ k)) (fun k => w (ix3 0 k C)) := by
  pointwise [evenOut]
  exact (add_assoc _ _ _).symm

end

open Cert.Kernel4Ideal Cert.Kernel4Ideal.Gen

theorem pay1_eq (w : Vec Ideal S2048x1024 .f32) : k0_pay1 (F := Ideal) w = w := by
  funext y
  rw [Out.pair_eta (a := 2048) (b := 1024) y]
  generalize y 0 = p
  generalize y 1 = q
  pointwise [k0_pay1]

theorem pay2_at (x : Vec Ideal S1024x1024 .f32) (s w a u : Vec Ideal S1024x1024 .bf16) (W : Fin 2048 → EReal) (r C : Fin 1024)
    (hw : ∀ k : Fin 1024, w (ix2 k C) = W ⟨k.val, by omega⟩) (hu : ∀ k : Fin 1024, u (ix2 k C) = W ⟨1024 + k.val, by omega⟩) :
    k0_pay2 (F := Ideal) x s w a u (ix2 r C) = Out.joined (x (ix2 r C)) (fun k => s (ix2 r k)) (fun k => a (ix2 r k)) W := by
  pointwise [k0_pay2]
  simp only [hw, hu]
  rfl

variable (c : Dev nD) (i : grid0.Coords) (arg1 : Memref sig .tc .vmem S1024x1024 .bf16) (harg1 : arg1.IsWhole)
  (arg2 : Memref sig .tc .vmem S1024x1024 .bf16) (harg2 : arg2.IsWhole)
  (arg3 : Memref sig .tc .vmem S1024x1024 .f32) (harg3 : arg3.IsWhole)
  (arg4 : Memref sig .tc .vmem S2048x1024 .f32) (harg4 : arg4.IsWhole)
  (arg5 : Memref sig .tc .vmem S1024x1024 .f32) (harg5 : arg5.IsWhole)
  (arg6 : Memref sig .tc .vmem S2048x1024 .bf16) (harg6 : arg6.IsWhole)
  (x0 x1 : Vec Ideal S1024x1024 .bf16) (x2 : Vec Ideal S1024x1024 .f32) (x3 : Vec Ideal S2048x1024 .f32)

theorem stored_first (h : cond0_0 i) :
    sout0_A_0 (F := Ideal) c i arg1 harg1 arg2 harg2 arg3 harg3 arg4 harg4 arg5 harg5 arg6 harg6 h x0 x1 x2 x3 = x3 := by
  refine (Out.whole_store VS0_0 _ inb_S2048x1024_S2048x1024_0_0 _).trans ((pay1_eq _).trans ?_)
  exact Out.whole_load harg4 x3 inb_S2048x1024_S2048x1024_0_0

theorem filled (f) : arg6.view.read (Elt Ideal) (arg6.view.writes (Elt Ideal) f (kernelRun0_A.sl.HS0_1 (F := Ideal) c arg4 harg4 x3)) = x3 := by
  refine (Out.whole_store arg6.view f inb_S2048x1024_S2048x1024_0_0 _).trans ((pay1_eq _).trans ?_)
  exact Out.whole_load harg4 x3 inb_S2048x1024_S2048x1024_0_0

theorem read_upper (k C : Fin 1024) : kernelRun0_A.sl.v7 (F := Ideal) c arg4 harg4 arg6 x3 (ix2 k C) = x3 (ix2 ⟨k.val, by omega⟩ C) := by
  refine (congrFun (filled c arg4 harg4 arg6 x3 _) _).trans (congrArg x3 (funext fun a => Fin.ext ?_))
  match a with
  | ⟨0, _⟩ => show 0 + 1 * k.val = k.val; omega
  | ⟨1, _⟩ => show 0 + 1 * C.val = C.val; omega

theorem read_lower (k C : Fin 1024) : kernelRun0_A.sl.v12 (F := Ideal) c arg4 harg4 arg6 x3 (ix2 k C) = x3 (ix2 ⟨1024 + k.val, by omega⟩ C) := by
  refine (congrFun (filled c arg4 harg4 arg6 x3 _) _).trans (congrArg x3 (funext fun a => Fin.ext ?_))
  match a with
  | ⟨0, _⟩ => show 1024 + 1 * k.val = 1024 + k.val; omega
  | ⟨1, _⟩ => show 0 + 1 * C.val = C.val; omega

/-- A block's entry from the other blocks and the weights. -/
def blk (x0 x1 : Vec Ideal S1024x1024 .bf16) (x2 : Vec Ideal S1024x1024 .f32) (w : Vec Ideal S2048x1024 .bf16) (r C : Fin 1024) : EReal :=
  Out.joined (x2 (ix2 r C)) (fun k => x0 (ix2 r k)) (fun k => x1 (ix2 r k)) (fun k => w (ix2 k C))

theorem left_first (h : cond0_0 i) (r C : Fin 1024) :
    out0_A_4 (F := Ideal) c i arg1 harg1 arg2 harg2 arg3 harg3 arg4 harg4 arg5 harg5 arg6 harg6 h x0 x1 x2 x3 (ix2 r C) = blk x0 x1 x2 x3 r C := by
  refine (congrFun (Out.whole_store VO0_4 _ inb_S1024x1024_S1024x1024_0_0 _) _).trans ?_
  rw [Out.whole_load harg3 x2 inb_S1024x1024_S1024x1024_0_0, Out.whole_load harg2 x1 inb_S1024x1024_S1024x1024_0_0,
    Out.whole_load harg1 x0 inb_S1024x1024_S1024x1024_0_0]
  exact pay2_at x2 x0 _ x1 _ (fun k => x3 (ix2 k C)) r C (fun k => read_upper c arg4 harg4 arg6 x3 k C)
    (fun k => read_lower c arg4 harg4 arg6 x3 k C)

theorem left_later (h : ¬cond0_0 i) (xs : Vec Ideal S2048x1024 .bf16) (r C : Fin 1024) :
    out0_B_4 (F := Ideal) c i arg1 harg1 arg2 harg2 arg3 harg3 arg4 harg4 arg5 harg5 arg6 harg6 h x0 x1 x2 x3 xs (ix2 r C) = blk x0 x1 x2 xs r C := by
  refine (congrFun (Out.whole_store VO0_4 _ inb_S1024x1024_S1024x1024_0_0 _) _).trans ?_
  rw [Out.whole_load harg3 x2 inb_S1024x1024_S1024x1024_0_0, Out.whole_load harg2 x1 inb_S1024x1024_S1024x1024_0_0,
    Out.whole_load harg1 x0 inb_S1024x1024_S1024x1024_0_0]
  refine pay2_at x2 x0 _ x1 _ (fun k => xs (ix2 k C)) r C (fun k => ?_)
    (fun k => Out.rows_load harg6 xs 1024 inb_S2048x1024_S1024x1024_1024_0 k C (by omega))
  refine (Out.rows_load harg6 xs 0 inb_S2048x1024_S1024x1024_0_0 k C (by omega)).trans ?_
  exact congrArg (fun j => xs (ix2 j C)) (Fin.ext (Nat.zero_add _))

variable (m : (ℓ : Loc nD τ sig) → Buf (Elt Ideal) ℓ)

/-- The weights' block is all of them, at every point. -/
theorem iblk3 (t : Fin cfg0.N) : (iblk m c 3 t : Vec Ideal S2048x1024 .f32) = V m c main_v5 := by
  refine funext fun y => congrArg (V m c main_v5) (funext fun a => Fin.ext ?_)
  match a with
  | ⟨0, _⟩ => show 0 * 2048 + 1 * (y 0).val = (y 0).val; omega
  | ⟨1, _⟩ => show 0 * 1024 + 1 * (y 1).val = (y 1).val; omega

/-- After every point the buffer holds the weights. -/
theorem kept_weights (n : ℕ) (hn : n < cfg0.N) : (outsAt0 m c n hn).2 = (V m c main_v5 : Vec Ideal S2048x1024 .f32) := by
  induction n with
  | zero =>
    rw [outsAt0_A m c ⟨0, hn⟩ (Nat.zero_mod _)]
    dsimp only
    rw [stored_first, iblk3]
  | succ n ih =>
    have h : ¬ (n + 1) % 16 = 0 := by have : n + 1 < 16 := hn; omega
    rw [outsAt0_B m c ⟨n + 1, hn⟩ h]
    dsimp only [sout0_B_0]
    exact ih _

/-- What a point leaves. -/
theorem left_at (t : Fin cfg0.N) (r C : Fin 1024) : (outsAt0 m c t.val t.isLt).1 (ix2 r C) =
    blk (iblk m c 0 t) (iblk m c 1 t) (iblk m c 2 t) (V m c main_v5 : Vec Ideal S2048x1024 .f32) r C := by
  by_cases h : t.val % 16 = 0
  · rw [outsAt0_A m c t h]
    dsimp only
    rw [left_first, iblk3]
  · rw [outsAt0_B m c t h]
    dsimp only
    rw [left_later, kept_weights]

end Cert.Proof.OutEven

end
-- ==== Proof.OutEvenArray.lean ====
/- The even layer's output projection: its result array is the reference's function of the arguments. -/
module

public import proofs.«01_k».proof.Proof.OutEven

@[expose] public section

set_option maxRecDepth 16384

noncomputable section

namespace Cert.Proof.OutEven

open Idealize.ShloMosaic Idealize.ShloMosaic.TcCoe Cert.Kernel4Ideal Cert.Kernel4Ideal.Facts₀
open Cert.Kernel4Ideal.Gen (V iblk flush0_4 dats outsAt0)

/-! ## The operands -/

def actRows (x : Acts) : FVec Ideal S16384x1024 .f32 := shapeCast S16384x1024 x shapeCasts_S8x2048x1024_S16384x1024
def mixerRows (x : Acts) : FVec Ideal S16384x1024 .bf16 := truncf (F := Ideal) .bf16 (actRows x) bitsLt_bf16_f32
def matrix (w : Wts) : Vec Ideal S2048x1024 .f32 := shapeCast S2048x1024 w shapeCasts_S1x2048x1024_S2048x1024

theorem actRows_at (x : Acts) (R : Fin 16384) (d : Fin 1024) :
    actRows x (ix2 R d) = x (ix3 ⟨R.val / 2048, by omega⟩ ⟨R.val % 2048, by omega⟩ d) := by
  pointwise [actRows]

theorem mixerRows_at (x : Acts) (R : Fin 16384) (d : Fin 1024) :
    mixerRows x (ix2 R d) = x (ix3 ⟨R.val / 2048, by omega⟩ ⟨R.val % 2048, by omega⟩ d) := actRows_at x R d

theorem matrix_at (w : Wts) (k : Fin 2048) (d : Fin 1024) : matrix w (ix2 k d) = w (ix3 0 k d) := by
  pointwise [matrix]

variable (m : (ℓ : Loc nD τ sig) → Buf (Elt Ideal) ℓ) (c : Dev nD)

abbrev ay : Acts := m ((c.tc : Thread nD τ).loc main_arg0)
abbrev aa : Acts := m ((c.tc : Thread nD τ).loc main_arg1)
abbrev ax : Acts := m ((c.tc : Thread nD τ).loc main_arg2)
abbrev aw : Wts := m ((c.tc : Thread nD τ).loc main_arg3)

theorem V_s : V m c main_v1 = mixerRows (ay m c) := rfl
theorem V_a : V m c main_v3 = mixerRows (aa m c) := rfl
theorem V_x : V m c main_v4 = actRows (ax m c) := rfl
theorem V_w : V m c main_v5 = matrix (aw m c) := rfl

/-! ## The blocks -/

/-- A block's row among all rows. -/
def down (t : Fin cfg0.N) (r : Fin 1024) : Fin 16384 :=
  ⟨t.val * 1024 + r.val, by have h : t.val < 16 := t.isLt; omega⟩

/-- Each of the four windows that move takes the point's rows. -/
theorem index_rows : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ win0_4.index t 0 = t.val ∧ win0_4.index t 1 = 0 :=
  (by decide +kernel : ∀ t : Fin grid0.N, (win0_0.index t 0 = t.val ∧ win0_0.index t 1 = 0) ∧ (win0_1.index t 0 = t.val ∧ win0_1.index t 1 = 0) ∧
    (win0_2.index t 0 = t.val ∧ win0_2.index t 1 = 0) ∧ win0_4.index t 0 = t.val ∧ win0_4.index t 1 = 0)

/-- An array at the place in a block of rows. -/
theorem at_rows {e : EltTy} (X : Vec Ideal S16384x1024 e) (t : Fin cfg0.N) (r d : Fin 1024) (i0 i1 : ℕ) (h0 : i0 = t.val) (h1 : i1 = 0)
    (x : S16384x1024.Idx) (hx0 : (x 0).val = i0 * 1024 + 1 * r.val) (hx1 : (x 1).val = i1 * 1024 + 1 * d.val) :
    X x = X (ix2 (down t r) d) := by
  subst h0 h1
  refine congrArg X (funext fun a => Fin.ext ?_)
  match a with
  | ⟨0, _⟩ => exact hx0.trans (by show t.val * 1024 + 1 * r.val = t.val * 1024 + r.val; omega)
  | ⟨1, _⟩ => exact hx1.trans (by show 0 * 1024 + 1 * d.val = d.val; omega)

theorem iblk0 (t : Fin cfg0.N) (r d : Fin 1024) : (iblk m c 0 t : Vec Ideal S1024x1024 .bf16) (ix2 r d) = V m c main_v1 (ix2 (down t r) d) :=
  at_rows (e := .bf16) (V m c main_v1) t r d _ _ (index_rows t).1.1 (index_rows t).1.2 _ rfl rfl

theorem iblk1 (t : Fin cfg0.N) (r d : Fin 1024) : (iblk m c 1 t : Vec Ideal S1024x1024 .bf16) (ix2 r d) = V m c main_v3 (ix2 (down t r) d) :=
  at_rows (e := .bf16) (V m c main_v3) t r d _ _ (index_rows t).2.1.1 (index_rows t).2.1.2 _ rfl rfl

theorem iblk2 (t : Fin cfg0.N) (r d : Fin 1024) : (iblk m c 2 t : Vec Ideal S1024x1024 .f32) (ix2 r d) = V m c main_v4 (ix2 (down t r) d) :=
  at_rows (e := .f32) (V m c main_v4) t r d _ _ (index_rows t).2.2.1.1 (index_rows t).2.2.1.2 _ rfl rfl

/-- The result array. -/
abbrev res : Buf (Elt Ideal) ((c.tc : Thread nD τ).loc main_v6) := evenOut (ay m c) (aa m c) (ax m c) (aw m c)

/-- What a point leaves in its block. -/
theorem block_val (t : Fin cfg0.N) (r C : Fin 1024) : (outsAt0 m c t.val t.isLt).1 (ix2 r C) = res m c (ix2 (down t r) C) := by
  rw [left_at]
  refine ((evenOut_at _ _ _ _ (down t r) C).trans ?_).symm
  unfold blk
  have hs : ∀ k, (iblk m c 0 t : Vec Ideal S1024x1024 .bf16) (ix2 r k) = _ := fun k =>
    (iblk0 m c t r k).trans ((congrFun (V_s m c) _).trans (mixerRows_at (ay m c) _ _))
  have ha : ∀ k, (iblk m c 1 t : Vec Ideal S1024x1024 .bf16) (ix2 r k) = _ := fun k =>
    (iblk1 m c t r k).trans ((congrFun (V_a m c) _).trans (mixerRows_at (aa m c) _ _))
  have hx : (iblk m c 2 t : Vec Ideal S1024x1024 .f32) (ix2 r C) = _ :=
    (iblk2 m c t r C).trans ((congrFun (V_x m c) _).trans (actRows_at (ax m c) _ _))
  have hw : ∀ k, (V m c main_v5 : Vec Ideal S2048x1024 .f32) (ix2 k C) = _ := fun k =>
    (congrFun (V_w m c) _).trans (matrix_at (aw m c) _ _)
  exact (congr (congr (congrArg₂ Out.joined hx (funext hs)) (funext ha)) (funext hw)).symm

/-! ## The array -/

theorem flushed_eq (t : Fin cfg0.N) : (dats m 0 c).flushed 4 t = (win0_4.blk t).view.read (Elt Ideal) (res m c) := by
  refine (Cert.Kernel4Ideal.Value.flushed4 m c t).trans ?_
  generalize res m c = R, (outsAt0 m c t.val t.isLt).1 = f, block_val m c t = h
  funext y
  obtain ⟨r, k, rfl⟩ : ∃ r k : Fin 1024, y = ix2 r k := ⟨_, _, Out.pair_eta (a := 1024) (b := 1024) y⟩
  exact (h r k).trans (at_rows (e := .f32) R t r k _ _ (index_rows t).2.2.2.1 (index_rows t).2.2.2.2 _ rfl rfl).symm

theorem cover (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  obtain ⟨t, ht⟩ : ∃ t : Fin cfg0.N, t.val = (i 0).val / 1024 :=
    ⟨⟨_, by show (i 0).val / 1024 < 16; omega⟩, rfl⟩
  refine ⟨t, flush0_4 t, ?_⟩
  show i ∈ ((View.whole main_v6).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(index_rows t).2.2.2.1]
    omega
  | ⟨1, _⟩ =>
    show win0_4.index t 1 * 1024 ≤ (i 1).val ∧ (i 1).val < win0_4.index t 1 * 1024 + 1024
    rw [(index_rows t).2.2.2.2]
    omega

theorem final : (dats m 0 c).arrAt 4 cfg0.N = res m c :=
  (dats m 0 c).arrAt_eq_of_cover 4 (res m c) (fun t _ => flushed_eq m c t) cover

end Cert.Proof.OutEven

end
-- ==== Proof.OutClaims.lean ====
/- The output projections' claims: for each of the two calls the frames of its four programs and the algebraic claim, and
   the odd layer's named constant. -/
module

public import proofs.«01_k».proof.Defs
public import proofs.«01_k».proof.Proof.OutFinalArray
public import proofs.«01_k».proof.Proof.OutEvenArray
public import proofs.«01_k».proof.Proof.Gen.Kernel3.Frame
public import proofs.«01_k».proof.Proof.Gen.Kernel4.Frame
public import proofs.«01_k».proof.Proof.Gen.Reference3
public import proofs.«01_k».proof.Proof.Gen.Reference4
public import Idealize.ShloMosaic.Adequacy
public import Idealize.ShloMosaic.Init

@[expose] public section

set_option maxRecDepth 16384

noncomputable section

namespace Cert.Proof.OutFinal

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ref : Cert.quiescent_Reference3Ideal := by
  intro m ρ _
  exact (θ_run Cert.Reference3Ideal.defs _ _).mono
    (fun r h => ⟨fun c => (h c).2, sem_eq_zero_of_no_sems (by decide) r.2⟩)
    (Cert.Reference3Ideal.Value.run (F := Ideal) m ρ)

set_option maxHeartbeats 4000000 in
theorem frame_ref_bits : Cert.quiescent_Reference3 := by
  intro m ρ _
  exact (θ_run Cert.Reference3.defs _ _).mono
    (fun r h => ⟨fun c => (h c).2, sem_eq_zero_of_no_sems (by decide) r.2⟩)
    (Cert.Reference3Ideal.Value.run (F := Bits) m ρ)

theorem preserves : Cert.preserves_Kernel3_Kernel3Ideal :=
  IdealRules.named_const.statement Cert.Kernel3Ideal.κ "neg_log2e" .f32 _ _ rfl

theorem algebraic : Cert.algebraic_Kernel3Ideal_Reference3Ideal := by
  intro m ρ m' ρ' hpre hag
  refine ⟨fun c => res m c, ?_, ?_⟩
  · exact (θ_run Cert.Kernel3Ideal.defs _ _).mono (fun r h c => ⟨(h c).1.trans (final m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run (F := Ideal) m' ρ')
    show Out.lastOut _ _ _ _ _ = Out.lastOut _ _ _ _ _
    rw [(hag c).1, (hag c).2.1, (hag c).2.2.1, (hag c).2.2.2.1, (hag c).2.2.2.2]

end Cert.Proof.OutFinal

namespace Cert.Proof.OutEven

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ref : Cert.quiescent_Reference4Ideal := by
  intro m ρ _
  exact (θ_run Cert.Reference4Ideal.defs _ _).mono
    (fun r h => ⟨fun c => (h c).2, sem_eq_zero_of_no_sems (by decide) r.2⟩)
    (Cert.Reference4Ideal.Value.run (F := Ideal) m ρ)

theorem frame_ref_bits : Cert.quiescent_Reference4 := by
  intro m ρ _
  exact (θ_run Cert.Reference4.defs _ _).mono
    (fun r h => ⟨fun c => (h c).2, sem_eq_zero_of_no_sems (by decide) r.2⟩)
    (Cert.Reference4Ideal.Value.run (F := Bits) m ρ)

theorem algebraic : Cert.algebraic_Kernel4Ideal_Reference4Ideal := by
  intro m ρ m' ρ' hpre hag
  refine ⟨fun c => res m c, ?_, ?_⟩
  · exact (θ_run Cert.Kernel4Ideal.defs _ _).mono (fun r h c => ⟨(h c).1.trans (final m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    show evenOut _ _ _ _ = evenOut _ _ _ _
    rw [(hag c).1, (hag c).2.1, (hag c).2.2.1, (hag c).2.2.2]

end Cert.Proof.OutEven

end
-- ==== Proof.PhaseRun.lean ====
/- The odd layer's norm and projection at the ideal types: what the kernel's body does at a point of its grid. A
   sequence's first point stores the norm of its rows in both scratch buffers, its third reads them back phase by phase,
   and the other points multiply what the scratch holds. -/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Phase

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Which branch a point takes -/

/-- A sequence's first point. -/
structure First (i : grid0.Coords) : Prop where
  one : k0_cond1 i = 1#1
  two : ¬k0_cond2 i = 1#1
  three : ¬k0_cond3 i = 1#1

/-- Its third: it reads the norm phase by phase. -/
structure Turn (i : grid0.Coords) : Prop where
  one : ¬k0_cond1 i = 1#1
  two : k0_cond2 i = 1#1
  three : ¬k0_cond3 i = 1#1

/-- Any other: it multiplies only. -/
structure Later (i : grid0.Coords) : Prop where
  one : ¬k0_cond1 i = 1#1
  two : ¬k0_cond2 i = 1#1
  three : k0_cond3 i = 1#1

theorem conds (t : Fin cfg0.N) : (k0_cond1 (grid0.coords t) = 1#1 ↔ t.val % 8 = 0)
    ∧ (k0_cond2 (grid0.coords t) = 1#1 ↔ t.val % 8 = 2)
    ∧ (k0_cond3 (grid0.coords t) = 1#1 ↔ t.val % 8 ≠ 0 ∧ t.val % 8 ≠ 2) := by
  revert t
  exact (by decide +kernel : ∀ t : Fin grid0.N, (k0_cond1 (grid0.coords t) = 1#1 ↔ t.val % 8 = 0)
    ∧ (k0_cond2 (grid0.coords t) = 1#1 ↔ t.val % 8 = 2)
    ∧ (k0_cond3 (grid0.coords t) = 1#1 ↔ t.val % 8 ≠ 0 ∧ t.val % 8 ≠ 2))

theorem first_of (t : Fin cfg0.N) (h : t.val % 8 = 0) : First (grid0.coords t) :=
  ⟨(conds t).1.mpr h, fun e => by have := (conds t).2.1.mp e; omega, fun e => ((conds t).2.2.mp e).1 h⟩

theorem turn_of (t : Fin cfg0.N) (h : t.val % 8 = 2) : Turn (grid0.coords t) :=
  ⟨fun e => by have := (conds t).1.mp e; omega, (conds t).2.1.mpr h, fun e => ((conds t).2.2.mp e).2 h⟩

theorem later_of (t : Fin cfg0.N) (h : t.val % 8 ≠ 0) (h' : t.val % 8 ≠ 2) : Later (grid0.coords t) :=
  ⟨fun e => h ((conds t).1.mp e), fun e => h' ((conds t).2.1.mp e), (conds t).2.2.mpr ⟨h, h'⟩⟩

/-! ## The body on any whole buffers -/

section Body

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Vec F S2048x1024 .f32) (x1 : Vec F S1024x1024 .bf16) (s0 : Vec F S2x2048x1024 .bf16) (s1 : Vec F S8x2048x128 .f32)

/-- The pieces a point stores: to its block, to the rows' scratch, and to the chunks' scratch. -/
structure Stores (F : FTy → Type) [FloatOps F] where
  block : List (View.Piece (Elt F) S2048x1024 .bf16)
  rows : List (View.Piece (Elt F) S2x2048x1024 .bf16)
  chunks : List (View.Piece (Elt F) S8x2048x128 .f32)

/-- The body leaves its inputs as they were and writes the pieces `L` over what was there. -/
def Leaves (L : Stores F) : Prop :=
  ∀ (E : Set ℕ) (K : PUnit → sProp 𝕄),
    iprop(owns (c : Thread nD τ) arg2 fullShare x0 ∗ owns (c : Thread nD τ) arg3 fullShare x1
        ∗ (∃ d, owns (c : Thread nD τ) arg4 fullShare d)
        ∗ owns (c : Thread nD τ) arg5 fullShare s0 ∗ owns (c : Thread nD τ) arg6 fullShare s1
        ∗ (iprop(owns (c : Thread nD τ) arg2 fullShare x0 ∗ owns (c : Thread nD τ) arg3 fullShare x1
            ∗ (∃ f, arg4.view.loc (c : Thread nD τ) ↦[arg4.view.set]{fullShare} arg4.view.writes (Elt F) f L.block)
            ∗ (arg5.view.loc (c : Thread nD τ) ↦[arg5.view.set]{fullShare} arg5.view.writes (Elt F) (harg5.unread s0) L.rows)
            ∗ (arg6.view.loc (c : Thread nD τ) ↦[arg6.view.set]{fullShare} arg6.view.writes (Elt F) (harg6.unread s1) L.chunks)) -∗ K ⟨⟩))
      ⊢ wp frame (wpE (defs₀ (F := F)) Variants.none c none) E
          (cc0_norm_proj i arg2 harg2 arg3 harg3 arg4 harg4 arg5 harg5 arg6 harg6) K

set_option maxHeartbeats 1000000 in
/-- The pieces a point that only multiplies stores. -/
def laterRun (h : Later i) : { L : Stores F //
    Leaves c i arg2 harg2 arg3 harg3 arg4 harg4 arg5 harg5 arg6 harg6 x0 x1 s0 s1 L } := by
  have h1 := h.one; have h2 := h.two; have h3 := h.three
  refine ⟨⟨?_, [], []⟩, fun E K => ?run⟩
  case run =>
    simp only [cc0_norm_proj_eq_skeleton]; unfold cc0_norm_proj_skel
    simp only [k0_part22_eq_skeleton]
    unfold owns
    iintro ⟨⟨%f0, %e0, H0⟩, ⟨%f1, %e1, H1⟩, ⟨%d2, %f2, -, H2⟩, ⟨%f3, %e3, H3⟩, ⟨%f4, %e4, H4⟩, Hk⟩
    obtain rfl := harg2.eq_unread e0; obtain rfl := harg3.eq_unread e1
    obtain rfl := harg5.eq_unread e3; obtain rfl := harg6.eq_unread e4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexact H3
    iexact H4

end Body

end Cert.Proof.Phase

end
-- ==== Proof.PhaseFirst.lean ====
/- A sequence's first point: it stores the norm of its rows and their product with its columns of the weights. -/
module

public import proofs.«01_k».proof.Proof.PhaseRun

@[expose] public section

set_option maxRecDepth 16384

noncomputable section

namespace Cert.Proof.Phase

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Vec F S2048x1024 .f32) (x1 : Vec F S1024x1024 .bf16) (s0 : Vec F S2x2048x1024 .bf16) (s1 : Vec F S8x2048x128 .f32)

set_option maxHeartbeats 4000000 in
/-- The pieces it stores. -/
def firstRun (h : First i) : { L : Stores F //
    Leaves c i arg2 harg2 arg3 harg3 arg4 harg4 arg5 harg5 arg6 harg6 x0 x1 s0 s1 L } := by
  have h1 := h.one; have h2 := h.two; have h3 := h.three
  refine ⟨⟨?_, ?_, ?_⟩, fun E K => ?run⟩
  case run =>
    simp only [cc0_norm_proj_eq_skeleton]; unfold cc0_norm_proj_skel
    simp only [k0_part1_eq_skeleton, k0_part2_eq_skeleton, k0_part3_eq_skeleton, k0_part4_eq_skeleton, k0_part5_eq_skeleton, k0_part6_eq_skeleton]
    unfold owns
    iintro ⟨⟨%f0, %e0, H0⟩, ⟨%f1, %e1, H1⟩, ⟨%d2, %f2, -, H2⟩, ⟨%f3, %e3, H3⟩, ⟨%f4, %e4, H4⟩, Hk⟩
    obtain rfl := harg2.eq_unread e0; obtain rfl := harg3.eq_unread e1
    obtain rfl := harg5.eq_unread e3; obtain rfl := harg6.eq_unread e4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexact H3
    iexact H4

end Cert.Proof.Phase

end
-- ==== Proof.PhaseTurn.lean ====
/- A sequence's third point: it stores the norm's rows phase by phase and their product with its columns of the weights. -/
module

public import proofs.«01_k».proof.Proof.PhaseRun

@[expose] public section

set_option maxRecDepth 16384

noncomputable section

namespace Cert.Proof.Phase

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Vec F S2048x1024 .f32) (x1 : Vec F S1024x1024 .bf16) (s0 : Vec F S2x2048x1024 .bf16) (s1 : Vec F S8x2048x128 .f32)

set_option maxHeartbeats 4000000 in
/-- The pieces it stores. -/
def turnRun (h : Turn i) : { L : Stores F //
    Leaves c i arg2 harg2 arg3 harg3 arg4 harg4 arg5 harg5 arg6 harg6 x0 x1 s0 s1 L } := by
  have h1 := h.one; have h2 := h.two; have h3 := h.three
  refine ⟨⟨?_, ?_, []⟩, fun E K => ?run⟩
  case run =>
    simp only [cc0_norm_proj_eq_skeleton]; unfold cc0_norm_proj_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %e0, H0⟩, ⟨%f1, %e1, H1⟩, ⟨%d2, %f2, -, H2⟩, ⟨%f3, %e3, H3⟩, ⟨%f4, %e4, H4⟩, Hk⟩
    obtain rfl := harg2.eq_unread e0; obtain rfl := harg3.eq_unread e1
    obtain rfl := harg5.eq_unread e3; obtain rfl := harg6.eq_unread e4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexact H3
    iexact H4

end Cert.Proof.Phase

end
-- ==== Proof.PhaseBlock.lean ====
/- The pieces that a point of the odd layer's projection stores, entry by entry. -/
module

public import proofs.«01_k».proof.Proof.PhaseFirst
public import proofs.«01_k».proof.Proof.PhaseTurn
public import proofs.«01_k».proof.Proof.ProjSpec
public import Idealize.ShloMosaic.Lib.Pointwise
public import Idealize.ShloMosaic.Lib.Writes
public import Idealize.ShloMosaic.Lib.WholeRead
public import Idealize.ShloMosaic.PureOps.Ideal

@[expose] public section

set_option maxRecDepth 16384

noncomputable section

namespace Cert.Proof.Phase

open Idealize.ShloMosaic Idealize.ShloMosaic.TcCoe Cert.Kernel5Ideal Cert.Kernel5Ideal.Gen
open Idealize.ShloMosaic.Tactic
open Cert.Proof.Proj (gain)

abbrev Block := Vec Ideal S2048x1024 .f32
abbrev Tile := Vec Ideal S1024x1024 .bf16
abbrev Slabs := Vec Ideal S2x2048x1024 .bf16
abbrev Chunks := Vec Ideal S8x2048x128 .f32

/-! ## What the pieces hold -/

/-- The norm of a block's rows. -/
def nrm (X : Block) (r : Fin 2048) (d : Fin 1024) : EReal := X (ix2 r d) * gain (fun e => X (ix2 r e))

/-- The norm in chunks of 128 columns. -/
def chunked (G : Fin 2048 → Fin 1024 → EReal) (y : S8x2048x128.Idx) : EReal :=
  G (y 1) ⟨(y 0).val * 128 + (y 2).val, by have : (y 0).val < 8 := (y 0).isLt; have : (y 2).val < 128 := (y 2).isLt; omega⟩

/-- A chunked array's rows phase by phase: row `p * 256 + l` is row `l * 8 + p`. -/
def phased (Z : Chunks) (r : Fin 2048) (d : Fin 1024) : EReal :=
  Z (ix3 ⟨d.val / 128, by omega⟩ ⟨r.val % 256 * 8 + r.val / 256, by omega⟩ ⟨d.val % 128, by omega⟩)

/-- Rows against columns of weights. -/
def dots (G : Fin 2048 → Fin 1024 → EReal) (w : Tile) (y : S2048x1024.Idx) : EReal := ∑ d, G (y 0) d * w (ix2 d (y 1))

/-- A slab's rows. -/
def slab (Z : Slabs) (k : Fin 2) (r : Fin 2048) (d : Fin 1024) : EReal := Z (ix3 k r d)

/-! ## Loads -/

/-- 512 rows of an array. -/
def part {n : ℕ} {e : EltTy} (G : Fin 2048 → Fin n → Elt Ideal e) (o : ℕ) : Vec Ideal ⟨2, ![512, n]⟩ e :=
  fun y => G ⟨((y 0).val + o) % 2048, Nat.mod_lt _ (by omega)⟩ (y 1)

theorem load_rows {arg : Memref sig .tc .vmem S2048x1024 .f32} (harg : arg.IsWhole) (X : Block) (o : ℕ)
    (inb : ∀ a, (![o, 0] : Fin 2 → ℕ) a + (![512, 1024] : Fin 2 → ℕ) a ≤ S2048x1024.size a) :
    View.readAt (Elt Ideal) arg.view (Rect.unit (s := S2048x1024) ![o, 0] ![512, 1024] inb).toLoadRect (harg.unread X)
      = part (fun r d => X (ix2 r d)) o := by
  have h : o + 512 ≤ 2048 := inb 0
  funext y
  have hy : (y 0).val < 512 := (y 0).isLt
  refine (harg.readAt_unread X _ _).trans (congrArg X (funext fun a => Fin.ext ?_))
  match a with
  | ⟨0, _⟩ => show o + 1 * (y 0).val = ((y 0).val + o) % 2048; omega
  | ⟨1, _⟩ => show 0 + 1 * (y 1).val = (y 1).val; omega

theorem load_wts {arg : Memref sig .tc .vmem S1024x1024 .bf16} (harg : arg.IsWhole) (X : Tile)
    (inb : ∀ a, (![0, 0] : Fin 2 → ℕ) a + (![1024, 1024] : Fin 2 → ℕ) a ≤ S1024x1024.size a) :
    View.readAt (Elt Ideal) arg.view (Rect.unit (s := S1024x1024) ![0, 0] ![1024, 1024] inb).toLoadRect (harg.unread X) = X := by
  funext y
  refine (harg.readAt_unread X _ _).trans (congrArg X (funext fun a => Fin.ext ?_))
  match a with
  | ⟨0, _⟩ => show 0 + 1 * (y 0).val = (y 0).val; omega
  | ⟨1, _⟩ => show 0 + 1 * (y 1).val = (y 1).val; omega

/-- 512 rows of a slab. -/
def slabPart (G : Fin 2048 → Fin 1024 → EReal) (o : ℕ) : Vec Ideal ⟨3, ![1, 512, 1024]⟩ .bf16 :=
  fun y => G ⟨((y 1).val + o) % 2048, Nat.mod_lt _ (by omega)⟩ (y 2)

theorem load_slab {arg : Memref sig .tc .vmem S2x2048x1024 .bf16} (harg : arg.IsWhole) (Z : Slabs) (off : Fin 3 → ℕ) (k : Fin 2) (o : ℕ)
    (h : off = ![k.val, o, 0]) (inb : ∀ a, off a + (![1, 512, 1024] : Fin 3 → ℕ) a ≤ S2x2048x1024.size a) :
    View.readAt (Elt Ideal) arg.view (Rect.unit (s := S2x2048x1024) off ![1, 512, 1024] inb).toLoadRect (harg.unread Z)
      = slabPart (slab Z k) o := by
  subst h
  have h1 : o + 512 ≤ 2048 := inb 1
  funext y
  have hy : (y 1).val < 512 := (y 1).isLt
  have hz : (y 0).val < 1 := (y 0).isLt
  refine (harg.readAt_unread Z _ _).trans (congrArg Z (funext fun a => Fin.ext ?_))
  match a with
  | ⟨0, _⟩ => show k.val + 1 * (y 0).val = k.val; omega
  | ⟨1, _⟩ => show o + 1 * (y 1).val = ((y 1).val + o) % 2048; omega
  | ⟨2, _⟩ => show 0 + 1 * (y 2).val = (y 2).val; omega

/-- Every eighth row of a chunk. -/
def eighth (Z : Chunks) (k p : ℕ) : Vec Ideal ⟨3, ![1, 256, 128]⟩ .f32 :=
  fun y => Z (ix3 ⟨k % 8, Nat.mod_lt _ (by omega)⟩ ⟨(8 * (y 1).val + p) % 2048, Nat.mod_lt _ (by omega)⟩ (y 2))

theorem load_eighth {arg : Memref sig .tc .vmem S8x2048x128 .f32} (harg : arg.IsWhole) (Z : Chunks) (k p : ℕ)
    (inb : ∀ a, (![1, 256, 128] : Fin 3 → ℕ) a = 0 ∨ (![k, p, 0] : Fin 3 → ℕ) a + (![1, 8, 1] : Fin 3 → ℕ) a * ((![1, 256, 128] : Fin 3 → ℕ) a - 1) < S8x2048x128.size a) :
    View.readAt (Elt Ideal) arg.view (⟨![k, p, 0], ![1, 256, 128], ![1, 8, 1], inb⟩ : LoadRect S8x2048x128) (harg.unread Z)
      = eighth Z k p := by
  have h0 : 1 = 0 ∨ k + 1 * (1 - 1) < 8 := inb 0
  have h1 : 256 = 0 ∨ p + 8 * (256 - 1) < 2048 := inb 1
  funext y
  have hz : (y 0).val < 1 := (y 0).isLt
  have hy : (y 1).val < 256 := (y 1).isLt
  refine (harg.readAt_unread Z _ _).trans (congrArg Z (funext fun a => Fin.ext ?_))
  match a with
  | ⟨0, _⟩ => show k + 1 * (y 0).val = k % 8; omega
  | ⟨1, _⟩ => show p + 8 * (y 1).val = (8 * (y 1).val + p) % 2048; omega
  | ⟨2, _⟩ => show 0 + 1 * (y 2).val = (y 2).val; omega

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Block) (x1 : Tile) (s0 : Slabs) (s1 : Chunks)

theorem three_eta {a b d : ℕ} (x : (⟨3, ![a, b, d]⟩ : Shape).Idx) : ∃ (r : Fin a) (k : Fin b) (l : Fin d), x = ix3 r k l :=
  ⟨x 0, x 1, x 2, funext fun i => by fin_cases i <;> rfl⟩
theorem two_eta {a b : ℕ} (x : (⟨2, ![a, b]⟩ : Shape).Idx) : ∃ (r : Fin a) (k : Fin b), x = ix2 r k :=
  ⟨x 0, x 1, funext fun i => by fin_cases i <;> rfl⟩

/-! ## Pieces -/

theorem chunk_piece (G : Fin 2048 → Fin 1024 → EReal) (p : Vec Ideal S1x512x128 .f32) (cc r0 : ℕ)
    (inb : ∀ a, (![cc, r0, 0] : Fin 3 → ℕ) a + S1x512x128.size a ≤ S8x2048x128.size a)
    (hp : ∀ (r : Fin 512) (l : Fin 128) (h : cc * 128 + l.val < 1024), p (ix3 0 r l) = G ⟨(r.val + r0) % 2048, Nat.mod_lt _ (by omega)⟩ ⟨cc * 128 + l.val, h⟩)
    (x : S1x512x128.Idx) :
    p x = chunked G ((Rect.unit (s := S8x2048x128) ![cc, r0, 0] S1x512x128.size inb).emb x) := by
  have h0 : cc + 1 ≤ 8 := inb 0
  have h1 : r0 + 512 ≤ 2048 := inb 1
  obtain ⟨z, r, l, rfl⟩ := three_eta (a := 1) (b := 512) (d := 128) x
  obtain rfl : z = 0 := Subsingleton.elim _ _
  rw [hp r l (by omega)]
  unfold chunked
  refine congrArg₂ G (Fin.ext ?_) (Fin.ext ?_)
  · show (r.val + r0) % 2048 = r0 + 1 * r.val; omega
  · show cc * 128 + l.val = (cc + 1 * 0) * 128 + (0 + 1 * l.val); omega

theorem rows_piece (G : Fin 2048 → Fin 1024 → EReal) (p : Vec Ideal S1x512x1024 .bf16) (r0 : ℕ)
    (inb : ∀ a, (![0, r0, 0] : Fin 3 → ℕ) a + S1x512x1024.size a ≤ S2x2048x1024.size a)
    (hp : ∀ (r : Fin 512) (d : Fin 1024), p (ix3 0 r d) = G ⟨(r.val + r0) % 2048, Nat.mod_lt _ (by omega)⟩ d)
    (x : S1x512x1024.Idx) :
    p x = (fun y : S2x2048x1024.Idx => G (y 1) (y 2)) ((Rect.unit (s := S2x2048x1024) ![0, r0, 0] S1x512x1024.size inb).emb x) := by
  have h1 : r0 + 512 ≤ 2048 := inb 1
  obtain ⟨z, r, d, rfl⟩ := three_eta (a := 1) (b := 512) (d := 1024) x
  obtain rfl : z = 0 := Subsingleton.elim _ _
  rw [hp]
  refine congrArg₂ G (Fin.ext ?_) (Fin.ext ?_)
  · show (r.val + r0) % 2048 = r0 + 1 * r.val; omega
  · show d.val = 0 + 1 * d.val; omega

theorem phase_piece (Z : Chunks) (p : Vec Ideal S1x256x128 .bf16) (R C : ℕ) (hR : R / 256 * 256 = R) (hC : C / 128 * 128 = C)
    (inb : ∀ a, (![1, R, C] : Fin 3 → ℕ) a + S1x256x128.size a ≤ S2x2048x1024.size a)
    (hp : ∀ (l : Fin 256) (d : Fin 128), p (ix3 0 l d) = Z (ix3 ⟨C / 128 % 8, Nat.mod_lt _ (by omega)⟩ ⟨(8 * l.val + R / 256) % 2048, Nat.mod_lt _ (by omega)⟩ d))
    (x : S1x256x128.Idx) :
    p x = (fun y : S2x2048x1024.Idx => phased Z (y 1) (y 2)) ((Rect.unit (s := S2x2048x1024) ![1, R, C] S1x256x128.size inb).emb x) := by
  have h1 : R + 256 ≤ 2048 := inb 1
  have h2 : C + 128 ≤ 1024 := inb 2
  obtain ⟨z, l, d, rfl⟩ := three_eta (a := 1) (b := 256) (d := 128) x
  obtain rfl : z = 0 := Subsingleton.elim _ _
  rw [hp]
  refine congrArg Z (funext fun a => Fin.ext ?_)
  match a with
  | ⟨0, _⟩ => show C / 128 % 8 = (C + 1 * d.val) / 128; omega
  | ⟨1, _⟩ =>
    show (8 * l.val + R / 256) % 2048 = (R + 1 * l.val) % 256 * 8 + (R + 1 * l.val) / 256
    have hl := l.isLt
    rw [show (R + 1 * l.val) % 256 = l.val by omega, show (R + 1 * l.val) / 256 = R / 256 by omega, Nat.mod_eq_of_lt (by omega)]
    omega
  | ⟨2, _⟩ => show d.val = (C + 1 * d.val) % 128; omega

theorem block_piece (G : Fin 2048 → Fin 1024 → EReal) (w : Tile) (p : Vec Ideal S512x1024 .bf16) (r0 : ℕ)
    (inb : ∀ a, (![r0, 0] : Fin 2 → ℕ) a + S512x1024.size a ≤ S2048x1024.size a)
    (hp : ∀ (r : Fin 512) (k : Fin 1024), p (ix2 r k) = ∑ d, G ⟨(r.val + r0) % 2048, Nat.mod_lt _ (by omega)⟩ d * w (ix2 d k))
    (x : S512x1024.Idx) :
    p x = dots G w ((Rect.unit (s := S2048x1024) ![r0, 0] S512x1024.size inb).emb x) := by
  have h0 : r0 + 512 ≤ 2048 := inb 0
  obtain ⟨r, k, rfl⟩ := two_eta (a := 512) (b := 1024) x
  rw [hp]
  unfold dots
  refine Finset.sum_congr rfl fun d _ => congrArg₂ (· * ·) (congrArg (fun q => G q d) (Fin.ext ?_)) (congrArg (fun q => w (ix2 d q)) (Fin.ext ?_))
  · show (r.val + r0) % 2048 = r0 + 1 * r.val; omega
  · show k.val = 0 + 1 * k.val; omega

/-! ## A sequence's first point -/

theorem first_chunks (h : First i) : ∀ p ∈ (firstRun c i arg2 harg2 arg3 harg3 arg4 harg4 arg5 harg5 arg6 harg6 x0 x1 s0 s1 h).1.chunks,
    ∀ x, p.2 x = chunked (nrm x0) (p.1.emb x) := by
  intro p hp
  dsimp only [firstRun, firstRun.sl.r, firstRun.sl.r_1, firstRun.sl.r_2, firstRun.sl.r_3, firstRun.sl.r_4, firstRun.sl.r_5, firstRun.sl.r_6] at hp
  simp only [load_rows, load_wts] at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    refine chunk_piece (nrm x0) _ _ _ (by decide) fun r l _ => ?_
    pointwise [k0_pay1, k0_pay2, k0_pay3, k0_pay4, k0_pay8, k0_pay9, k0_pay21, k0_pay33, k0_pay11, k0_pay12, k0_pay13, k0_pay14, k0_pay15, k0_pay16, k0_pay17, k0_pay18, k0_pay19, k0_pay23, k0_pay24, k0_pay25, k0_pay26, k0_pay27, k0_pay28, k0_pay29, k0_pay30, k0_pay31, k0_pay36, k0_pay37, k0_pay38, k0_pay39, k0_pay40, k0_pay41, k0_pay42, k0_pay43, k0_pay46, k0_pay47, k0_pay48, k0_pay49]
    rfl

theorem first_rows (h : First i) : ∀ p ∈ (firstRun c i arg2 harg2 arg3 harg3 arg4 harg4 arg5 harg5 arg6 harg6 x0 x1 s0 s1 h).1.rows,
    ∀ x, p.2 x = (fun y : S2x2048x1024.Idx => nrm x0 (y 1) (y 2)) (p.1.emb x) := by
  intro p hp
  dsimp only [firstRun, firstRun.sl.r, firstRun.sl.r_1, firstRun.sl.r_2, firstRun.sl.r_3, firstRun.sl.r_4, firstRun.sl.r_5, firstRun.sl.r_6] at hp
  simp only [load_rows, load_wts] at hp
  simp only [List.mem_cons, List.not_mem_nil, or_false] at hp
  rcases hp with rfl | rfl | rfl | rfl
  all_goals
    refine rows_piece (nrm x0) _ _ (by decide) fun r d => ?_
    pointwise [k0_pay8, k0_pay9, k0_pay21, k0_pay33, k0_pay10, k0_pay22, k0_pay34, k0_pay35, k0_pay45]
    rfl

theorem first_block (h : First i) : ∀ p ∈ (firstRun c i arg2 harg2 arg3 harg3 arg4 harg4 arg5 harg5 arg6 harg6 x0 x1 s0 s1 h).1.block,
    ∀ x, p.2 x = dots (nrm x0) x1 (p.1.emb x) := by
  intro p hp
  dsimp only [firstRun, firstRun.sl.r, firstRun.sl.r_1, firstRun.sl.r_2, firstRun.sl.r_3, firstRun.sl.r_4, firstRun.sl.r_5, firstRun.sl.r_6] at hp
  simp only [load_rows, load_wts] at hp
  simp only [List.mem_cons, List.not_mem_nil, or_false] at hp
  rcases hp with rfl | rfl | rfl | rfl
  all_goals
    refine block_piece (nrm x0) x1 _ _ (by decide) fun r k => ?_
    pointwise [k0_pay8, k0_pay9, k0_pay21, k0_pay33, k0_pay5, k0_pay20, k0_pay32, k0_pay44]
    rfl

/-! ## The points that only multiply -/

/-- The slab a point reads. -/
def side (i : grid0.Coords) : Fin 2 := if (i 1).val < 2 then 0 else 1

theorem side_off (o : ℕ) : (![(if (i 1).val < 2 then 0 else 1), o, 0] : Fin 3 → ℕ) = ![(side i).val, o, 0] := by
  unfold side; split_ifs <;> rfl

theorem later_block (h : Later i) : ∀ p ∈ (laterRun c i arg2 harg2 arg3 harg3 arg4 harg4 arg5 harg5 arg6 harg6 x0 x1 s0 s1 h).1.block,
    ∀ x, p.2 x = dots (slab s0 (side i)) x1 (p.1.emb x) := by
  intro p hp
  dsimp only [laterRun, laterRun.sl.r] at hp
  simp only [load_wts, load_slab harg5 s0 (k0_off1 i) (side i) 0 ((k0_off1_eq i).trans (side_off i 0)),
    load_slab harg5 s0 (k0_off2 i) (side i) 512 ((k0_off2_eq i).trans (side_off i 512)),
    load_slab harg5 s0 (k0_off3 i) (side i) 1024 ((k0_off3_eq i).trans (side_off i 1024)),
    load_slab harg5 s0 (k0_off4 i) (side i) 1536 ((k0_off4_eq i).trans (side_off i 1536))] at hp
  simp only [List.mem_cons, List.not_mem_nil, or_false] at hp
  rcases hp with rfl | rfl | rfl | rfl
  all_goals
    refine block_piece (slab s0 (side i)) x1 _ _ (by decide) fun r k => ?_
    pointwise [k0_pay7, k0_pay124, k0_pay125, k0_pay126, k0_pay127]
    rfl

/-! ## A sequence's third point -/

theorem turn_rows32 : ∀ p ∈ turnRun.sl.H3_32 c arg6 harg6 s1,
    ∀ x, p.2 x = (fun y : S2x2048x1024.Idx => phased s1 (y 1) (y 2)) (p.1.emb x) := by
  intro p hp
  dsimp only [turnRun.sl.H3_32, turnRun.sl.r, turnRun.sl.r_1, turnRun.sl.r_2, turnRun.sl.r_3, turnRun.sl.r_4, turnRun.sl.r_5,
    turnRun.sl.r_6, turnRun.sl.r_7, turnRun.sl.r_8, turnRun.sl.r_9] at hp
  simp only [load_eighth] at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl

  all_goals
    refine phase_piece s1 _ _ _ rfl rfl (by decide) fun l d => ?_
    pointwise [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    rfl

theorem turn_rows48 : ∀ p ∈ turnRun.sl.H3_48 c arg6 harg6 s1,
    ∀ x, p.2 x = (fun y : S2x2048x1024.Idx => phased s1 (y 1) (y 2)) (p.1.emb x) := by
  intro p hp
  dsimp only [turnRun.sl.H3_48, turnRun.sl.r, turnRun.sl.r_1, turnRun.sl.r_2, turnRun.sl.r_3, turnRun.sl.r_4, turnRun.sl.r_5,
    turnRun.sl.r_6, turnRun.sl.r_7, turnRun.sl.r_8, turnRun.sl.r_9] at hp
  simp only [load_eighth] at hp
  simp only [List.mem_cons, List.not_mem_nil, or_false] at hp
  rcases hp with rfl | rfl | rfl | rfl | rfl | rfl | rfl | rfl | rfl | rfl | rfl | rfl | rfl | rfl | rfl | rfl | hp
  on_goal 17 => exact turn_rows32 c arg6 harg6 s1 p hp
  all_goals
    refine phase_piece s1 _ _ _ rfl rfl (by decide) fun l d => ?_
    pointwise [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    rfl

theorem turn_rows64 : ∀ p ∈ turnRun.sl.H3_64 c arg6 harg6 s1,
    ∀ x, p.2 x = (fun y : S2x2048x1024.Idx => phased s1 (y 1) (y 2)) (p.1.emb x) := by
  intro p hp
  dsimp only [turnRun.sl.H3_64, turnRun.sl.r, turnRun.sl.r_1, turnRun.sl.r_2, turnRun.sl.r_3, turnRun.sl.r_4, turnRun.sl.r_5,
    turnRun.sl.r_6, turnRun.sl.r_7, turnRun.sl.r_8, turnRun.sl.r_9] at hp
  simp only [load_eighth] at hp
  simp only [List.mem_cons, List.not_mem_nil, or_false] at hp
  rcases hp with rfl | rfl | rfl | rfl | rfl | rfl | rfl | rfl | rfl | rfl | rfl | rfl | rfl | rfl | rfl | rfl | hp
  on_goal 17 => exact turn_rows48 c arg6 harg6 s1 p hp
  all_goals
    refine phase_piece s1 _ _ _ rfl rfl (by decide) fun l d => ?_
    pointwise [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
    rfl

end Cert.Proof.Phase

end
-- ==== Proof.PhaseFill.lean ====
/- What a point of the odd layer's projection leaves: its pieces fill its block and the part of the scratch that later
   points read. -/
module

public import proofs.«01_k».proof.Proof.PhaseBlock

@[expose] public section

set_option maxRecDepth 16384

noncomputable section

namespace Cert.Proof.Phase

open Idealize.ShloMosaic Idealize.ShloMosaic.TcCoe Cert.Kernel5Ideal Cert.Kernel5Ideal.Gen
open Idealize.ShloMosaic.Tactic

/-! ## Pieces that fill the head of a slab -/

/-- The pieces hold, for slab `k`, `n` by `m` tiles of `R` rows and `C` columns. -/
def tiles (L : List (View.Piece (Elt Ideal) S2x2048x1024 .bf16)) (k R C n m : ℕ) : Bool :=
  (List.range n).all fun a => (List.range m).all fun b => L.any fun p =>
    Nat.beq (p.1.off 0) k && (Nat.beq (p.1.off 1) (a * R) && (Nat.beq (p.1.off 2) (b * C)
      && (Nat.beq (p.1.size 0) 1 && (Nat.beq (p.1.size 1) R && (Nat.beq (p.1.size 2) C
      && (Nat.beq (p.1.stride 0) 1 && (Nat.beq (p.1.stride 1) 1 && Nat.beq (p.1.stride 2) 1)))))))

theorem mem_of_bounds {s : Shape} (r : Rect s) (y : s.Idx) (h1 : ∀ a, r.stride a = 1)
    (h : ∀ a, r.off a ≤ (y a).val ∧ (y a).val < r.off a + r.size a) : y ∈ r.set := by
  obtain ⟨⟨off, size, stride, inb⟩, pos⟩ := r
  obtain rfl : stride = fun _ => 1 := funext h1
  have hb : ∀ a, off a + size a ≤ s.size a := fun a => by
    have := h a; have := inb a; dsimp only at *; omega
  show y ∈ (Rect.unit off size hb).set
  exact Rect.mem_set_unit.mpr h

theorem mem_of_tiles {L : List (View.Piece (Elt Ideal) S2x2048x1024 .bf16)} {k R C n m : ℕ} (hL : tiles L k R C n m = true)
    (hR : 0 < R) (hC : 0 < C) (y : S2x2048x1024.Idx) (h0 : (y 0).val = k) (h1 : (y 1).val < n * R) (h2 : (y 2).val < m * C) :
    ∃ p ∈ L, y ∈ p.1.set := by
  have ha : (y 1).val / R < n := (Nat.div_lt_iff_lt_mul hR).mpr h1
  have hb : (y 2).val / C < m := (Nat.div_lt_iff_lt_mul hC).mpr h2
  have := List.all_eq_true.mp (List.all_eq_true.mp hL _ (List.mem_range.mpr ha)) _ (List.mem_range.mpr hb)
  obtain ⟨p, hp, e⟩ := List.any_eq_true.mp this
  simp only [Bool.and_eq_true, Nat.beq_eq] at e
  obtain ⟨o0, o1, o2, z0, z1, z2, t0, t1, t2⟩ := e
  have l1 := Nat.div_mul_le_self (y 1).val R
  have l2 := Nat.div_mul_le_self (y 2).val C
  have u1 := Nat.lt_div_mul_add (a := (y 1).val) hR
  have u2 := Nat.lt_div_mul_add (a := (y 2).val) hC
  refine ⟨p, hp, mem_of_bounds p.1 y (fun a => ?_) (fun a => ?_)⟩
  · match a with
    | ⟨0, _⟩ => exact t0
    | ⟨1, _⟩ => exact t1
    | ⟨2, _⟩ => exact t2
  · match a with
    | ⟨0, _⟩ =>
      show p.1.off 0 ≤ (y 0).val ∧ (y 0).val < p.1.off 0 + p.1.size 0
      rw [o0, z0, h0]; omega
    | ⟨1, _⟩ =>
      show p.1.off 1 ≤ (y 1).val ∧ (y 1).val < p.1.off 1 + p.1.size 1
      rw [o1, z1]; exact ⟨l1, u1⟩
    | ⟨2, _⟩ =>
      show p.1.off 2 ≤ (y 2).val ∧ (y 2).val < p.1.off 2 + p.1.size 2
      rw [o2, z2]; exact ⟨l2, u2⟩

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Block) (x1 : Tile) (s0 : Slabs) (s1 : Chunks)

/-! ## The third point's block -/

/-- A load of rows that the pieces fill. -/
theorem load_filled (L : List (View.Piece (Elt Ideal) S2x2048x1024 .bf16)) (G : Fin 2048 → Fin 1024 → EReal) (n o : ℕ)
    (hG : ∀ p ∈ L, ∀ x, p.2 x = (fun y : S2x2048x1024.Idx => G (y 1) (y 2)) (p.1.emb x)) (hL : tiles L 1 256 128 n 8 = true) (hn : o + 512 ≤ n * 256)
    (inb : ∀ a, (![1, o, 0] : Fin 3 → ℕ) a + S1x512x1024.size a ≤ S2x2048x1024.size a) :
    arg5.view.readCov L (Rect.unit (s := S2x2048x1024) ![1, o, 0] S1x512x1024.size inb).toLoadRect = slabPart G o := by
  have h1 : o + 512 ≤ 2048 := inb 1
  funext y
  have hz : (y 0).val < 1 := (y 0).isLt
  have hy : (y 1).val < 512 := (y 1).isLt
  have hd : (y 2).val < 1024 := (y 2).isLt
  refine (View.read_writes_apply_of_pieces (Val := Elt Ideal) arg5.view _ (fun y : S2x2048x1024.Idx => G (y 1) (y 2)) L hG
    ((Rect.unit (s := S2x2048x1024) ![1, o, 0] S1x512x1024.size inb).idx y) (mem_of_tiles hL (by omega) (by omega) _ ?_ ?_ ?_)).trans
    (congrArg₂ G (Fin.ext ?_) (Fin.ext ?_))
  · show 1 + 1 * (y 0).val = 1; omega
  · show o + 1 * (y 1).val < n * 256; omega
  · show 0 + 1 * (y 2).val < 8 * 128; omega
  · show o + 1 * (y 1).val = ((y 1).val + o) % 2048; omega
  · show 0 + 1 * (y 2).val = (y 2).val; omega

theorem turn_block (h : Turn i) : ∀ p ∈ (turnRun c i arg2 harg2 arg3 harg3 arg4 harg4 arg5 harg5 arg6 harg6 x0 x1 s0 s1 h).1.block,
    ∀ x, p.2 x = dots (phased s1) x1 (p.1.emb x) := by
  intro p hp
  have e0 : turnRun.sl.v c arg5 arg6 harg6 s1 = slabPart (phased s1) 0 :=
    load_filled arg5 _ _ 4 0 (turn_rows32 c arg6 harg6 s1) (by sl_kernel_rfl) (by omega) _
  have e1 : turnRun.sl.v306 c arg5 arg6 harg6 s1 = slabPart (phased s1) 512 :=
    load_filled arg5 _ _ 6 512 (turn_rows48 c arg6 harg6 s1) (by sl_kernel_rfl) (by omega) _
  have e2 : turnRun.sl.v409 c arg5 arg6 harg6 s1 = slabPart (phased s1) 1024 :=
    load_filled arg5 _ _ 8 1024 (turn_rows64 c arg6 harg6 s1) (by sl_kernel_rfl) (by omega) _
  have e3 : turnRun.sl.v416 c arg5 arg6 harg6 s1 = slabPart (phased s1) 1536 :=
    load_filled arg5 _ _ 8 1536 (turn_rows64 c arg6 harg6 s1) (by sl_kernel_rfl) (by omega) _
  dsimp only [turnRun, turnRun.sl.r_10] at hp
  simp only [load_wts, e0, e1, e2, e3] at hp
  simp only [List.mem_cons, List.not_mem_nil, or_false] at hp
  rcases hp with rfl | rfl | rfl | rfl
  all_goals
    refine block_piece (phased s1) x1 _ _ (by decide) fun r k => ?_
    pointwise [k0_pay6, k0_pay86, k0_pay104, k0_pay122, k0_pay123]
    rfl

/-! ## What is left -/

theorem first_left (h : First i) (f) :
    arg4.view.read (Elt Ideal) (arg4.view.writes (Elt Ideal) f (firstRun c i arg2 harg2 arg3 harg3 arg4 harg4 arg5 harg5 arg6 harg6 x0 x1 s0 s1 h).1.block)
      = dots (nrm x0) x1 :=
  funext fun y => View.read_writes_apply_of_pieces (Val := Elt Ideal) arg4.view f _ _ (first_block c i _ harg2 _ harg3 _ harg4 _ harg5 _ harg6 _ _ _ _ h) y
    (View.cover_of_tiledBy _ ![512, 1024] (by sl_kernel_rfl) y)

theorem first_rows_left (h : First i) (r : Fin 2048) (d : Fin 1024) :
    slab (arg5.view.read (Elt Ideal) (arg5.view.writes (Elt Ideal) (harg5.unread s0)
      (firstRun c i arg2 harg2 arg3 harg3 arg4 harg4 arg5 harg5 arg6 harg6 x0 x1 s0 s1 h).1.rows)) 0 r d = nrm x0 r d :=
  View.read_writes_apply_of_pieces (Val := Elt Ideal) arg5.view (harg5.unread s0) (fun y : S2x2048x1024.Idx => nrm x0 (y 1) (y 2)) _ (first_rows c i _ harg2 _ harg3 _ harg4 _ harg5 _ harg6 _ _ _ _ h) (ix3 0 r d)
    (mem_of_tiles (k := 0) (R := 512) (C := 1024) (n := 4) (m := 1) (by sl_kernel_rfl) (by omega) (by omega) _ rfl
      (by show r.val < 4 * 512; omega) (by show d.val < 1 * 1024; omega))

theorem first_chunks_left (h : First i) :
    arg6.view.read (Elt Ideal) (arg6.view.writes (Elt Ideal) (harg6.unread s1)
      (firstRun c i arg2 harg2 arg3 harg3 arg4 harg4 arg5 harg5 arg6 harg6 x0 x1 s0 s1 h).1.chunks) = chunked (nrm x0) :=
  funext fun y => View.read_writes_apply_of_pieces (Val := Elt Ideal) arg6.view _ _ _ (first_chunks c i _ harg2 _ harg3 _ harg4 _ harg5 _ harg6 _ _ _ _ h) y
    (View.cover_of_tiledBy _ ![1, 512, 128] (by sl_kernel_rfl) y)

theorem turn_left (h : Turn i) (f) :
    arg4.view.read (Elt Ideal) (arg4.view.writes (Elt Ideal) f (turnRun c i arg2 harg2 arg3 harg3 arg4 harg4 arg5 harg5 arg6 harg6 x0 x1 s0 s1 h).1.block)
      = dots (phased s1) x1 :=
  funext fun y => View.read_writes_apply_of_pieces (Val := Elt Ideal) arg4.view f _ _ (turn_block c i _ harg2 _ harg3 _ harg4 _ harg5 _ harg6 _ _ _ _ h) y
    (View.cover_of_tiledBy _ ![512, 1024] (by sl_kernel_rfl) y)

theorem turn_rows_left (h : Turn i) (r : Fin 2048) (d : Fin 1024) :
    slab (arg5.view.read (Elt Ideal) (arg5.view.writes (Elt Ideal) (harg5.unread s0)
      (turnRun c i arg2 harg2 arg3 harg3 arg4 harg4 arg5 harg5 arg6 harg6 x0 x1 s0 s1 h).1.rows)) 1 r d = phased s1 r d :=
  View.read_writes_apply_of_pieces (Val := Elt Ideal) arg5.view (harg5.unread s0) (fun y : S2x2048x1024.Idx => phased s1 (y 1) (y 2)) _ (turn_rows64 c _ harg6 _) (ix3 1 r d)
    (mem_of_tiles (k := 1) (R := 256) (C := 128) (n := 8) (m := 8) (by sl_kernel_rfl) (by omega) (by omega) _ rfl
      (by show r.val < 8 * 256; omega) (by show d.val < 8 * 128; omega))

theorem later_left (h : Later i) (f) :
    arg4.view.read (Elt Ideal) (arg4.view.writes (Elt Ideal) f (laterRun c i arg2 harg2 arg3 harg3 arg4 harg4 arg5 harg5 arg6 harg6 x0 x1 s0 s1 h).1.block)
      = dots (slab s0 (side i)) x1 :=
  funext fun y => View.read_writes_apply_of_pieces (Val := Elt Ideal) arg4.view f _ _ (later_block c i _ harg2 _ harg3 _ harg4 _ harg5 _ harg6 _ _ _ _ h) y
    (View.cover_of_tiledBy _ ![512, 1024] (by sl_kernel_rfl) y)

end Cert.Proof.Phase

end
-- ==== Proof.PhaseLaunch.lean ====
/- The launch of the odd layer's projection at the ideal types. Between a sequence's points the two scratch buffers
   carry the norm of its rows: by token up to the third point, phase by phase from there on. -/
module

public import proofs.«01_k».proof.Proof.PhaseFill

@[expose] public section

set_option maxRecDepth 16384

noncomputable section

namespace Cert.Proof.Phase

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg) (c : Dev nD)

/-! ## A sequence's rows -/

theorem lt64 (t : Fin cfg0.N) : t.val < 64 := Nat.lt_of_lt_of_eq t.isLt N_0

/-- A sequence's rows. -/
def rowsIn (b : ℕ) : Block := fun y =>
  V m c main_v6 (ix2 ⟨b % 8 * 2048 + (y 0).val, by have : (y 0).val < 2048 := (y 0).isLt; omega⟩ (y 1))

/-- The rows of the sequence that point `n` works on. -/
def rowsOf (n : ℕ) : Block := rowsIn m c (n / 8)

theorem rowsOf_congr {n k : ℕ} (h : n / 8 = k / 8) : rowsOf m c n = rowsOf m c k :=
  congrArg (rowsIn m c) h

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem iblk0 (t : Fin cfg0.N) : (iblk m c 0 t : Block) = rowsOf m c t.val := by
  have ht := lt64 t
  refine funext fun y => congrArg (V m c main_v6) (funext fun a => Fin.ext ?_)
  match a with
  | ⟨0, _⟩ =>
    show win0_0.index t 0 * 2048 + 1 * (y 0).val = t.val / 8 % 8 * 2048 + (y 0).val
    rw [(index0 t).1]; omega
  | ⟨1, _⟩ =>
    show win0_0.index t 1 * 1024 + 1 * (y 1).val = (y 1).val
    rw [(index0 t).2]; omega

/-- The norm, by token. -/
def plain (n : ℕ) : Fin 2048 → Fin 1024 → EReal := nrm (rowsOf m c n)
/-- The norm, phase by phase. -/
def turned (n : ℕ) : Fin 2048 → Fin 1024 → EReal := phased (chunked (plain m c n))

/-- What the scratch buffers hold before point `n`. -/
structure Held (n : ℕ) (s0 : Slabs) (s1 : Chunks) : Prop where
  first : n % 8 = 1 → ∀ r d, slab s0 0 r d = plain m c n r d
  chunks : n % 8 = 1 ∨ n % 8 = 2 → s1 = chunked (plain m c n)
  second : 3 ≤ n % 8 → ∀ r d, slab s0 1 r d = turned m c n r d

/-- What a point leaves in its block. -/
def left (t : Fin cfg0.N) : Vec Ideal S2048x1024 .bf16 :=
  dots (if t.val % 8 < 2 then plain m c t.val else turned m c t.val) (iblk m c 1 t)

/-! ## The buffers at a point -/

abbrev acts (t : Fin cfg0.N) : Memref sig .tc .vmem S2048x1024 .f32 := win0_0.stage (cfg0.slots t 0)
abbrev acts_whole (t : Fin cfg0.N) : (acts t).IsWhole := hstage0_0 ((cfg0.slots t 0).cast nbuf0_0)
abbrev wts (t : Fin cfg0.N) : Memref sig .tc .vmem S1024x1024 .bf16 := win0_1.stage (cfg0.slots t 1)
abbrev wts_whole (t : Fin cfg0.N) : (wts t).IsWhole := hstage0_1 ((cfg0.slots t 1).cast nbuf0_1)
abbrev outp (t : Fin cfg0.N) : Memref sig .tc .vmem S2048x1024 .bf16 := win0_2.stage (cfg0.slots t 2)
abbrev outp_whole (t : Fin cfg0.N) : (outp t).IsWhole := hstage0_2 ((cfg0.slots t 2).cast nbuf0_2)
abbrev slabs : Memref sig .tc .vmem S2x2048x1024 .bf16 := Memref.whole cc0_scratch0
abbrev slabs_whole : (slabs).IsWhole := Memref.isWhole_whole _
abbrev chunkBuf : Memref sig .tc .vmem S8x2048x128 .f32 := Memref.whole cc0_scratch1
abbrev chunkBuf_whole : (chunkBuf).IsWhole := Memref.isWhole_whole _

theorem coord1 (t : Fin cfg0.N) : (grid0.coords t 1).val = t.val % 8 := by
  revert t
  exact (by decide +kernel : ∀ t : Fin grid0.N, (grid0.coords t 1).val = t.val % 8)

/-- What a point does to the scratch and to its block. -/
structure Step (t : Fin cfg0.N) (s0 : Slabs) (s1 : Chunks) (L : Stores Ideal) : Prop where
  run : Leaves c (grid0.coords t) (acts t) (acts_whole t) (wts t) (wts_whole t) (outp t) (outp_whole t) slabs slabs_whole
    chunkBuf chunkBuf_whole (iblk m c 0 t) (iblk m c 1 t) s0 s1 L
  block : ∀ f, (outp t).view.read (Elt Ideal) ((outp t).view.writes (Elt Ideal) f L.block) = left m c t
  held : Held m c (t.val + 1) (slabs.view.read (Elt Ideal) (slabs.view.writes (Elt Ideal) (slabs_whole.unread s0) L.rows))
    (chunkBuf.view.read (Elt Ideal) (chunkBuf.view.writes (Elt Ideal) (chunkBuf_whole.unread s1) L.chunks))

theorem step_first (t : Fin cfg0.N) (s0 : Slabs) (s1 : Chunks) (h : t.val % 8 = 0) : ∃ L, Step m c t s0 s1 L := by
  have e : rowsOf m c (t.val + 1) = iblk m c 0 t := (rowsOf_congr m c (by omega)).trans (iblk0 m c t).symm
  refine ⟨_, ⟨(firstRun c _ _ _ _ _ _ _ _ _ _ _ _ _ _ _ (first_of t h)).2, fun f => ?_, ⟨fun _ r d => ?_, fun _ => ?_, fun h' => ?_⟩⟩⟩
  · refine (first_left c _ _ _ _ _ _ _ _ _ _ _ _ _ _ _ _ f).trans ?_
    unfold left plain
    rw [if_pos (by omega), ← iblk0 m c t]
  · refine (first_rows_left c _ _ _ _ _ _ _ _ _ _ _ _ _ _ _ _ r d).trans ?_
    unfold plain; rw [e]
  · refine (first_chunks_left c _ _ _ _ _ _ _ _ _ _ _ _ _ _ _ _).trans ?_
    unfold plain; rw [e]
  · omega

theorem step_turn (t : Fin cfg0.N) (s0 : Slabs) (s1 : Chunks) (h : t.val % 8 = 2) (H : Held m c t.val s0 s1) :
    ∃ L, Step m c t s0 s1 L := by
  have e : rowsOf m c (t.val + 1) = rowsOf m c t.val := rowsOf_congr m c (by omega)
  have e1 := H.chunks (.inr h)
  refine ⟨_, ⟨(turnRun c _ _ _ _ _ _ _ _ _ _ _ _ _ _ _ (turn_of t h)).2, fun f => ?_, ⟨fun h' => ?_, fun h' => ?_, fun h' r d => ?_⟩⟩⟩
  · refine (turn_left c _ _ _ _ _ _ _ _ _ _ _ _ _ _ _ _ f).trans ?_
    unfold left turned
    rw [if_neg (by omega), e1]
  · omega
  · omega
  · refine (turn_rows_left c _ _ _ _ _ _ _ _ _ _ _ _ _ _ _ _ r d).trans ?_
    unfold turned plain; rw [e, e1]; rfl

theorem step_later (t : Fin cfg0.N) (s0 : Slabs) (s1 : Chunks) (h : t.val % 8 ≠ 0) (h' : t.val % 8 ≠ 2)
    (H : Held m c t.val s0 s1) : ∃ L, Step m c t s0 s1 L := by
  have k0 : slabs.view.read (Elt Ideal) (slabs_whole.unread s0) = s0 := slabs_whole.read_unread s0
  have k1 : chunkBuf.view.read (Elt Ideal) (chunkBuf_whole.unread s1) = s1 := chunkBuf_whole.read_unread s1
  have e : t.val % 8 ≠ 7 → rowsOf m c (t.val + 1) = rowsOf m c t.val := fun h => rowsOf_congr m c (by omega)
  refine ⟨_, ⟨(laterRun c _ _ _ _ _ _ _ _ _ _ _ _ _ _ _ (later_of t h h')).2, fun f => ?_, ?_⟩⟩
  · refine (later_left c _ _ _ _ _ _ _ _ _ _ _ _ _ _ _ _ f).trans ?_
    unfold left side
    rw [coord1]
    refine congrArg (fun G => dots G _) (funext fun r => funext fun d => ?_)
    by_cases h1 : t.val % 8 < 2
    · rw [if_pos h1, if_pos h1]; exact H.first (by omega) r d
    · rw [if_neg h1, if_neg h1]; exact H.second (by omega) r d
  · show Held m c (t.val + 1) (slabs.view.read (Elt Ideal) (slabs_whole.unread s0)) (chunkBuf.view.read (Elt Ideal) (chunkBuf_whole.unread s1))
    rw [k0, k1]
    refine ⟨fun h1 => ?_, fun h1 => ?_, fun h1 r d => ?_⟩
    · omega
    · unfold plain; rw [e (by omega)]; exact H.chunks (.inl (by omega))
    · unfold turned plain; rw [e (by omega)]; exact H.second (by omega) r d

theorem step (t : Fin cfg0.N) (s0 : Slabs) (s1 : Chunks) (H : Held m c t.val s0 s1) : ∃ L, Step m c t s0 s1 L := by
  by_cases h : t.val % 8 = 0
  · exact step_first m c t s0 s1 h
  by_cases h' : t.val % 8 = 2
  · exact step_turn m c t s0 s1 h' H
  · exact step_later m c t s0 s1 h h' H

/-! ## The launch -/

/-- What the region carries from a point to the next: the scratch and the generator's register. -/
def carried (n : ℕ) : sProp 𝕄 :=
  iprop(iprop(∃ s0 s1, ⌜Held m c n s0 s1⌝ ∗ owns (c : Thread nD τ) slabs fullShare s0 ∗ owns (c : Thread nD τ) chunkBuf fullShare s1)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left m c t
  Φ t := carried m c t.val
  q _ := fullShare
  owed _ := 0

theorem dats_A (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = left m c t := by dsimp only [dats]

theorem before_0 (t : Fin cfg0.N) (d) : (dats m 0 c).before 0 t d = iblk m c 0 t :=
  before0_0_of m (dats m 0 c) (dats_A m c 0) (after_0 m c) t d
theorem before_1 (t : Fin cfg0.N) (d) : (dats m 0 c).before 1 t d = iblk m c 1 t :=
  before0_1_of m (dats m 0 c) (dats_A m c 1) (after_1 m c) t d

theorem live : ∀ t : Fin cfg0.N, cfg0.idle 2 (grid0.coords t) = false := by decide +kernel

theorem leaves_0 (t : Fin cfg0.N) : (dats m 0 c).leavesExact 0 t = owns (c : Thread nD τ) (acts t) fullShare (iblk m c 0 t) := by
  unfold Dat.leavesExact; rw [show cfg0.idle 0 (grid0.coords t) = false from rfl, after_0]
theorem leaves_1 (t : Fin cfg0.N) : (dats m 0 c).leavesExact 1 t = owns (c : Thread nD τ) (wts t) fullShare (iblk m c 1 t) := by
  unfold Dat.leavesExact; rw [show cfg0.idle 1 (grid0.coords t) = false from rfl, after_1]
theorem leaves_2 (t : Fin cfg0.N) : (dats m 0 c).leavesExact 2 t = owns (c : Thread nD τ) (outp t) fullShare (left m c t) := by
  unfold Dat.leavesExact; rw [live t, after_2]

theorem rest_eq : (Pipeline.ΦA spec0 c : sProp 𝕄)
    = iprop(iprop(iprop(∃ d, owns (c : Thread nD τ) slabs fullShare d) ∗ iprop(∃ d, owns (c : Thread nD τ) chunkBuf fullShare d))
      ∗ (∃ r, prngReg c r)) := by
  unfold Pipeline.ΦA; rw [scopedRest0_eq]; simp only [slabs, chunkBuf, owns_whole]; try rfl

def bodyPre (t : Fin cfg0.N) : sProp 𝕄 :=
  iprop((dats m 0 c).Φ t.castSucc ∗ (dats m 0 c).owesAt () t.castSucc
    ∗ (∃ d, owns (c : Thread nD τ) (acts t) fullShare ((dats m 0 c).before 0 t d))
    ∗ (∃ d, owns (c : Thread nD τ) (wts t) fullShare ((dats m 0 c).before 1 t d))
    ∗ (∃ d, owns (c : Thread nD τ) (outp t) fullShare ((dats m 0 c).before 2 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem body (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, leaves_0, leaves_1, leaves_2]
  rw [show (dats m 0 c).owesAt () t.succ = (dats m 0 c).owesAt () t.castSucc from rfl,
    show (dats m 0 c).Φ t.castSucc = carried m c t.val from rfl, show (dats m 0 c).Φ t.succ = carried m c (t.val + 1) from rfl]
  unfold carried
  iintro ⟨⟨⟨%s0, %s1, %H, HS, HT⟩, Hg⟩, Ho, ⟨%d0, H0⟩, ⟨%d1, H1⟩, ⟨%d2, H2⟩⟩
  obtain ⟨L, hL⟩ := step m c t s0 s1 H
  iapply (hL.run Set.univ _)
  isplitl [H0]; · iexact H0
  isplitl [H1]; · iexact H1
  isplitl [H2]; · iexists _; iexact H2
  isplitl [HS]; · iexact HS
  isplitl [HT]; · iexact HT
  iintro ⟨H0, H1, ⟨%f2, H2⟩, HS, HT⟩
  isplitl [HS HT Hg]
  · isplitl [HS HT]
    · iexists _, _
      isplitr
      · ipureintro; exact hL.held
      isplitl [HS]
      · unfold owns; iexists _; isplitr
        swap; · iexact HS
        ipureintro; rfl
      unfold owns; iexists _; isplitr
      swap; · iexact HT
      ipureintro; rfl
    iexact Hg
  isplitl [Ho]; · iexact Ho
  isplitl [H0]; · iexact H0
  isplitl [H1]; · iexact H1
  unfold owns; iexists _; isplitr
  swap; · iexact H2
  ipureintro; exact hL.block f2

theorem row (t : Fin cfg0.N) : defs₀ (F := Ideal) .tc cfg0.body (cfg0.bodyArgs t (cfg0.slots t)) = bodyAt0 t := by
  unfold defs₀; rw [Defs.onTc_tc]

theorem obligation : BodyObligation (dats m 0 c) (defs₀ (F := Ideal)) Variants.none () Set.univ := fun t => by
  rw [bigSep_W0, bigSep_W0, row]
  exact triple_restated (body m c t) rfl .rfl fun _ => .rfl

theorem held_start (n : ℕ) (h : n % 8 = 0) (s0 : Slabs) (s1 : Chunks) : Held m c n s0 s1 :=
  ⟨fun h' => by omega, fun h' => by omega, fun h' => by omega⟩

/-- Nothing is asked of the scratch before the first point. -/
theorem enter : Pipeline.ΦA spec0 c ⊢ (dats m 0 c).Φ 0 := by
  rw [show (dats m 0 c).Φ 0 = carried m c 0 from rfl, rest_eq]
  unfold carried
  iintro ⟨⟨⟨%s0, HS⟩, ⟨%s1, HT⟩⟩, Hg⟩
  isplitl [HS HT]
  · iexists s0, s1
    isplitr
    · ipureintro; exact held_start m c 0 rfl s0 s1
    isplitl [HS]; · iexact HS
    iexact HT
  iexact Hg

/-- After the last point the scratch is given back. -/
theorem leave : (dats m 0 c).Φ (Fin.last cfg0.N) ⊢ Pipeline.ΦA spec0 c := by
  rw [show (dats m 0 c).Φ (Fin.last cfg0.N) = carried m c cfg0.N from rfl, rest_eq]
  unfold carried
  iintro ⟨⟨%s0, %s1, -, HS, HT⟩, Hg⟩
  isplitl [HS HT]
  · isplitl [HS]
    · iexists s0; iexact HS
    iexists s1; iexact HT
  iexact Hg

/-- What is known when the launch is over. -/
def Done : PUnit × MemSt nD τ sig (Elt Ideal) → Prop := Pipeline.FramePost cfgs (dats m) 0 (V m)

set_option backward.isDefEq.respectTransparency.types false in
theorem launch : θ_run defs (onTc (τ := τ) (main (F := Ideal))) (s₀ m ρ) (fun r => Done m r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enter m) (hout := leave m)

theorem kept : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (dats_A m) ((θ_run defs _ _).mono (fun _ h => h.1) (launch m ρ))

/-- The frame: the arguments are unchanged and the counters are zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (launch m ρ))

end Cert.Proof.Phase

end
-- ==== Proof.PhaseRef.lean ====
/- The reference of the odd layer's projection, read at an entry. -/
module

public import proofs.«01_k».proof.Proof.ProjRef
public import proofs.«01_k».proof.Proof.Gen.Reference5Ideal.Run

@[expose] public section

set_option maxRecDepth 16384

noncomputable section

namespace Cert.Proof.Phase

open Idealize.ShloMosaic Idealize.ShloMosaic.TcCoe Cert.Reference5Ideal Cert.Reference5Ideal.Facts₀
open Cert.Proof.Proj (Acts Gain rmsNorm rmsNorm_at gain)

/-- The weights. -/
abbrev Wts := FVec Ideal S1x1024x8192 .f32

/-- The product of the norm and the weights. -/
def product (x : Acts) (g : Gain) (w : Wts) : FVec Ideal S8x2048x8192 .f32 :=
  Host.dotGeneral dot_S8x2048x1024_S1024x8192_S8x2048x8192_2_0_01_1_n_n none (rmsNorm x g)
    (shapeCast _ w shapeCasts_S1x1024x8192_S1024x8192)

/-- The attention's columns, each sequence's rows by phase. -/
def byPhase (p : FVec Ideal S8x2048x8192 .f32) : FVec Ideal S16384x6144 .f32 :=
  shapeCast _ (transpose S8x8x256x6144 [0, 2, 1, 3] (shapeCast _ (extractStridedSlice S8x2048x6144 ![0, 0, 0] p
    slices_S8x2048x8192_S8x2048x6144_0_0_0) shapeCasts_S8x2048x6144_S8x256x8x6144) transposes_S8x256x8x6144_S8x8x256x6144_0_2_1_3)
    shapeCasts_S8x8x256x6144_S16384x6144

/-- The gates' columns, by token. -/
def byToken (p : FVec Ideal S8x2048x8192 .f32) : FVec Ideal S16384x2048 .f32 :=
  shapeCast _ (extractStridedSlice S8x2048x2048 ![0, 0, 6144] p slices_S8x2048x8192_S8x2048x2048_0_0_6144)
    shapeCasts_S8x2048x2048_S16384x2048

def together (p : FVec Ideal S8x2048x8192 .f32) : FVec Ideal S16384x8192 .bf16 :=
  truncf .bf16 (concatenate S16384x8192 1 [⟨S16384x6144, byPhase p⟩, ⟨S16384x2048, byToken p⟩]
    concatenates_S16384x6144_S16384x2048_S16384x8192_d1) bitsLt_bf16_f32

/-- The reference's result. -/
def out (x : Acts) (g : Gain) (w : Wts) : FVec Ideal S16384x8192 .bf16 := together (product x g w)

theorem product_at (x : Acts) (g : Gain) (w : Wts) (b : Fin 8) (r : Fin 2048) (n : Fin 8192) :
    product x g w (ix3 b r n) = ∑ d, rmsNorm x g (ix3 b r d) * w (ix3 0 d n) := by
  pointwise [product]

/-- The token whose columns a row of a sequence holds, row `R` of all and column `C`. -/
def token (R C : ℕ) : ℕ := if C < 6144 then R % 256 * 8 + R / 256 % 8 else R % 2048

theorem token_lt (R C : ℕ) : token R C < 2048 := by
  unfold token; split_ifs <;> omega

theorem byPhase_at (p : FVec Ideal S8x2048x8192 .f32) (R : Fin 16384) (C : Fin 6144) : byPhase p (ix2 R C) =
    p (ix3 ⟨R.val / 2048, by omega⟩ ⟨R.val % 256 * 8 + R.val / 256 % 8, by omega⟩ ⟨C.val, by omega⟩) := by
  pointwise [byPhase]

theorem byToken_at (p : FVec Ideal S8x2048x8192 .f32) (R : Fin 16384) (C : Fin 2048) : byToken p (ix2 R C) =
    p (ix3 ⟨R.val / 2048, by omega⟩ ⟨R.val % 2048, by omega⟩ ⟨6144 + C.val, by omega⟩) := by
  pointwise [byToken]

theorem together_at (p : FVec Ideal S8x2048x8192 .f32) (R : Fin 16384) (C : Fin 8192) : together p (ix2 R C) =
    p (ix3 ⟨R.val / 2048, by omega⟩ ⟨token R.val C.val, token_lt _ _⟩ C) := by
  pointwise [together]
  by_cases h : C.val < 6144
  · rw [dif_pos h, byPhase_at]
    refine congrArg p (congrArg₂ (fun t n => ix3 _ t n) (Fin.ext ?_) (Fin.ext rfl))
    show _ = token R.val C.val
    rw [token, if_pos h]
  · rw [dif_neg h, byToken_at]
    refine congrArg p (congrArg₂ (fun t n => ix3 _ t n) (Fin.ext ?_) (Fin.ext ?_))
    · show _ = token R.val C.val
      rw [token, if_neg h]
    · show 6144 + (C.val - 6144) = C.val
      omega

/-- The reference at an entry. -/
theorem out_at (x : Acts) (g : Gain) (w : Wts) (R : Fin 16384) (C : Fin 8192) : out x g w (ix2 R C) =
    ∑ d, x (ix3 ⟨R.val / 2048, by omega⟩ ⟨token R.val C.val, token_lt _ _⟩ d)
      * gain (fun e => x (ix3 ⟨R.val / 2048, by omega⟩ ⟨token R.val C.val, token_lt _ _⟩ e)) * (w (ix3 0 d C) * g (ix2 0 d)) := by
  unfold out
  rw [together_at, product_at]
  refine Finset.sum_congr rfl fun d _ => ?_
  rw [rmsNorm_at, mul_assoc, mul_comm (g _)]

end Cert.Proof.Phase

end
-- ==== Proof.PhaseArray.lean ====
/- The result array of the odd layer's projection is the reference's function of the arguments. -/
module

public import proofs.«01_k».proof.Proof.PhaseLaunch
public import proofs.«01_k».proof.Proof.PhaseRef

@[expose] public section

set_option maxRecDepth 16384

noncomputable section

namespace Cert.Proof.Phase

open Idealize.ShloMosaic Idealize.ShloMosaic.TcCoe Cert.Kernel5Ideal Cert.Kernel5Ideal.Facts₀
open Cert.Kernel5Ideal.Gen (V iblk flush0_2)
open Cert.Proof.Proj (Acts Gain gain)

/-! ## The operands -/

/-- The activations by rows. -/
def byRows (x : Acts) : Vec Ideal S16384x1024 .f32 := shapeCast S16384x1024 x shapeCasts_S8x2048x1024_S16384x1024

/-- The weights with the norm's gain. -/
def scaledWts (g : Gain) (w : Wts) : Vec Ideal S1024x8192 .bf16 :=
  truncf .bf16 (mulf (shapeCast S1024x8192 w shapeCasts_S1x1024x8192_S1024x8192)
    (broadcastInDim S1024x8192 ![0, 1] bcast_S1024x1_S1024x8192_0_1
      (broadcastInDim S1024x1 ![0] bcast_S1024_S1024x1_0 (shapeCast S1024 g shapeCasts_S1x1024_S1024)))) bitsLt_bf16_f32

theorem byRows_at (x : Acts) (R : Fin 16384) (d : Fin 1024) :
    byRows x (ix2 R d) = x (ix3 ⟨R.val / 2048, by omega⟩ ⟨R.val % 2048, by omega⟩ d) := by
  pointwise [byRows]

theorem scaledWts_at (g : Gain) (w : Wts) (d : Fin 1024) (n : Fin 8192) :
    scaledWts g w (ix2 d n) = w (ix3 0 d n) * g (ix2 0 d) := by
  pointwise [scaledWts]

variable (m : (ℓ : Loc nD τ sig) → Buf (Elt Ideal) ℓ) (c : Dev nD)

abbrev ax : Acts := m ((c.tc : Thread nD τ).loc main_arg0)
abbrev ag : Gain := m ((c.tc : Thread nD τ).loc main_arg1)
abbrev aw : Wts := m ((c.tc : Thread nD τ).loc main_arg2)

theorem V_rows : V m c main_v6 = byRows (ax m c) := rfl
theorem V_wts : V m c main_v5 = scaledWts (ag m c) (aw m c) := rfl

/-! ## The blocks -/

/-- A block's row among all rows. -/
def down (t : Fin cfg0.N) (r : Fin 2048) : Fin 16384 := ⟨t.val / 8 * 2048 + r.val, by have := lt64 t; omega⟩

/-- Its column among all columns: the gates' come first. -/
def across (t : Fin cfg0.N) (k : Fin 1024) : Fin 8192 := ⟨(t.val % 8 + 6) % 8 * 1024 + k.val, by omega⟩

theorem index1 : ∀ t : Fin cfg0.N, win0_1.index t 0 = 0 ∧ win0_1.index t 1 = (t.val % 8 + 6) % 8 :=
  (by decide +kernel : ∀ t : Fin grid0.N, win0_1.index t 0 = 0 ∧ win0_1.index t 1 = (t.val % 8 + 6) % 8)

theorem index2 : ∀ t : Fin cfg0.N, win0_2.index t 0 = t.val / 8 ∧ win0_2.index t 1 = (t.val % 8 + 6) % 8 :=
  (by decide +kernel : ∀ t : Fin grid0.N, win0_2.index t 0 = t.val / 8 ∧ win0_2.index t 1 = (t.val % 8 + 6) % 8)

theorem iblk1 (t : Fin cfg0.N) (d : Fin 1024) (k : Fin 1024) : (iblk m c 1 t : Tile) (ix2 d k) =
    V m c main_v5 (ix2 d (across t k)) := by
  refine congrArg (V m c main_v5) (funext fun a => Fin.ext ?_)
  match a with
  | ⟨0, _⟩ =>
    show win0_1.index t 0 * 1024 + 1 * d.val = d.val
    rw [(index1 t).1]; omega
  | ⟨1, _⟩ =>
    show win0_1.index t 1 * 1024 + 1 * k.val = (t.val % 8 + 6) % 8 * 1024 + k.val
    rw [(index1 t).2]; omega

/-- A sequence's row is its token's activations. -/
theorem rowsOf_at (t : Fin cfg0.N) (r k : Fin 2048) (C : ℕ) (h : k.val = token (down t r).val C) (d : Fin 1024) :
    rowsOf m c t.val (ix2 k d) =
      ax m c (ix3 ⟨(down t r).val / 2048, by omega⟩ ⟨token (down t r).val C, token_lt _ _⟩ d) := by
  have ht := lt64 t
  refine (congrFun (V_rows m c) _).trans ((byRows_at _ _ _).trans ?_)
  refine congrArg (ax m c) (congrArg₂ (fun b u => ix3 b u d) (Fin.ext ?_) (Fin.ext ?_))
  · show (t.val / 8 % 8 * 2048 + k.val) / 2048 = (t.val / 8 * 2048 + r.val) / 2048
    omega
  · show (t.val / 8 % 8 * 2048 + k.val) % 2048 = token (down t r).val C
    omega

theorem nrm_at (t : Fin cfg0.N) (r k : Fin 2048) (C : ℕ) (h : k.val = token (down t r).val C) (d : Fin 1024) :
    plain m c t.val k d = ax m c (ix3 ⟨(down t r).val / 2048, by omega⟩ ⟨token (down t r).val C, token_lt _ _⟩ d)
      * gain (fun e => ax m c (ix3 ⟨(down t r).val / 2048, by omega⟩ ⟨token (down t r).val C, token_lt _ _⟩ e)) := by
  unfold plain nrm
  simp only [rowsOf_at m c t r k C h]

theorem turned_at (n : ℕ) (r : Fin 2048) (d : Fin 1024) :
    turned m c n r d = plain m c n ⟨r.val % 256 * 8 + r.val / 256, by omega⟩ d :=
  congrArg (plain m c n _) (Fin.ext (by show d.val / 128 * 128 + d.val % 128 = d.val; omega))

/-- What a point leaves in its block. -/
theorem block_val (t : Fin cfg0.N) (r : Fin 2048) (k : Fin 1024) : left m c t (ix2 r k) =
    out (ax m c) (ag m c) (aw m c) (ix2 (down t r) (across t k)) := by
  have ht := lt64 t
  rw [out_at]
  show (∑ d : Fin 1024, (if t.val % 8 < 2 then plain m c t.val else turned m c t.val) r d * (iblk m c 1 t : Tile) (ix2 d k)) = _
  refine Finset.sum_congr rfl fun d _ => congrArg₂ (fun a b : EReal => a * b) ?_
    ((iblk1 m c t d k).trans ((congrFun (V_wts m c) _).trans (scaledWts_at _ _ _ _)))
  by_cases h : t.val % 8 < 2
  · rw [if_pos h]
    refine nrm_at m c t r r _ ?_ d
    have hC : ¬(across t k).val < 6144 := by show ¬(t.val % 8 + 6) % 8 * 1024 + k.val < 6144; omega
    rw [token, if_neg hC]
    show r.val = (t.val / 8 * 2048 + r.val) % 2048
    omega
  · rw [if_neg h]
    refine (turned_at m c t.val r d).trans (nrm_at m c t r _ _ ?_ d)
    have hC : (across t k).val < 6144 := by show (t.val % 8 + 6) % 8 * 1024 + k.val < 6144; omega
    rw [token, if_pos hC]
    show r.val % 256 * 8 + r.val / 256 = (t.val / 8 * 2048 + r.val) % 256 * 8 + (t.val / 8 * 2048 + r.val) / 256 % 8
    omega

/-! ## The array -/

/-- The result array. -/
abbrev res : Buf (Elt Ideal) ((c.tc : Thread nD τ).loc main_v7) := out (ax m c) (ag m c) (aw m c)

theorem cut_eq (t : Fin cfg0.N) (f : Vec Ideal S2048x1024 .bf16) : (cfg0.win 2).cut (grid0.coords t) f = f := rfl

theorem read_eq (R : Vec Ideal S16384x8192 .bf16) (t : Fin cfg0.N) (r : Fin 2048) (k : Fin 1024) :
    (win0_2.blk t).view.read (Elt Ideal) R (ix2 r k) = R (ix2 (down t r) (across t k)) := by
  refine congrArg R (funext fun a => Fin.ext ?_)
  match a with
  | ⟨0, _⟩ =>
    show win0_2.index t 0 * 2048 + 1 * r.val = t.val / 8 * 2048 + r.val
    rw [(index2 t).1]; omega
  | ⟨1, _⟩ =>
    show win0_2.index t 1 * 1024 + 1 * k.val = (t.val % 8 + 6) % 8 * 1024 + k.val
    rw [(index2 t).2]; omega

theorem flushed_eq (t : Fin cfg0.N) : (dats m 0 c).flushed 2 t = (win0_2.blk t).view.read (Elt Ideal) (res m c) := by
  show (cfg0.win 2).cut (grid0.coords t) ((dats m 0 c).after 2 t) = _
  rw [after_2, cut_eq]
  funext y
  obtain ⟨r, k, rfl⟩ := two_eta (a := 2048) (b := 1024) y
  exact (block_val m c t r k).trans (read_eq (res m c) t r k).symm

theorem mem_block (t : Fin cfg0.N) (i : S16384x8192.Idx) (h0 : t.val / 8 = (i 0).val / 2048)
    (h1 : (t.val % 8 + 6) % 8 = (i 1).val / 1024) : i ∈ ((cfg0.win 2).blk t).view.set := by
  show i ∈ ((View.whole main_v7).slice (win0_2.rect t)).set
  rw [View.set_slice_whole, Rect.mem_set_unit]
  intro a
  match a with
  | ⟨0, _⟩ =>
    show win0_2.index t 0 * 2048 ≤ (i 0).val ∧ (i 0).val < win0_2.index t 0 * 2048 + 2048
    rw [(index2 t).1]
    omega
  | ⟨1, _⟩ =>
    show win0_2.index t 1 * 1024 ≤ (i 1).val ∧ (i 1).val < win0_2.index t 1 * 1024 + 1024
    rw [(index2 t).2]
    omega

theorem cover (i : S16384x8192.Idx) : ∃ t : Fin cfg0.N, (cfg0.win 2).flush t = true ∧ i ∈ ((cfg0.win 2).blk t).view.set := by
  have h0 : (i 0).val < 16384 := (i 0).isLt
  have h1 : (i 1).val < 8192 := (i 1).isLt
  have ht : (i 0).val / 2048 * 8 + ((i 1).val / 1024 + 2) % 8 < cfg0.N := by
    show (i 0).val / 2048 * 8 + ((i 1).val / 1024 + 2) % 8 < 64
    omega
  exact ⟨⟨_, ht⟩, flush0_2 _, mem_block _ i (by dsimp only; omega) (by dsimp only; omega)⟩

theorem final : (dats m 0 c).arrAt 2 cfg0.N = res m c :=
  (dats m 0 c).arrAt_eq_of_cover 2 (res m c) (fun t _ => flushed_eq m c t) cover

end Cert.Proof.Phase

end
-- ==== Proof.PhaseBits.lean ====
/- The frame of the odd layer's projection at the word types: its body runs at every point of the grid and leaves its
   inputs as they were. Nothing is said of what it leaves in its output or in its scratch. -/
module

public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.PhaseBits

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branches that a point takes: a sequence's first point, its third, or another. -/
theorem conds (t : Fin cfg0.N) :
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) := by
  revert t
  exact (by decide +kernel : ∀ t : Fin grid0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1))

/-! ## The body on any whole buffers -/

section Body

variable (c : Dev nD) (i : grid0.Coords) (arg2 : Memref sig .tc .vmem S2048x1024 .f32) (harg2 : arg2.IsWhole)
  (arg3 : Memref sig .tc .vmem S1024x1024 .bf16) (harg3 : arg3.IsWhole)
  (arg4 : Memref sig .tc .vmem S2048x1024 .bf16) (harg4 : arg4.IsWhole)
  (arg5 : Memref sig .tc .vmem S2x2048x1024 .bf16) (harg5 : arg5.IsWhole)
  (arg6 : Memref sig .tc .vmem S8x2048x128 .f32) (harg6 : arg6.IsWhole)
  (x0 : Vec F S2048x1024 .f32) (x1 : Vec F S1024x1024 .bf16)

/-- The buffers the body takes and gives back. -/
def held : sProp 𝕄 :=
  iprop(owns (c : Thread nD τ) arg2 fullShare x0 ∗ owns (c : Thread nD τ) arg3 fullShare x1
    ∗ (∃ d, owns (c : Thread nD τ) arg4 fullShare d) ∗ (∃ d, owns (c : Thread nD τ) arg5 fullShare d)
    ∗ (∃ d, owns (c : Thread nD τ) arg6 fullShare d))

def Runs : Prop :=
  ∀ (E : Set ℕ) (K : PUnit → sProp 𝕄),
    iprop(held c arg2 arg3 arg4 arg5 arg6 x0 x1 ∗ (held c arg2 arg3 arg4 arg5 arg6 x0 x1 -∗ K ⟨⟩))
      ⊢ wp frame (wpE (defs₀ (F := F)) Variants.none c none) E
          (cc0_norm_proj i arg2 harg2 arg3 harg3 arg4 harg4 arg5 harg5 arg6 harg6) K

set_option maxHeartbeats 4000000 in
theorem runs_first (h1 : k0_cond1 i = 1#1) (h2 : ¬k0_cond2 i = 1#1) (h3 : ¬k0_cond3 i = 1#1) :
    Runs c i arg2 harg2 arg3 harg3 arg4 harg4 arg5 harg5 arg6 harg6 x0 x1 := by
  intro E K
  simp only [cc0_norm_proj_eq_skeleton]; unfold cc0_norm_proj_skel
  simp only [k0_part1_eq_skeleton, k0_part2_eq_skeleton, k0_part3_eq_skeleton, k0_part4_eq_skeleton, k0_part5_eq_skeleton, k0_part6_eq_skeleton]
  unfold held owns
  iintro ⟨⟨⟨%f0, %e0, H0⟩, ⟨%f1, %e1, H1⟩, ⟨%d2, %f2, -, H2⟩, ⟨%d3, %f3, -, H3⟩, ⟨%d4, %f4, -, H4⟩⟩, Hk⟩
  sl_exec (disch := first | sl_exact h1 | sl_exact h2 | sl_exact h3)
  sl_step
  iapply Hk
  isplitl [H0]
  · iexists _; isplitr; · ipureintro; exact e0
    iexact H0
  isplitl [H1]
  · iexists _; isplitr; · ipureintro; exact e1
    iexact H1
  isplitl [H2]
  · iexists _, _; isplitr; swap; · iexact H2
    ipureintro; rfl
  isplitl [H3]
  · iexists _, _; isplitr; swap; · iexact H3
    ipureintro; rfl
  iexists _, _; isplitr; swap; · iexact H4
  ipureintro; rfl

set_option maxHeartbeats 4000000 in
theorem runs_turn (h1 : ¬k0_cond1 i = 1#1) (h2 : k0_cond2 i = 1#1) (h3 : ¬k0_cond3 i = 1#1) :
    Runs c i arg2 harg2 arg3 harg3 arg4 harg4 arg5 harg5 arg6 harg6 x0 x1 := by
  intro E K
  simp only [cc0_norm_proj_eq_skeleton]; unfold cc0_norm_proj_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold held owns
  iintro ⟨⟨⟨%f0, %e0, H0⟩, ⟨%f1, %e1, H1⟩, ⟨%d2, %f2, -, H2⟩, ⟨%d3, %f3, -, H3⟩, ⟨%d4, %f4, -, H4⟩⟩, Hk⟩
  sl_exec (disch := first | sl_exact h1 | sl_exact h2 | sl_exact h3)
  sl_step
  iapply Hk
  isplitl [H0]
  · iexists _; isplitr; · ipureintro; exact e0
    iexact H0
  isplitl [H1]
  · iexists _; isplitr; · ipureintro; exact e1
    iexact H1
  isplitl [H2]
  · iexists _, _; isplitr; swap; · iexact H2
    ipureintro; rfl
  isplitl [H3]
  · iexists _, _; isplitr; swap; · iexact H3
    ipureintro; rfl
  iexists _, _; isplitr; swap; · iexact H4
  ipureintro; rfl

set_option maxHeartbeats 4000000 in
theorem runs_later (h1 : ¬k0_cond1 i = 1#1) (h2 : ¬k0_cond2 i = 1#1) (h3 : k0_cond3 i = 1#1) :
    Runs c i arg2 harg2 arg3 harg3 arg4 harg4 arg5 harg5 arg6 harg6 x0 x1 := by
  intro E K
  simp only [cc0_norm_proj_eq_skeleton]; unfold cc0_norm_proj_skel
  simp only [k0_part22_eq_skeleton]
  unfold held owns
  iintro ⟨⟨⟨%f0, %e0, H0⟩, ⟨%f1, %e1, H1⟩, ⟨%d2, %f2, -, H2⟩, ⟨%d3, %f3, -, H3⟩, ⟨%d4, %f4, -, H4⟩⟩, Hk⟩
  sl_exec (disch := first | sl_exact h1 | sl_exact h2 | sl_exact h3)
  sl_step
  iapply Hk
  isplitl [H0]
  · iexists _; isplitr; · ipureintro; exact e0
    iexact H0
  isplitl [H1]
  · iexists _; isplitr; · ipureintro; exact e1
    iexact H1
  isplitl [H2]
  · iexists _, _; isplitr; swap; · iexact H2
    ipureintro; rfl
  isplitl [H3]
  · iexists _, _; isplitr; swap; · iexact H3
    ipureintro; rfl
  iexists _, _; isplitr; swap; · iexact H4
  ipureintro; rfl

end Body

/-! ## The launch -/

/-- The output's window. -/
def unsaid : Fin 3 → Bool := fun w => w.val == 2

/-- The arrays as the region finds them, and each input's block in its buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]

theorem rest_eq (c : Dev nD) : (Pipeline.ΦA spec0 c : sProp 𝕄)
    = iprop(iprop(iprop(∃ d, owns (c : Thread nD τ) (Memref.whole cc0_scratch0 : Memref sig .tc .vmem S2x2048x1024 .bf16) fullShare d)
      ∗ iprop(∃ d, owns (c : Thread nD τ) (Memref.whole cc0_scratch1 : Memref sig .tc .vmem S8x2048x128 .f32) fullShare d))
      ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (∃ d, owns (c : Thread nD τ) (st0_2 t) fullShare d))

theorem body (c : Dev nD) (t : Fin cfg0.N) :
    bodyPre m c t ⊢ wp frame (wpE (defs₀ (F := F)) Variants.none c none) Set.univ (bodyAt0 t) (fun _ => bodyPost m c t) := by
  have run : Runs c (grid0.coords t) (st0_0 t) (hstage0_0 ((cfg0.slots t 0).cast nbuf0_0)) (st0_1 t)
      (hstage0_1 ((cfg0.slots t 1).cast nbuf0_1)) (st0_2 t) (hstage0_2 ((cfg0.slots t 2).cast nbuf0_2))
      (Memref.whole cc0_scratch0) (Memref.isWhole_whole _) (Memref.whole cc0_scratch1) (Memref.isWhole_whole _)
      (iblk m c 0 t) (iblk m c 1 t) := by
    rcases conds t with h | h | h
    · exact runs_first _ _ _ _ _ _ _ _ _ _ _ _ _ _ h.1 h.2.1 h.2.2
    · exact runs_turn _ _ _ _ _ _ _ _ _ _ _ _ _ _ h.1 h.2.1 h.2.2
    · exact runs_later _ _ _ _ _ _ _ _ _ _ _ _ _ _ h.1 h.2.1 h.2.2
  unfold bodyPre bodyPost bodyAt0
  simp only [before0_0_of m (dats m 0 c) (dats_A m c 0) (after_0 m c), before0_1_of m (dats m 0 c) (dats_A m c 1) (after_1 m c),
    leaves_0, leaves_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq]
  iintro ⟨⟨⟨HS, HT⟩, Hg⟩, Ho, ⟨%d0, H0⟩, ⟨%d1, H1⟩, H2⟩
  iapply (run Set.univ _)
  unfold held
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS HT Hg]
  · isplitl [HS HT]
    · isplitl [HS]; · iexact HS
      iexact HT
    iexact Hg
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unsaid := fun t => by
  rw [bigSep_W0, bigSep_W0, row]
  exact triple_restated (body m c t) rfl .rfl fun _ => .rfl

set_option backward.isDefEq.respectTransparency.types false in
theorem launch : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: the arguments are unchanged and the counters are zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (launch m ρ)

end Cert.Proof.PhaseBits

end
-- ==== Proof.PhaseClaims.lean ====
/- The claims of the odd layer's projection: the frames of its four programs and the algebraic claim. -/
module

public import proofs.«01_k».proof.Defs
public import proofs.«01_k».proof.Proof.PhaseArray
public import proofs.«01_k».proof.Proof.PhaseBits
public import proofs.«01_k».proof.Proof.Gen.Reference5
public import Idealize.ShloMosaic.Adequacy
public import Idealize.ShloMosaic.Init

@[expose] public section

set_option maxRecDepth 16384

noncomputable section

namespace Cert.Proof.Phase

open Idealize.ShloMosaic Idealize.ShloMosaic.TcCoe Idealize.SL.Sem

theorem frame_kernel : Cert.quiescent_Kernel5 := fun m ρ _ => PhaseBits.quiet m ρ

theorem frame_ideal : Cert.quiescent_Kernel5Ideal := fun m ρ _ => quiet m ρ

theorem frame_ref : Cert.quiescent_Reference5Ideal := by
  intro m ρ _
  exact (θ_run Cert.Reference5Ideal.defs _ _).mono
    (fun r h => ⟨fun c => (h c).2, sem_eq_zero_of_no_sems (by decide) r.2⟩)
    (Cert.Reference5Ideal.Value.run (F := Ideal) m ρ)

set_option maxHeartbeats 4000000 in
theorem frame_ref_bits : Cert.quiescent_Reference5 := by
  intro m ρ _
  exact (θ_run Cert.Reference5.defs _ _).mono
    (fun r h => ⟨fun c => (h c).2, sem_eq_zero_of_no_sems (by decide) r.2⟩)
    (Cert.Reference5Ideal.Value.run (F := Bits) m ρ)

open Cert.Kernel5Ideal in
/-- What the launch leaves in the result array. -/
theorem result (m : (ℓ : Loc nD τ sig) → Buf (Elt Ideal) ℓ) (r : PUnit × MemSt nD τ sig (Elt Ideal)) (h : Done m r) (c : Dev nD) :
    r.2.mem ((c.tc : Thread nD τ).loc main_v7) = res m c :=
  ((h c).1 2).trans (final m c)

theorem algebraic : Cert.algebraic_Kernel5Ideal_Reference5Ideal := by
  intro m ρ m' ρ' hpre hag
  refine ⟨fun c => res m c, ?_, ?_⟩
  · exact (θ_run Cert.Kernel5Ideal.defs _ _).mono (fun r h c => ⟨result m r h.1.1 c, h.2 c⟩)
      (θ_run_and (launch m ρ) (kept m ρ))
  · refine (θ_run Cert.Reference5Ideal.defs _ _).mono (fun r h c => ⟨(h c).1.trans ?_, (h c).2⟩)
      (Cert.Reference5Ideal.Value.run (F := Ideal) m' ρ')
    show out _ _ _ = out _ _ _
    rw [(hag c).1, (hag c).2.1, (hag c).2.2]

end Cert.Proof.Phase

end
-- ==== Proof.lean ====
module

public import proofs.«01_k».proof.Defs
public import proofs.«01_k».proof.Proof.Frames
public import proofs.«01_k».proof.Proof.Algebraic
public import proofs.«01_k».proof.Proof.ProjClaims
public import proofs.«01_k».proof.Proof.OutClaims
public import proofs.«01_k».proof.Proof.PhaseClaims

@[expose] public section

noncomputable section

namespace Cert.Proof

open Idealize.ShloMosaic Idealize.SL.Sem

theorem claim : Cert.Claim :=
  haveI := pre_facts
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Reference2.Gen.facts,
    Cert.Kernel3.Gen.facts, Cert.Kernel3Ideal.Gen.facts, Cert.Reference3Ideal.Gen.facts, Cert.Reference3.Gen.facts,
    Cert.Kernel4.Gen.facts, Cert.Kernel4Ideal.Gen.facts, Cert.Reference4Ideal.Gen.facts, Cert.Reference4.Gen.facts,
    Cert.Kernel5.Gen.facts, Cert.Kernel5Ideal.Gen.facts, Cert.Reference5Ideal.Gen.facts, Cert.Reference5.Gen.facts, pre_facts,
    frame_kernel, frame_ideal, frame_ideal_pre, frame_ref, frame_ref_pre, frame_ref_bits,
    Proj.frame_kernel, Proj.frame_ideal, Proj.frame_ref, Proj.frame_ref_bits,
    OutFinal.frame_kernel, OutFinal.frame_ideal, OutFinal.frame_ref, OutFinal.frame_ref_bits,
    OutEven.frame_kernel, OutEven.frame_ideal, OutEven.frame_ref, OutEven.frame_ref_bits,
    Phase.frame_kernel, Phase.frame_ideal, Phase.frame_ref, Phase.frame_ref_bits,
    preserves, trivial, algebraic, Proj.preserves, trivial, Proj.algebraic,
    OutFinal.preserves, trivial, OutFinal.algebraic, trivial, trivial, OutEven.algebraic,
    trivial, trivial, Phase.algebraic⟩

end Cert.Proof

end
